-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x128 : Shape := ⟨2, ![8192, 128]⟩
abbrev S32 : Shape := ⟨1, ![32]⟩
abbrev S_ : Shape := ⟨0, ![]⟩
abbrev S1 : Shape := ⟨1, ![1]⟩
abbrev S16 : Shape := ⟨1, ![16]⟩
abbrev S15 : Shape := ⟨1, ![15]⟩
abbrev S16x1 : Shape := ⟨2, ![16, 1]⟩
abbrev S15x1 : Shape := ⟨2, ![15, 1]⟩
abbrev S3 : Shape := ⟨1, ![3]⟩
abbrev S34 : Shape := ⟨1, ![34]⟩
abbrev S3x256x8192 : Shape := ⟨3, ![3, 256, 8192]⟩
abbrev S2x256x8192 : Shape := ⟨3, ![2, 256, 8192]⟩
abbrev S2 : Shape := ⟨1, ![2]⟩
abbrev S1x256x8192 : Shape := ⟨3, ![1, 256, 8192]⟩
abbrev S256x128 : Shape := ⟨2, ![256, 128]⟩
abbrev S1x128x8192 : Shape := ⟨3, ![1, 128, 8192]⟩
abbrev S128x8192 : Shape := ⟨2, ![128, 8192]⟩
abbrev S128x128 : Shape := ⟨2, ![128, 128]⟩

abbrev nBuf : Space → Nat
  | .hbm => 149
  | .vmem => 5
  | .smem => 1
  | _ => 0

abbrev hbmTy0_0 (i : Nat) : BufTy := match i % 128 with
  | 0 => ⟨S256x8192, .f32⟩
  | 1 => ⟨S8192x128, .f32⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S16, .i32⟩
  | 70 => ⟨S_, .i32⟩
  | 71 => ⟨S16, .i32⟩
  | 72 => ⟨S16, .i32⟩
  | 73 => ⟨S15, .i32⟩
  | 74 => ⟨S_, .i32⟩
  | 75 => ⟨S15, .i32⟩
  | 76 => ⟨S15, .i32⟩
  | 77 => ⟨S16, .i32⟩
  | 78 => ⟨S16, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S16, .i32⟩
  | 86 => ⟨S16, .i32⟩
  | 87 => ⟨S_, .i32⟩
  | 88 => ⟨S16, .i32⟩
  | 89 => ⟨S16, .i1⟩
  | 90 => ⟨S_, .i32⟩
  | 91 => ⟨S16, .i32⟩
  | 92 => ⟨S16, .i1⟩
  | 93 => ⟨S_, .i32⟩
  | 94 => ⟨S_, .i1⟩
  | 95 => ⟨S16, .i1⟩
  | 96 => ⟨S16, .i1⟩
  | 97 => ⟨S16, .i1⟩
  | 98 => ⟨S16, .i32⟩
  | 99 => ⟨S16, .i32⟩
  | 100 => ⟨S16, .i32⟩
  | 101 => ⟨S_, .i32⟩
  | 102 => ⟨S16, .i32⟩
  | 103 => ⟨S16, .i1⟩
  | 104 => ⟨S_, .i32⟩
  | 105 => ⟨S16, .i32⟩
  | 106 => ⟨S16, .i32⟩
  | 107 => ⟨S16, .i32⟩
  | 108 => ⟨S16x1, .i32⟩
  | 109 => ⟨S16, .i32⟩
  | 110 => ⟨S15, .i32⟩
  | 111 => ⟨S15, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S15, .i32⟩
  | 119 => ⟨S15, .i32⟩
  | 120 => ⟨S_, .i32⟩
  | 121 => ⟨S15, .i32⟩
  | 122 => ⟨S15, .i1⟩
  | 123 => ⟨S_, .i32⟩
  | 124 => ⟨S15, .i32⟩
  | 125 => ⟨S15, .i1⟩
  | 126 => ⟨S_, .i32⟩
  | 127 => ⟨S_, .i1⟩
  | _ => ⟨S256x8192, .f32⟩

abbrev hbmTy0_1 (i : Nat) : BufTy := match i % 128 with
  | 0 => ⟨S15, .i1⟩
  | 1 => ⟨S15, .i1⟩
  | 2 => ⟨S15, .i1⟩
  | 3 => ⟨S15, .i32⟩
  | 4 => ⟨S15, .i32⟩
  | 5 => ⟨S15, .i32⟩
  | 6 => ⟨S_, .i32⟩
  | 7 => ⟨S15, .i32⟩
  | 8 => ⟨S15, .i1⟩
  | 9 => ⟨S_, .i32⟩
  | 10 => ⟨S15, .i32⟩
  | 11 => ⟨S15, .i32⟩
  | 12 => ⟨S15, .i32⟩
  | 13 => ⟨S15x1, .i32⟩
  | 14 => ⟨S15, .i32⟩
  | 15 => ⟨S1, .i32⟩
  | 16 => ⟨S1, .i32⟩
  | 17 => ⟨S1, .i32⟩
  | 18 => ⟨S3, .i32⟩
  | 19 => ⟨S34, .i32⟩
  | 20 => ⟨S8192x128, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S8192x128, .f32⟩
  | .local _ .vmem, ⟨2, _⟩ => ⟨S8192x128, .f32⟩
  | .local _ .vmem, ⟨3, _⟩ => ⟨S3x256x8192, .f32⟩
  | .local _ .vmem, ⟨4, _⟩ => ⟨S2x256x8192, .f32⟩
  | .local _ .smem, ⟨0, _⟩ => ⟨S34, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_13 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_14 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_c_15 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v32 : Ref sig .tc := ⟨.hbm, 100, rfl⟩
abbrev main_c_16 : Ref sig .tc := ⟨.hbm, 101, rfl⟩
abbrev main_v33 : Ref sig .tc := ⟨.hbm, 102, rfl⟩
abbrev main_v34 : Ref sig .tc := ⟨.hbm, 103, rfl⟩
abbrev main_c_17 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_c_18 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_1 : Ref sig .tc := ⟨.hbm, 120, rfl⟩
abbrev main_call3_v5 : Ref sig .tc := ⟨.hbm, 121, rfl⟩
abbrev main_call3_v6 : Ref sig .tc := ⟨.hbm, 122, rfl⟩
abbrev main_call3_c_2 : Ref sig .tc := ⟨.hbm, 123, rfl⟩
abbrev main_call3_v7 : Ref sig .tc := ⟨.hbm, 124, rfl⟩
abbrev main_call3_v8 : Ref sig .tc := ⟨.hbm, 125, rfl⟩
abbrev main_call3_c_3 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_v42 : Ref sig .tc := ⟨.hbm, 133, rfl⟩
abbrev main_c_19 : Ref sig .tc := ⟨.hbm, 134, rfl⟩
abbrev main_v43 : Ref sig .tc := ⟨.hbm, 135, rfl⟩
abbrev main_v44 : Ref sig .tc := ⟨.hbm, 136, rfl⟩
abbrev main_c_20 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v0 : BitVec 32) : Nat :=
  let c0_i32_3 : BitVec 32 := 0#32
  let c1_i32_2 : BitVec 32 := 1#32
  let v6 : BitVec 32 := Scalar.muli v0 c1_i32_2
  let v7 : BitVec 32 := Scalar.addi c0_i32_3 v6
  v7.toNat

def k0_dev3 (v0 : BitVec 32) : Nat :=
  let c0_i32_8 : BitVec 32 := 0#32
  let c1_i32_7 : BitVec 32 := 1#32
  let v8 : BitVec 32 := Scalar.muli v0 c1_i32_7
  let v9 : BitVec 32 := Scalar.addi c0_i32_8 v8
  v9.toNat
def k0_dev4 (v1 : BitVec 32) : Nat :=
  let c0_i32_15 : BitVec 32 := 0#32
  let c1_i32_14 : BitVec 32 := 1#32
  let v16 : BitVec 32 := Scalar.muli v1 c1_i32_14
  let v17 : BitVec 32 := Scalar.addi c0_i32_15 v16
  v17.toNat
def k0_off1 (v2 : BitVec 32) : Fin 2 → Nat :=
  let c256_i32 : BitVec 32 := 256#32
  let v42 : BitVec 32 := Scalar.muli v2 c256_i32
  let v43 : Index := Scalar.indexCast v42
  let c0_26 : Index := 0#32
  ![v43.toNat, 0]

def k0_chk3 (v2 : BitVec 32) : Prop :=
  (∀ a, (k0_off1 v2) a + S256x128.size a ≤ S8192x128.size a)
theorem k0_off1_inb : ∀ (v2 : BitVec 32) (k0_hw3 : k0_chk3 v2), ∀ a, (k0_off1 v2) a + S256x128.size a ≤ S8192x128.size a := fun v2 k0_hw3 => k0_hw3

def k0_dev5 (v0 : BitVec 32) : Nat :=
  let c0_i32_42 : BitVec 32 := 0#32
  let c1_i32_41 : BitVec 32 := 1#32
  let v53 : BitVec 32 := Scalar.muli v0 c1_i32_41
  let v54 : BitVec 32 := Scalar.addi c0_i32_42 v53
  v54.toNat
def k0_dev6 (v1 : BitVec 32) : Nat :=
  let c0_i32_68 : BitVec 32 := 0#32
  let c1_i32_67 : BitVec 32 := 1#32
  let v75 : BitVec 32 := Scalar.muli v1 c1_i32_67
  let v76 : BitVec 32 := Scalar.addi c0_i32_68 v75
  v76.toNat
def k0_off2 (v91 : BitVec 32) : Fin 2 → Nat :=
  let c256_i32_89 : BitVec 32 := 256#32
  let v108 : BitVec 32 := Scalar.muli v91 c256_i32_89
  let v109 : Index := Scalar.indexCast v108
  let c0_90 : Index := 0#32
  ![v109.toNat, 0]

def k0_chk4 (v91 : BitVec 32) : Prop :=
  (∀ a, (k0_off2 v91) a + S256x128.size a ≤ S8192x128.size a)
theorem k0_off2_inb : ∀ (v91 : BitVec 32) (k0_hw4 : k0_chk4 v91), ∀ a, (k0_off2 v91) a + S256x128.size a ≤ S8192x128.size a := fun v91 k0_hw4 => k0_hw4

def k0_off3 (v113 : BitVec 32) : Fin 2 → Nat :=
  let c256_i32_101 : BitVec 32 := 256#32
  let v130 : BitVec 32 := Scalar.muli v113 c256_i32_101
  let v131 : Index := Scalar.indexCast v130
  let c0_102 : Index := 0#32
  ![v131.toNat, 0]

def k0_chk5 (v113 : BitVec 32) : Prop :=
  (∀ a, (k0_off3 v113) a + S256x128.size a ≤ S8192x128.size a)
theorem k0_off3_inb : ∀ (v113 : BitVec 32) (k0_hw5 : k0_chk5 v113), ∀ a, (k0_off3 v113) a + S256x128.size a ≤ S8192x128.size a := fun v113 k0_hw5 => k0_hw5

def k0_dev7 (v0 : BitVec 32) : Nat :=
  let c0_i32_118 : BitVec 32 := 0#32
  let c1_i32_117 : BitVec 32 := 1#32
  let v141 : BitVec 32 := Scalar.muli v0 c1_i32_117
  let v142 : BitVec 32 := Scalar.addi c0_i32_118 v141
  v142.toNat
def k0_dev8 (v0 : BitVec 32) : Nat :=
  let c0_i32_144 : BitVec 32 := 0#32
  let c1_i32_143 : BitVec 32 := 1#32
  let v165 : BitVec 32 := Scalar.muli v0 c1_i32_143
  let v166 : BitVec 32 := Scalar.addi c0_i32_144 v165
  v166.toNat
def k0_dev9 (v1 : BitVec 32) : Nat :=
  let c0_i32_152 : BitVec 32 := 0#32
  let c1_i32_151 : BitVec 32 := 1#32
  let v167 : BitVec 32 := Scalar.muli v1 c1_i32_151
  let v168 : BitVec 32 := Scalar.addi c0_i32_152 v167
  v168.toNat
def k0_dev10 (v1 : BitVec 32) : Nat :=
  let c0_i32_168 : BitVec 32 := 0#32
  let c1_i32_167 : BitVec 32 := 1#32
  let v183 : BitVec 32 := Scalar.muli v1 c1_i32_167
  let v184 : BitVec 32 := Scalar.addi c0_i32_168 v183
  v184.toNat
def k0_off4 (v187 : BitVec 32) : Fin 2 → Nat :=
  let c256_i32_179 : BitVec 32 := 256#32
  let v204 : BitVec 32 := Scalar.muli v187 c256_i32_179
  let v205 : Index := Scalar.indexCast v204
  let c0_180 : Index := 0#32
  ![v205.toNat, 0]

def k0_chk6 (v187 : BitVec 32) : Prop :=
  (∀ a, (k0_off4 v187) a + S256x128.size a ≤ S8192x128.size a)
theorem k0_off4_inb : ∀ (v187 : BitVec 32) (k0_hw6 : k0_chk6 v187), ∀ a, (k0_off4 v187) a + S256x128.size a ≤ S8192x128.size a := fun v187 k0_hw6 => k0_hw6

def k0_off5 (v209 : BitVec 32) : Fin 2 → Nat :=
  let c256_i32_191 : BitVec 32 := 256#32
  let v226 : BitVec 32 := Scalar.muli v209 c256_i32_191
  let v227 : Index := Scalar.indexCast v226
  let c0_192 : Index := 0#32
  ![v227.toNat, 0]

def k0_chk7 (v209 : BitVec 32) : Prop :=
  (∀ a, (k0_off5 v209) a + S256x128.size a ≤ S8192x128.size a)
theorem k0_off5_inb : ∀ (v209 : BitVec 32) (k0_hw7 : k0_chk7 v209), ∀ a, (k0_off5 v209) a + S256x128.size a ≤ S8192x128.size a := fun v209 k0_hw7 => k0_hw7

def k0_dev11 (v0 : BitVec 32) : Nat :=
  let c0_i32_210 : BitVec 32 := 0#32
  let c1_i32_209 : BitVec 32 := 1#32
  let v237 : BitVec 32 := Scalar.muli v0 c1_i32_209
  let v238 : BitVec 32 := Scalar.addi c0_i32_210 v237
  v238.toNat
def k0_dev12 (v0 : BitVec 32) : Nat :=
  let c0_i32_236 : BitVec 32 := 0#32
  let c1_i32_235 : BitVec 32 := 1#32
  let v261 : BitVec 32 := Scalar.muli v0 c1_i32_235
  let v262 : BitVec 32 := Scalar.addi c0_i32_236 v261
  v262.toNat
def k0_dev13 (v1 : BitVec 32) : Nat :=
  let c0_i32_244 : BitVec 32 := 0#32
  let c1_i32_243 : BitVec 32 := 1#32
  let v263 : BitVec 32 := Scalar.muli v1 c1_i32_243
  let v264 : BitVec 32 := Scalar.addi c0_i32_244 v263
  v264.toNat
def k0_dev14 (v1 : BitVec 32) : Nat :=
  let c0_i32_260 : BitVec 32 := 0#32
  let c1_i32_259 : BitVec 32 := 1#32
  let v279 : BitVec 32 := Scalar.muli v1 c1_i32_259
  let v280 : BitVec 32 := Scalar.addi c0_i32_260 v279
  v280.toNat
def k0_off6 (v283 : BitVec 32) : Fin 2 → Nat :=
  let c256_i32_271 : BitVec 32 := 256#32
  let v300 : BitVec 32 := Scalar.muli v283 c256_i32_271
  let v301 : Index := Scalar.indexCast v300
  let c0_272 : Index := 0#32
  ![v301.toNat, 0]

def k0_chk8 (v283 : BitVec 32) : Prop :=
  (∀ a, (k0_off6 v283) a + S256x128.size a ≤ S8192x128.size a)
theorem k0_off6_inb : ∀ (v283 : BitVec 32) (k0_hw8 : k0_chk8 v283), ∀ a, (k0_off6 v283) a + S256x128.size a ≤ S8192x128.size a := fun v283 k0_hw8 => k0_hw8

def k0_off7 (v305 : BitVec 32) : Fin 2 → Nat :=
  let c256_i32_283 : BitVec 32 := 256#32
  let v322 : BitVec 32 := Scalar.muli v305 c256_i32_283
  let v323 : Index := Scalar.indexCast v322
  let c0_284 : Index := 0#32
  ![v323.toNat, 0]

def k0_chk9 (v305 : BitVec 32) : Prop :=
  (∀ a, (k0_off7 v305) a + S256x128.size a ≤ S8192x128.size a)
theorem k0_off7_inb : ∀ (v305 : BitVec 32) (k0_hw9 : k0_chk9 v305), ∀ a, (k0_off7 v305) a + S256x128.size a ≤ S8192x128.size a := fun v305 k0_hw9 => k0_hw9

def k0_dev15 (v0 : BitVec 32) : Nat :=
  let c0_i32_302 : BitVec 32 := 0#32
  let c1_i32_301 : BitVec 32 := 1#32
  let v333 : BitVec 32 := Scalar.muli v0 c1_i32_301
  let v334 : BitVec 32 := Scalar.addi c0_i32_302 v333
  v334.toNat
def k0_dev16 (v0 : BitVec 32) : Nat :=
  let c0_i32_328 : BitVec 32 := 0#32
  let c1_i32_327 : BitVec 32 := 1#32
  let v357 : BitVec 32 := Scalar.muli v0 c1_i32_327
  let v358 : BitVec 32 := Scalar.addi c0_i32_328 v357
  v358.toNat
def k0_dev17 (v1 : BitVec 32) : Nat :=
  let c0_i32_336 : BitVec 32 := 0#32
  let c1_i32_335 : BitVec 32 := 1#32
  let v359 : BitVec 32 := Scalar.muli v1 c1_i32_335
  let v360 : BitVec 32 := Scalar.addi c0_i32_336 v359
  v360.toNat
def k0_dev18 (v1 : BitVec 32) : Nat :=
  let c0_i32_352 : BitVec 32 := 0#32
  let c1_i32_351 : BitVec 32 := 1#32
  let v375 : BitVec 32 := Scalar.muli v1 c1_i32_351
  let v376 : BitVec 32 := Scalar.addi c0_i32_352 v375
  v376.toNat
def k0_off8 (v379 : BitVec 32) : Fin 2 → Nat :=
  let c256_i32_363 : BitVec 32 := 256#32
  let v396 : BitVec 32 := Scalar.muli v379 c256_i32_363
  let v397 : Index := Scalar.indexCast v396
  let c0_364 : Index := 0#32
  ![v397.toNat, 0]

def k0_chk10 (v379 : BitVec 32) : Prop :=
  (∀ a, (k0_off8 v379) a + S256x128.size a ≤ S8192x128.size a)
theorem k0_off8_inb : ∀ (v379 : BitVec 32) (k0_hw10 : k0_chk10 v379), ∀ a, (k0_off8 v379) a + S256x128.size a ≤ S8192x128.size a := fun v379 k0_hw10 => k0_hw10

def k0_off9 (v401 : BitVec 32) : Fin 2 → Nat :=
  let c256_i32_375 : BitVec 32 := 256#32
  let v418 : BitVec 32 := Scalar.muli v401 c256_i32_375
  let v419 : Index := Scalar.indexCast v418
  let c0_376 : Index := 0#32
  ![v419.toNat, 0]

def k0_chk11 (v401 : BitVec 32) : Prop :=
  (∀ a, (k0_off9 v401) a + S256x128.size a ≤ S8192x128.size a)
theorem k0_off9_inb : ∀ (v401 : BitVec 32) (k0_hw11 : k0_chk11 v401), ∀ a, (k0_off9 v401) a + S256x128.size a ≤ S8192x128.size a := fun v401 k0_hw11 => k0_hw11

def k0_dev19 (v0 : BitVec 32) : Nat :=
  let c0_i32_394 : BitVec 32 := 0#32
  let c1_i32_393 : BitVec 32 := 1#32
  let v429 : BitVec 32 := Scalar.muli v0 c1_i32_393
  let v430 : BitVec 32 := Scalar.addi c0_i32_394 v429
  v430.toNat
def k0_dev20 (v0 : BitVec 32) : Nat :=
  let c0_i32_420 : BitVec 32 := 0#32
  let c1_i32_419 : BitVec 32 := 1#32
  let v453 : BitVec 32 := Scalar.muli v0 c1_i32_419
  let v454 : BitVec 32 := Scalar.addi c0_i32_420 v453
  v454.toNat
def k0_dev21 (v1 : BitVec 32) : Nat :=
  let c0_i32_428 : BitVec 32 := 0#32
  let c1_i32_427 : BitVec 32 := 1#32
  let v455 : BitVec 32 := Scalar.muli v1 c1_i32_427
  let v456 : BitVec 32 := Scalar.addi c0_i32_428 v455
  v456.toNat
def k0_dev22 (v1 : BitVec 32) : Nat :=
  let c0_i32_444 : BitVec 32 := 0#32
  let c1_i32_443 : BitVec 32 := 1#32
  let v471 : BitVec 32 := Scalar.muli v1 c1_i32_443
  let v472 : BitVec 32 := Scalar.addi c0_i32_444 v471
  v472.toNat
def k0_off10 (v475 : BitVec 32) : Fin 2 → Nat :=
  let c256_i32_455 : BitVec 32 := 256#32
  let v492 : BitVec 32 := Scalar.muli v475 c256_i32_455
  let v493 : Index := Scalar.indexCast v492
  let c0_456 : Index := 0#32
  ![v493.toNat, 0]

def k0_chk12 (v475 : BitVec 32) : Prop :=
  (∀ a, (k0_off10 v475) a + S256x128.size a ≤ S8192x128.size a)
theorem k0_off10_inb : ∀ (v475 : BitVec 32) (k0_hw12 : k0_chk12 v475), ∀ a, (k0_off10 v475) a + S256x128.size a ≤ S8192x128.size a := fun v475 k0_hw12 => k0_hw12

def k0_off11 (v497 : BitVec 32) : Fin 2 → Nat :=
  let c256_i32_467 : BitVec 32 := 256#32
  let v514 : BitVec 32 := Scalar.muli v497 c256_i32_467
  let v515 : Index := Scalar.indexCast v514
  let c0_468 : Index := 0#32
  ![v515.toNat, 0]

def k0_chk13 (v497 : BitVec 32) : Prop :=
  (∀ a, (k0_off11 v497) a + S256x128.size a ≤ S8192x128.size a)
theorem k0_off11_inb : ∀ (v497 : BitVec 32) (k0_hw13 : k0_chk13 v497), ∀ a, (k0_off11 v497) a + S256x128.size a ≤ S8192x128.size a := fun v497 k0_hw13 => k0_hw13

def k0_dev23 (v0 : BitVec 32) : Nat :=
  let c0_i32_486 : BitVec 32 := 0#32
  let c1_i32_485 : BitVec 32 := 1#32
  let v525 : BitVec 32 := Scalar.muli v0 c1_i32_485
  let v526 : BitVec 32 := Scalar.addi c0_i32_486 v525
  v526.toNat
def k0_dev24 (v0 : BitVec 32) : Nat :=
  let c0_i32_512 : BitVec 32 := 0#32
  let c1_i32_511 : BitVec 32 := 1#32
  let v549 : BitVec 32 := Scalar.muli v0 c1_i32_511
  let v550 : BitVec 32 := Scalar.addi c0_i32_512 v549
  v550.toNat
def k0_dev25 (v1 : BitVec 32) : Nat :=
  let c0_i32_520 : BitVec 32 := 0#32
  let c1_i32_519 : BitVec 32 := 1#32
  let v551 : BitVec 32 := Scalar.muli v1 c1_i32_519
  let v552 : BitVec 32 := Scalar.addi c0_i32_520 v551
  v552.toNat
def k0_dev26 (v1 : BitVec 32) : Nat :=
  let c0_i32_536 : BitVec 32 := 0#32
  let c1_i32_535 : BitVec 32 := 1#32
  let v567 : BitVec 32 := Scalar.muli v1 c1_i32_535
  let v568 : BitVec 32 := Scalar.addi c0_i32_536 v567
  v568.toNat
def k0_off12 (v571 : BitVec 32) : Fin 2 → Nat :=
  let c256_i32_547 : BitVec 32 := 256#32
  let v588 : BitVec 32 := Scalar.muli v571 c256_i32_547
  let v589 : Index := Scalar.indexCast v588
  let c0_548 : Index := 0#32
  ![v589.toNat, 0]

def k0_chk14 (v571 : BitVec 32) : Prop :=
  (∀ a, (k0_off12 v571) a + S256x128.size a ≤ S8192x128.size a)
theorem k0_off12_inb : ∀ (v571 : BitVec 32) (k0_hw14 : k0_chk14 v571), ∀ a, (k0_off12 v571) a + S256x128.size a ≤ S8192x128.size a := fun v571 k0_hw14 => k0_hw14

def k0_off13 (v593 : BitVec 32) : Fin 2 → Nat :=
  let c256_i32_559 : BitVec 32 := 256#32
  let v610 : BitVec 32 := Scalar.muli v593 c256_i32_559
  let v611 : Index := Scalar.indexCast v610
  let c0_560 : Index := 0#32
  ![v611.toNat, 0]

def k0_chk15 (v593 : BitVec 32) : Prop :=
  (∀ a, (k0_off13 v593) a + S256x128.size a ≤ S8192x128.size a)
theorem k0_off13_inb : ∀ (v593 : BitVec 32) (k0_hw15 : k0_chk15 v593), ∀ a, (k0_off13 v593) a + S256x128.size a ≤ S8192x128.size a := fun v593 k0_hw15 => k0_hw15

def k0_dev27 (v0 : BitVec 32) : Nat :=
  let c0_i32_578 : BitVec 32 := 0#32
  let c1_i32_577 : BitVec 32 := 1#32
  let v621 : BitVec 32 := Scalar.muli v0 c1_i32_577
  let v622 : BitVec 32 := Scalar.addi c0_i32_578 v621
  v622.toNat
def k0_dev28 (v0 : BitVec 32) : Nat :=
  let c0_i32_604 : BitVec 32 := 0#32
  let c1_i32_603 : BitVec 32 := 1#32
  let v645 : BitVec 32 := Scalar.muli v0 c1_i32_603
  let v646 : BitVec 32 := Scalar.addi c0_i32_604 v645
  v646.toNat
def k0_dev29 (v1 : BitVec 32) : Nat :=
  let c0_i32_612 : BitVec 32 := 0#32
  let c1_i32_611 : BitVec 32 := 1#32
  let v647 : BitVec 32 := Scalar.muli v1 c1_i32_611
  let v648 : BitVec 32 := Scalar.addi c0_i32_612 v647
  v648.toNat
def k0_dev30 (v1 : BitVec 32) : Nat :=
  let c0_i32_628 : BitVec 32 := 0#32
  let c1_i32_627 : BitVec 32 := 1#32
  let v663 : BitVec 32 := Scalar.muli v1 c1_i32_627
  let v664 : BitVec 32 := Scalar.addi c0_i32_628 v663
  v664.toNat
def k0_off14 (v667 : BitVec 32) : Fin 2 → Nat :=
  let c256_i32_639 : BitVec 32 := 256#32
  let v684 : BitVec 32 := Scalar.muli v667 c256_i32_639
  let v685 : Index := Scalar.indexCast v684
  let c0_640 : Index := 0#32
  ![v685.toNat, 0]

def k0_chk16 (v667 : BitVec 32) : Prop :=
  (∀ a, (k0_off14 v667) a + S256x128.size a ≤ S8192x128.size a)
theorem k0_off14_inb : ∀ (v667 : BitVec 32) (k0_hw16 : k0_chk16 v667), ∀ a, (k0_off14 v667) a + S256x128.size a ≤ S8192x128.size a := fun v667 k0_hw16 => k0_hw16

def k0_off15 (v689 : BitVec 32) : Fin 2 → Nat :=
  let c256_i32_651 : BitVec 32 := 256#32
  let v706 : BitVec 32 := Scalar.muli v689 c256_i32_651
  let v707 : Index := Scalar.indexCast v706
  let c0_652 : Index := 0#32
  ![v707.toNat, 0]

def k0_chk17 (v689 : BitVec 32) : Prop :=
  (∀ a, (k0_off15 v689) a + S256x128.size a ≤ S8192x128.size a)
theorem k0_off15_inb : ∀ (v689 : BitVec 32) (k0_hw17 : k0_chk17 v689), ∀ a, (k0_off15 v689) a + S256x128.size a ≤ S8192x128.size a := fun v689 k0_hw17 => k0_hw17

def k0_dev31 (v0 : BitVec 32) : Nat :=
  let c0_i32_670 : BitVec 32 := 0#32
  let c1_i32_669 : BitVec 32 := 1#32
  let v717 : BitVec 32 := Scalar.muli v0 c1_i32_669
  let v718 : BitVec 32 := Scalar.addi c0_i32_670 v717
  v718.toNat
def k0_dev32 (v0 : BitVec 32) : Nat :=
  let c0_i32_696 : BitVec 32 := 0#32
  let c1_i32_695 : BitVec 32 := 1#32
  let v741 : BitVec 32 := Scalar.muli v0 c1_i32_695
  let v742 : BitVec 32 := Scalar.addi c0_i32_696 v741
  v742.toNat
def k0_dev33 (v1 : BitVec 32) : Nat :=
  let c0_i32_704 : BitVec 32 := 0#32
  let c1_i32_703 : BitVec 32 := 1#32
  let v743 : BitVec 32 := Scalar.muli v1 c1_i32_703
  let v744 : BitVec 32 := Scalar.addi c0_i32_704 v743
  v744.toNat
def k0_dev34 (v1 : BitVec 32) : Nat :=
  let c0_i32_720 : BitVec 32 := 0#32
  let c1_i32_719 : BitVec 32 := 1#32
  let v759 : BitVec 32 := Scalar.muli v1 c1_i32_719
  let v760 : BitVec 32 := Scalar.addi c0_i32_720 v759
  v760.toNat
def k0_off16 (v763 : BitVec 32) : Fin 2 → Nat :=
  let c256_i32_731 : BitVec 32 := 256#32
  let v780 : BitVec 32 := Scalar.muli v763 c256_i32_731
  let v781 : Index := Scalar.indexCast v780
  let c0_732 : Index := 0#32
  ![v781.toNat, 0]

def k0_chk18 (v763 : BitVec 32) : Prop :=
  (∀ a, (k0_off16 v763) a + S256x128.size a ≤ S8192x128.size a)
theorem k0_off16_inb : ∀ (v763 : BitVec 32) (k0_hw18 : k0_chk18 v763), ∀ a, (k0_off16 v763) a + S256x128.size a ≤ S8192x128.size a := fun v763 k0_hw18 => k0_hw18

def k0_off17 (v785 : BitVec 32) : Fin 2 → Nat :=
  let c256_i32_743 : BitVec 32 := 256#32
  let v802 : BitVec 32 := Scalar.muli v785 c256_i32_743
  let v803 : Index := Scalar.indexCast v802
  let c0_744 : Index := 0#32
  ![v803.toNat, 0]

def k0_chk19 (v785 : BitVec 32) : Prop :=
  (∀ a, (k0_off17 v785) a + S256x128.size a ≤ S8192x128.size a)
theorem k0_off17_inb : ∀ (v785 : BitVec 32) (k0_hw19 : k0_chk19 v785), ∀ a, (k0_off17 v785) a + S256x128.size a ≤ S8192x128.size a := fun v785 k0_hw19 => k0_hw19

def k0_dev35 (v0 : BitVec 32) : Nat :=
  let c0_i32_762 : BitVec 32 := 0#32
  let c1_i32_761 : BitVec 32 := 1#32
  let v813 : BitVec 32 := Scalar.muli v0 c1_i32_761
  let v814 : BitVec 32 := Scalar.addi c0_i32_762 v813
  v814.toNat
def k0_dev36 (v0 : BitVec 32) : Nat :=
  let c0_i32_788 : BitVec 32 := 0#32
  let c1_i32_787 : BitVec 32 := 1#32
  let v837 : BitVec 32 := Scalar.muli v0 c1_i32_787
  let v838 : BitVec 32 := Scalar.addi c0_i32_788 v837
  v838.toNat
def k0_dev37 (v1 : BitVec 32) : Nat :=
  let c0_i32_796 : BitVec 32 := 0#32
  let c1_i32_795 : BitVec 32 := 1#32
  let v839 : BitVec 32 := Scalar.muli v1 c1_i32_795
  let v840 : BitVec 32 := Scalar.addi c0_i32_796 v839
  v840.toNat
def k0_dev38 (v1 : BitVec 32) : Nat :=
  let c0_i32_812 : BitVec 32 := 0#32
  let c1_i32_811 : BitVec 32 := 1#32
  let v855 : BitVec 32 := Scalar.muli v1 c1_i32_811
  let v856 : BitVec 32 := Scalar.addi c0_i32_812 v855
  v856.toNat
def k0_off18 (v859 : BitVec 32) : Fin 2 → Nat :=
  let c256_i32_823 : BitVec 32 := 256#32
  let v876 : BitVec 32 := Scalar.muli v859 c256_i32_823
  let v877 : Index := Scalar.indexCast v876
  let c0_824 : Index := 0#32
  ![v877.toNat, 0]

def k0_chk20 (v859 : BitVec 32) : Prop :=
  (∀ a, (k0_off18 v859) a + S256x128.size a ≤ S8192x128.size a)
theorem k0_off18_inb : ∀ (v859 : BitVec 32) (k0_hw20 : k0_chk20 v859), ∀ a, (k0_off18 v859) a + S256x128.size a ≤ S8192x128.size a := fun v859 k0_hw20 => k0_hw20

def k0_off19 (v881 : BitVec 32) : Fin 2 → Nat :=
  let c256_i32_835 : BitVec 32 := 256#32
  let v898 : BitVec 32 := Scalar.muli v881 c256_i32_835
  let v899 : Index := Scalar.indexCast v898
  let c0_836 : Index := 0#32
  ![v899.toNat, 0]

def k0_chk21 (v881 : BitVec 32) : Prop :=
  (∀ a, (k0_off19 v881) a + S256x128.size a ≤ S8192x128.size a)
theorem k0_off19_inb : ∀ (v881 : BitVec 32) (k0_hw21 : k0_chk21 v881), ∀ a, (k0_off19 v881) a + S256x128.size a ≤ S8192x128.size a := fun v881 k0_hw21 => k0_hw21

def k0_dev39 (v0 : BitVec 32) : Nat :=
  let c0_i32_854 : BitVec 32 := 0#32
  let c1_i32_853 : BitVec 32 := 1#32
  let v909 : BitVec 32 := Scalar.muli v0 c1_i32_853
  let v910 : BitVec 32 := Scalar.addi c0_i32_854 v909
  v910.toNat
def k0_dev40 (v0 : BitVec 32) : Nat :=
  let c0_i32_880 : BitVec 32 := 0#32
  let c1_i32_879 : BitVec 32 := 1#32
  let v933 : BitVec 32 := Scalar.muli v0 c1_i32_879
  let v934 : BitVec 32 := Scalar.addi c0_i32_880 v933
  v934.toNat
def k0_dev41 (v1 : BitVec 32) : Nat :=
  let c0_i32_888 : BitVec 32 := 0#32
  let c1_i32_887 : BitVec 32 := 1#32
  let v935 : BitVec 32 := Scalar.muli v1 c1_i32_887
  let v936 : BitVec 32 := Scalar.addi c0_i32_888 v935
  v936.toNat
def k0_dev42 (v1 : BitVec 32) : Nat :=
  let c0_i32_904 : BitVec 32 := 0#32
  let c1_i32_903 : BitVec 32 := 1#32
  let v951 : BitVec 32 := Scalar.muli v1 c1_i32_903
  let v952 : BitVec 32 := Scalar.addi c0_i32_904 v951
  v952.toNat
def k0_off20 (v955 : BitVec 32) : Fin 2 → Nat :=
  let c256_i32_915 : BitVec 32 := 256#32
  let v972 : BitVec 32 := Scalar.muli v955 c256_i32_915
  let v973 : Index := Scalar.indexCast v972
  let c0_916 : Index := 0#32
  ![v973.toNat, 0]

def k0_chk22 (v955 : BitVec 32) : Prop :=
  (∀ a, (k0_off20 v955) a + S256x128.size a ≤ S8192x128.size a)
theorem k0_off20_inb : ∀ (v955 : BitVec 32) (k0_hw22 : k0_chk22 v955), ∀ a, (k0_off20 v955) a + S256x128.size a ≤ S8192x128.size a := fun v955 k0_hw22 => k0_hw22

def k0_off21 (v977 : BitVec 32) : Fin 2 → Nat :=
  let c256_i32_927 : BitVec 32 := 256#32
  let v994 : BitVec 32 := Scalar.muli v977 c256_i32_927
  let v995 : Index := Scalar.indexCast v994
  let c0_928 : Index := 0#32
  ![v995.toNat, 0]

def k0_chk23 (v977 : BitVec 32) : Prop :=
  (∀ a, (k0_off21 v977) a + S256x128.size a ≤ S8192x128.size a)
theorem k0_off21_inb : ∀ (v977 : BitVec 32) (k0_hw23 : k0_chk23 v977), ∀ a, (k0_off21 v977) a + S256x128.size a ≤ S8192x128.size a := fun v977 k0_hw23 => k0_hw23

def k0_dev43 (v0 : BitVec 32) : Nat :=
  let c0_i32_946 : BitVec 32 := 0#32
  let c1_i32_945 : BitVec 32 := 1#32
  let v1005 : BitVec 32 := Scalar.muli v0 c1_i32_945
  let v1006 : BitVec 32 := Scalar.addi c0_i32_946 v1005
  v1006.toNat
def k0_dev44 (v0 : BitVec 32) : Nat :=
  let c0_i32_972 : BitVec 32 := 0#32
  let c1_i32_971 : BitVec 32 := 1#32
  let v1029 : BitVec 32 := Scalar.muli v0 c1_i32_971
  let v1030 : BitVec 32 := Scalar.addi c0_i32_972 v1029
  v1030.toNat
def k0_dev45 (v1 : BitVec 32) : Nat :=
  let c0_i32_980 : BitVec 32 := 0#32
  let c1_i32_979 : BitVec 32 := 1#32
  let v1031 : BitVec 32 := Scalar.muli v1 c1_i32_979
  let v1032 : BitVec 32 := Scalar.addi c0_i32_980 v1031
  v1032.toNat
def k0_dev46 (v1 : BitVec 32) : Nat :=
  let c0_i32_996 : BitVec 32 := 0#32
  let c1_i32_995 : BitVec 32 := 1#32
  let v1047 : BitVec 32 := Scalar.muli v1 c1_i32_995
  let v1048 : BitVec 32 := Scalar.addi c0_i32_996 v1047
  v1048.toNat
def k0_off22 (v1051 : BitVec 32) : Fin 2 → Nat :=
  let c256_i32_1007 : BitVec 32 := 256#32
  let v1068 : BitVec 32 := Scalar.muli v1051 c256_i32_1007
  let v1069 : Index := Scalar.indexCast v1068
  let c0_1008 : Index := 0#32
  ![v1069.toNat, 0]

def k0_chk24 (v1051 : BitVec 32) : Prop :=
  (∀ a, (k0_off22 v1051) a + S256x128.size a ≤ S8192x128.size a)
theorem k0_off22_inb : ∀ (v1051 : BitVec 32) (k0_hw24 : k0_chk24 v1051), ∀ a, (k0_off22 v1051) a + S256x128.size a ≤ S8192x128.size a := fun v1051 k0_hw24 => k0_hw24

def k0_off23 (v1073 : BitVec 32) : Fin 2 → Nat :=
  let c256_i32_1019 : BitVec 32 := 256#32
  let v1090 : BitVec 32 := Scalar.muli v1073 c256_i32_1019
  let v1091 : Index := Scalar.indexCast v1090
  let c0_1020 : Index := 0#32
  ![v1091.toNat, 0]

def k0_chk25 (v1073 : BitVec 32) : Prop :=
  (∀ a, (k0_off23 v1073) a + S256x128.size a ≤ S8192x128.size a)
theorem k0_off23_inb : ∀ (v1073 : BitVec 32) (k0_hw25 : k0_chk25 v1073), ∀ a, (k0_off23 v1073) a + S256x128.size a ≤ S8192x128.size a := fun v1073 k0_hw25 => k0_hw25

def k0_dev47 (v0 : BitVec 32) : Nat :=
  let c0_i32_1038 : BitVec 32 := 0#32
  let c1_i32_1037 : BitVec 32 := 1#32
  let v1101 : BitVec 32 := Scalar.muli v0 c1_i32_1037
  let v1102 : BitVec 32 := Scalar.addi c0_i32_1038 v1101
  v1102.toNat
def k0_dev48 (v0 : BitVec 32) : Nat :=
  let c0_i32_1064 : BitVec 32 := 0#32
  let c1_i32_1063 : BitVec 32 := 1#32
  let v1125 : BitVec 32 := Scalar.muli v0 c1_i32_1063
  let v1126 : BitVec 32 := Scalar.addi c0_i32_1064 v1125
  v1126.toNat
def k0_dev49 (v1 : BitVec 32) : Nat :=
  let c0_i32_1072 : BitVec 32 := 0#32
  let c1_i32_1071 : BitVec 32 := 1#32
  let v1127 : BitVec 32 := Scalar.muli v1 c1_i32_1071
  let v1128 : BitVec 32 := Scalar.addi c0_i32_1072 v1127
  v1128.toNat
def k0_dev50 (v1 : BitVec 32) : Nat :=
  let c0_i32_1088 : BitVec 32 := 0#32
  let c1_i32_1087 : BitVec 32 := 1#32
  let v1143 : BitVec 32 := Scalar.muli v1 c1_i32_1087
  let v1144 : BitVec 32 := Scalar.addi c0_i32_1088 v1143
  v1144.toNat
def k0_off24 (v1147 : BitVec 32) : Fin 2 → Nat :=
  let c256_i32_1099 : BitVec 32 := 256#32
  let v1164 : BitVec 32 := Scalar.muli v1147 c256_i32_1099
  let v1165 : Index := Scalar.indexCast v1164
  let c0_1100 : Index := 0#32
  ![v1165.toNat, 0]

def k0_chk26 (v1147 : BitVec 32) : Prop :=
  (∀ a, (k0_off24 v1147) a + S256x128.size a ≤ S8192x128.size a)
theorem k0_off24_inb : ∀ (v1147 : BitVec 32) (k0_hw26 : k0_chk26 v1147), ∀ a, (k0_off24 v1147) a + S256x128.size a ≤ S8192x128.size a := fun v1147 k0_hw26 => k0_hw26

def k0_off25 (v1169 : BitVec 32) : Fin 2 → Nat :=
  let c256_i32_1111 : BitVec 32 := 256#32
  let v1186 : BitVec 32 := Scalar.muli v1169 c256_i32_1111
  let v1187 : Index := Scalar.indexCast v1186
  let c0_1112 : Index := 0#32
  ![v1187.toNat, 0]

def k0_chk27 (v1169 : BitVec 32) : Prop :=
  (∀ a, (k0_off25 v1169) a + S256x128.size a ≤ S8192x128.size a)
theorem k0_off25_inb : ∀ (v1169 : BitVec 32) (k0_hw27 : k0_chk27 v1169), ∀ a, (k0_off25 v1169) a + S256x128.size a ≤ S8192x128.size a := fun v1169 k0_hw27 => k0_hw27

def k0_dev51 (v0 : BitVec 32) : Nat :=
  let c0_i32_1130 : BitVec 32 := 0#32
  let c1_i32_1129 : BitVec 32 := 1#32
  let v1197 : BitVec 32 := Scalar.muli v0 c1_i32_1129
  let v1198 : BitVec 32 := Scalar.addi c0_i32_1130 v1197
  v1198.toNat
def k0_dev52 (v0 : BitVec 32) : Nat :=
  let c0_i32_1156 : BitVec 32 := 0#32
  let c1_i32_1155 : BitVec 32 := 1#32
  let v1221 : BitVec 32 := Scalar.muli v0 c1_i32_1155
  let v1222 : BitVec 32 := Scalar.addi c0_i32_1156 v1221
  v1222.toNat
def k0_dev53 (v1 : BitVec 32) : Nat :=
  let c0_i32_1164 : BitVec 32 := 0#32
  let c1_i32_1163 : BitVec 32 := 1#32
  let v1223 : BitVec 32 := Scalar.muli v1 c1_i32_1163
  let v1224 : BitVec 32 := Scalar.addi c0_i32_1164 v1223
  v1224.toNat
def k0_dev54 (v1 : BitVec 32) : Nat :=
  let c0_i32_1180 : BitVec 32 := 0#32
  let c1_i32_1179 : BitVec 32 := 1#32
  let v1239 : BitVec 32 := Scalar.muli v1 c1_i32_1179
  let v1240 : BitVec 32 := Scalar.addi c0_i32_1180 v1239
  v1240.toNat
def k0_off26 (v1243 : BitVec 32) : Fin 2 → Nat :=
  let c256_i32_1191 : BitVec 32 := 256#32
  let v1260 : BitVec 32 := Scalar.muli v1243 c256_i32_1191
  let v1261 : Index := Scalar.indexCast v1260
  let c0_1192 : Index := 0#32
  ![v1261.toNat, 0]

def k0_chk28 (v1243 : BitVec 32) : Prop :=
  (∀ a, (k0_off26 v1243) a + S256x128.size a ≤ S8192x128.size a)
theorem k0_off26_inb : ∀ (v1243 : BitVec 32) (k0_hw28 : k0_chk28 v1243), ∀ a, (k0_off26 v1243) a + S256x128.size a ≤ S8192x128.size a := fun v1243 k0_hw28 => k0_hw28

def k0_off27 (v1265 : BitVec 32) : Fin 2 → Nat :=
  let c256_i32_1203 : BitVec 32 := 256#32
  let v1282 : BitVec 32 := Scalar.muli v1265 c256_i32_1203
  let v1283 : Index := Scalar.indexCast v1282
  let c0_1204 : Index := 0#32
  ![v1283.toNat, 0]

def k0_chk29 (v1265 : BitVec 32) : Prop :=
  (∀ a, (k0_off27 v1265) a + S256x128.size a ≤ S8192x128.size a)
theorem k0_off27_inb : ∀ (v1265 : BitVec 32) (k0_hw29 : k0_chk29 v1265), ∀ a, (k0_off27 v1265) a + S256x128.size a ≤ S8192x128.size a := fun v1265 k0_hw29 => k0_hw29

def k0_dev55 (v0 : BitVec 32) : Nat :=
  let c0_i32_1222 : BitVec 32 := 0#32
  let c1_i32_1221 : BitVec 32 := 1#32
  let v1293 : BitVec 32 := Scalar.muli v0 c1_i32_1221
  let v1294 : BitVec 32 := Scalar.addi c0_i32_1222 v1293
  v1294.toNat
def k0_dev56 (v0 : BitVec 32) : Nat :=
  let c0_i32_1248 : BitVec 32 := 0#32
  let c1_i32_1247 : BitVec 32 := 1#32
  let v1317 : BitVec 32 := Scalar.muli v0 c1_i32_1247
  let v1318 : BitVec 32 := Scalar.addi c0_i32_1248 v1317
  v1318.toNat
def k0_dev57 (v1 : BitVec 32) : Nat :=
  let c0_i32_1256 : BitVec 32 := 0#32
  let c1_i32_1255 : BitVec 32 := 1#32
  let v1319 : BitVec 32 := Scalar.muli v1 c1_i32_1255
  let v1320 : BitVec 32 := Scalar.addi c0_i32_1256 v1319
  v1320.toNat
def k0_dev58 (v1 : BitVec 32) : Nat :=
  let c0_i32_1272 : BitVec 32 := 0#32
  let c1_i32_1271 : BitVec 32 := 1#32
  let v1335 : BitVec 32 := Scalar.muli v1 c1_i32_1271
  let v1336 : BitVec 32 := Scalar.addi c0_i32_1272 v1335
  v1336.toNat
def k0_off28 (v1339 : BitVec 32) : Fin 2 → Nat :=
  let c256_i32_1283 : BitVec 32 := 256#32
  let v1356 : BitVec 32 := Scalar.muli v1339 c256_i32_1283
  let v1357 : Index := Scalar.indexCast v1356
  let c0_1284 : Index := 0#32
  ![v1357.toNat, 0]

def k0_chk30 (v1339 : BitVec 32) : Prop :=
  (∀ a, (k0_off28 v1339) a + S256x128.size a ≤ S8192x128.size a)
theorem k0_off28_inb : ∀ (v1339 : BitVec 32) (k0_hw30 : k0_chk30 v1339), ∀ a, (k0_off28 v1339) a + S256x128.size a ≤ S8192x128.size a := fun v1339 k0_hw30 => k0_hw30

def k0_off29 (v1361 : BitVec 32) : Fin 2 → Nat :=
  let c256_i32_1295 : BitVec 32 := 256#32
  let v1378 : BitVec 32 := Scalar.muli v1361 c256_i32_1295
  let v1379 : Index := Scalar.indexCast v1378
  let c0_1296 : Index := 0#32
  ![v1379.toNat, 0]

def k0_chk31 (v1361 : BitVec 32) : Prop :=
  (∀ a, (k0_off29 v1361) a + S256x128.size a ≤ S8192x128.size a)
theorem k0_off29_inb : ∀ (v1361 : BitVec 32) (k0_hw31 : k0_chk31 v1361), ∀ a, (k0_off29 v1361) a + S256x128.size a ≤ S8192x128.size a := fun v1361 k0_hw31 => k0_hw31

def k0_dev59 (v0 : BitVec 32) : Nat :=
  let c0_i32_1314 : BitVec 32 := 0#32
  let c1_i32_1313 : BitVec 32 := 1#32
  let v1389 : BitVec 32 := Scalar.muli v0 c1_i32_1313
  let v1390 : BitVec 32 := Scalar.addi c0_i32_1314 v1389
  v1390.toNat
def k0_dev60 (v0 : BitVec 32) : Nat :=
  let c0_i32_1340 : BitVec 32 := 0#32
  let c1_i32_1339 : BitVec 32 := 1#32
  let v1413 : BitVec 32 := Scalar.muli v0 c1_i32_1339
  let v1414 : BitVec 32 := Scalar.addi c0_i32_1340 v1413
  v1414.toNat

def k0_chk2 (v0 : BitVec 32) : Prop :=
  ((k0_dev2 v0) < nD) ∧
  ((k0_dev3 v0) < nD) ∧
  ((k0_dev5 v0) < nD) ∧
  ((k0_dev7 v0) < nD) ∧
  ((k0_dev8 v0) < nD) ∧
  ((k0_dev11 v0) < nD) ∧
  ((k0_dev12 v0) < nD) ∧
  ((k0_dev15 v0) < nD) ∧
  ((k0_dev16 v0) < nD) ∧
  ((k0_dev19 v0) < nD) ∧
  ((k0_dev20 v0) < nD) ∧
  ((k0_dev23 v0) < nD) ∧
  ((k0_dev24 v0) < nD) ∧
  ((k0_dev27 v0) < nD) ∧
  ((k0_dev28 v0) < nD) ∧
  ((k0_dev31 v0) < nD) ∧
  ((k0_dev32 v0) < nD) ∧
  ((k0_dev35 v0) < nD) ∧
  ((k0_dev36 v0) < nD) ∧
  ((k0_dev39 v0) < nD) ∧
  ((k0_dev40 v0) < nD) ∧
  ((k0_dev43 v0) < nD) ∧
  ((k0_dev44 v0) < nD) ∧
  ((k0_dev47 v0) < nD) ∧
  ((k0_dev48 v0) < nD) ∧
  ((k0_dev51 v0) < nD) ∧
  ((k0_dev52 v0) < nD) ∧
  ((k0_dev55 v0) < nD) ∧
  ((k0_dev56 v0) < nD) ∧
  ((k0_dev59 v0) < nD) ∧
  ((k0_dev60 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev5_lt : ∀ (v0 : BitVec 32) (k0_hw2 : k0_chk2 v0), (k0_dev5 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev8_lt : ∀ (v0 : BitVec 32) (k0_hw2 : k0_chk2 v0), (k0_dev8 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev12_lt : ∀ (v0 : BitVec 32) (k0_hw2 : k0_chk2 v0), (k0_dev12 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev16_lt : ∀ (v0 : BitVec 32) (k0_hw2 : k0_chk2 v0), (k0_dev16 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev20_lt : ∀ (v0 : BitVec 32) (k0_hw2 : k0_chk2 v0), (k0_dev20 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev24_lt : ∀ (v0 : BitVec 32) (k0_hw2 : k0_chk2 v0), (k0_dev24 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev28_lt : ∀ (v0 : BitVec 32) (k0_hw2 : k0_chk2 v0), (k0_dev28 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev32_lt : ∀ (v0 : BitVec 32) (k0_hw2 : k0_chk2 v0), (k0_dev32 v0) < nD := fun v0 k0_hw2 => k0_hw2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.1
theorem k0_dev36_lt : ∀ (v0 : BitVec 32) (k0_hw2 : k0_chk2 v0), (k0_dev36 v0) < nD := fun v0 k0_hw2 => k0_hw2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.1
theorem k0_dev40_lt : ∀ (v0 : BitVec 32) (k0_hw2 : k0_chk2 v0), (k0_dev40 v0) < nD := fun v0 k0_hw2 => k0_hw2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.1
theorem k0_dev44_lt : ∀ (v0 : BitVec 32) (k0_hw2 : k0_chk2 v0), (k0_dev44 v0) < nD := fun v0 k0_hw2 => k0_hw2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.1
theorem k0_dev48_lt : ∀ (v0 : BitVec 32) (k0_hw2 : k0_chk2 v0), (k0_dev48 v0) < nD := fun v0 k0_hw2 => k0_hw2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.1
theorem k0_dev52_lt : ∀ (v0 : BitVec 32) (k0_hw2 : k0_chk2 v0), (k0_dev52 v0) < nD := fun v0 k0_hw2 => k0_hw2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.1
theorem k0_dev56_lt : ∀ (v0 : BitVec 32) (k0_hw2 : k0_chk2 v0), (k0_dev56 v0) < nD := fun v0 k0_hw2 => k0_hw2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.1
theorem k0_dev60_lt : ∀ (v0 : BitVec 32) (k0_hw2 : k0_chk2 v0), (k0_dev60 v0) < nD := fun v0 k0_hw2 => k0_hw2.2.2.2.2.2.2.2.2.2.2.2.2.2.2.2.2.2.2.2.2.2.2.2.2.2.2.2.2.2.2

def k0_dev61 (v1 : BitVec 32) : Nat :=
  let c0_i32_1348 : BitVec 32 := 0#32
  let c1_i32_1347 : BitVec 32 := 1#32
  let v1415 : BitVec 32 := Scalar.muli v1 c1_i32_1347
  let v1416 : BitVec 32 := Scalar.addi c0_i32_1348 v1415
  v1416.toNat

def k0_chk1 (v1 : BitVec 32) : Prop :=
  ((k0_dev1 v1) < nD) ∧
  ((k0_dev4 v1) < nD) ∧
  ((k0_dev6 v1) < nD) ∧
  ((k0_dev9 v1) < nD) ∧
  ((k0_dev10 v1) < nD) ∧
  ((k0_dev13 v1) < nD) ∧
  ((k0_dev14 v1) < nD) ∧
  ((k0_dev17 v1) < nD) ∧
  ((k0_dev18 v1) < nD) ∧
  ((k0_dev21 v1) < nD) ∧
  ((k0_dev22 v1) < nD) ∧
  ((k0_dev25 v1) < nD) ∧
  ((k0_dev26 v1) < nD) ∧
  ((k0_dev29 v1) < nD) ∧
  ((k0_dev30 v1) < nD) ∧
  ((k0_dev33 v1) < nD) ∧
  ((k0_dev34 v1) < nD) ∧
  ((k0_dev37 v1) < nD) ∧
  ((k0_dev38 v1) < nD) ∧
  ((k0_dev41 v1) < nD) ∧
  ((k0_dev42 v1) < nD) ∧
  ((k0_dev45 v1) < nD) ∧
  ((k0_dev46 v1) < nD) ∧
  ((k0_dev49 v1) < nD) ∧
  ((k0_dev50 v1) < nD) ∧
  ((k0_dev53 v1) < nD) ∧
  ((k0_dev54 v1) < nD) ∧
  ((k0_dev57 v1) < nD) ∧
  ((k0_dev58 v1) < nD) ∧
  ((k0_dev61 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev9_lt : ∀ (v1 : BitVec 32) (k0_hw1 : k0_chk1 v1), (k0_dev9 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev13_lt : ∀ (v1 : BitVec 32) (k0_hw1 : k0_chk1 v1), (k0_dev13 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev17_lt : ∀ (v1 : BitVec 32) (k0_hw1 : k0_chk1 v1), (k0_dev17 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev21_lt : ∀ (v1 : BitVec 32) (k0_hw1 : k0_chk1 v1), (k0_dev21 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev25_lt : ∀ (v1 : BitVec 32) (k0_hw1 : k0_chk1 v1), (k0_dev25 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev29_lt : ∀ (v1 : BitVec 32) (k0_hw1 : k0_chk1 v1), (k0_dev29 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev33_lt : ∀ (v1 : BitVec 32) (k0_hw1 : k0_chk1 v1), (k0_dev33 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev37_lt : ∀ (v1 : BitVec 32) (k0_hw1 : k0_chk1 v1), (k0_dev37 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev41_lt : ∀ (v1 : BitVec 32) (k0_hw1 : k0_chk1 v1), (k0_dev41 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.2.2.2.2.2.2.2.2.2.2.2.2.2.2.2.2.2.2.2.2.2.2.2.2.2.2.2.2.2

def k0_off30 (v1433 : BitVec 32) : Fin 2 → Nat :=
  let c256_i32_1371 : BitVec 32 := 256#32
  let v1450 : BitVec 32 := Scalar.muli v1433 c256_i32_1371
  let v1451 : Index := Scalar.indexCast v1450
  let c0_1372 : Index := 0#32
  ![v1451.toNat, 0]

def k0_chk32 (v1433 : BitVec 32) : Prop :=
  (∀ a, (k0_off30 v1433) a + S256x128.size a ≤ S8192x128.size a)
theorem k0_off30_inb : ∀ (v1433 : BitVec 32) (k0_hw32 : k0_chk32 v1433), ∀ a, (k0_off30 v1433) a + S256x128.size a ≤ S8192x128.size a := fun v1433 k0_hw32 => k0_hw32

def k0_off31 (v1455 : BitVec 32) : Fin 2 → Nat :=
  let c256_i32_1383 : BitVec 32 := 256#32
  let v1472 : BitVec 32 := Scalar.muli v1455 c256_i32_1383
  let v1473 : Index := Scalar.indexCast v1472
  let c0_1384 : Index := 0#32
  ![v1473.toNat, 0]

def k0_chk33 (v1455 : BitVec 32) : Prop :=
  (∀ a, (k0_off31 v1455) a + S256x128.size a ≤ S8192x128.size a)
theorem k0_off31_inb : ∀ (v1455 : BitVec 32) (k0_hw33 : k0_chk33 v1455), ∀ a, (k0_off31 v1455) a + S256x128.size a ≤ S8192x128.size a := fun v1455 k0_hw33 => k0_hw33

def k0_off32 (v1475 : BitVec 32) : Fin 2 → Nat :=
  let c256_i32_1405 : BitVec 32 := 256#32
  let v1502 : BitVec 32 := Scalar.muli v1475 c256_i32_1405
  let v1503 : Index := Scalar.indexCast v1502
  let c0_1406 : Index := 0#32
  ![v1503.toNat, 0]

def k0_off33 (v1475 : BitVec 32) : Fin 2 → Nat :=
  let c256_i32_1426 : BitVec 32 := 256#32
  let v1531 : BitVec 32 := Scalar.muli v1475 c256_i32_1426
  let c128_i32_1427 : BitVec 32 := 128#32
  let v1532 : BitVec 32 := Scalar.addi v1531 c128_i32_1427
  let v1533 : Index := Scalar.indexCast v1532
  let c0_1428 : Index := 0#32
  ![v1533.toNat, 0]

def k0_chk34 (v1475 : BitVec 32) : Prop :=
  (∀ a, (k0_off32 v1475) a + S128x128.size a ≤ S8192x128.size a) ∧
  (∀ a, (k0_off33 v1475) a + S128x128.size a ≤ S8192x128.size a)
theorem k0_off32_inb : ∀ (v1475 : BitVec 32) (k0_hw34 : k0_chk34 v1475), ∀ a, (k0_off32 v1475) a + S128x128.size a ≤ S8192x128.size a := fun v1475 k0_hw34 => k0_hw34.1
theorem k0_off33_inb : ∀ (v1475 : BitVec 32) (k0_hw34 : k0_chk34 v1475), ∀ a, (k0_off33 v1475) a + S128x128.size a ≤ S8192x128.size a := fun v1475 k0_hw34 => k0_hw34.2

abbrev stage0_0 : Fin 1 → Memref sig .tc .smem S34 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/- The kernel's body written once per kind of step.

   The printed body is one straight run of some five hundred operations. Here the same run is written as a
   program: a prelude (the table words and the entry barrier), hop 0, the fourteen middle hops as one
   definition in the hop's number, and the tail with the two half copies. `body_eq` says that this program IS the
   printed body. -/
module

public import proofs.«01_k».proof.Proof.Gen.KernelIdeal.Skeleton

@[expose] public section

set_option maxRecDepth 65536

noncomputable section

namespace Cert.Ring

open Idealize.ShloMosaic Idealize.SL.Sem
open Cert.KernelIdeal Cert.KernelIdeal.Gen

variable {F : FTy → Type} [FloatOps F]

/-- The programs of the kernel's thread. -/
abbrev P (F : FTy → Type) [FloatOps F] := Prog (TpuEff nD τ sig (Elt F) Λ₀ .tc)

theorem inbR (s : Fin 3) : ∀ a, (![s.val, 0, 0] : Fin 3 → Nat) a + S1x256x8192.size a ≤ S3x256x8192.size a := by
  revert s; decide
theorem inbL (s : Fin 2) : ∀ a, (![s.val, 0, 0] : Fin 3 → Nat) a + S1x256x8192.size a ≤ S2x256x8192.size a := by
  revert s; decide
theorem inbHR (s : Fin 3) : ∀ a, (![s.val, 0, 0] : Fin 3 → Nat) a + S1x128x8192.size a ≤ S3x256x8192.size a := by
  revert s; decide
theorem inbHL (s : Fin 2) : ∀ a, (![s.val, 128, 0] : Fin 3 → Nat) a + S1x128x8192.size a ≤ S2x256x8192.size a := by
  revert s; decide
theorem inbS3 (s : Fin 3) : ∀ a, (![s.val] : Fin 1 → Nat) a + S1.size a ≤ S3.size a := by
  revert s; decide
theorem inbS2 (s : Fin 2) : ∀ a, (![s.val] : Fin 1 → Nat) a + S1.size a ≤ S2.size a := by
  revert s; decide
theorem inbT (j : Fin 34) : ∀ a, (![j.val] : Fin 1 → Nat) a + S1.size a ≤ S34.size a := by
  revert j; decide

/-- Slot `s` of a three-slot receive buffer, as a view. -/
def slR (m : Memref sig .tc .vmem S3x256x8192 .f32) (s : Fin 3) : Memref sig .tc .vmem S256x8192 .f32 :=
  (m.slice (Rect.unit (s := S3x256x8192) ![s.val, 0, 0] S1x256x8192.size (inbR s)) (fun _ => rfl)).squeeze
    S256x8192 squeezes_S1x256x8192_S256x8192
/-- Slot `s` of a two-slot receive buffer, as a view. -/
def slL (m : Memref sig .tc .vmem S2x256x8192 .f32) (s : Fin 2) : Memref sig .tc .vmem S256x8192 .f32 :=
  (m.slice (Rect.unit (s := S2x256x8192) ![s.val, 0, 0] S1x256x8192.size (inbL s)) (fun _ => rfl)).squeeze
    S256x8192 squeezes_S1x256x8192_S256x8192
/-- The upper half of slot `s` of a three-slot receive buffer. -/
def hfR (m : Memref sig .tc .vmem S3x256x8192 .f32) (s : Fin 3) : Memref sig .tc .vmem S128x8192 .f32 :=
  (m.slice (Rect.unit (s := S3x256x8192) ![s.val, 0, 0] S1x128x8192.size (inbHR s)) (fun _ => rfl)).squeeze
    S128x8192 squeezes_S1x128x8192_S128x8192
/-- The lower half of slot `s` of a two-slot receive buffer. -/
def hfL (m : Memref sig .tc .vmem S2x256x8192 .f32) (s : Fin 2) : Memref sig .tc .vmem S128x8192 .f32 :=
  (m.slice (Rect.unit (s := S2x256x8192) ![s.val, 128, 0] S1x128x8192.size (inbHL s)) (fun _ => rfl)).squeeze
    S128x8192 squeezes_S1x128x8192_S128x8192
/-- Semaphore `s` of an array of three. -/
def sem3 (a : DmaSems sig S3) (s : Fin 3) : DmaSem sig :=
  ((a.slice (Rect.unit (s := S3) ![s.val] S1.size (inbS3 s))).squeeze S_ squeezes_S1_S_).sem
/-- Semaphore `s` of an array of two. -/
def sem2 (a : DmaSems sig S2) (s : Fin 2) : DmaSem sig :=
  ((a.slice (Rect.unit (s := S2) ![s.val] S1.size (inbS2 s))).squeeze S_ squeezes_S1_S_).sem

/-- A number as a slot of three. -/
def m3 (h : ℕ) : Fin 3 := ⟨h % 3, Nat.mod_lt _ (by decide)⟩
/-- A number as a slot of two. -/
def m2 (h : ℕ) : Fin 2 := ⟨h % 2, Nat.mod_lt _ (by decide)⟩
/-- A number as a place of the table. -/
def mT (h : ℕ) : Fin 34 := ⟨h % 34, Nat.mod_lt _ (by decide)⟩

/-- Start a copy of `src` into `dst` on the device `d`. -/
def send {s : Shape} (src dst : Memref sig .tc .vmem s .f32) (hs : src.view.WordExact) (hd : dst.view.WordExact)
    (d : Dev nD) (ss rs : DmaSem sig) : P F PUnit :=
  Prog.lift (.enqueueDma src (.remote (Dev.tc d) dst (.dma ss)) (.dma rs) hs hd ⟨⟨rfl, Or.inl rfl⟩, trivial⟩)

/-- Wait for one copy's worth of `dst` on a semaphore. -/
def wait {s : Shape} (src dst : Memref sig .tc .vmem s .f32) (hs : src.view.WordExact) (hd : dst.view.WordExact)
    (sm : DmaSem sig) : P F PUnit :=
  Prog.lift (.waitDma2 sm src dst hs hd)

/-- Run `p` where the condition holds. -/
def whenP (b : Prop) [Decidable b] (p : P F PUnit) : P F PUnit := if b then p else pure ⟨⟩

theorem weR (m : Memref sig .tc .vmem S3x256x8192 .f32) (s : Fin 3) : (slR m s).view.WordExact := (View.wordExact_bits rfl).reshape _ _
theorem weL (m : Memref sig .tc .vmem S2x256x8192 .f32) (s : Fin 2) : (slL m s).view.WordExact := (View.wordExact_bits rfl).reshape _ _
theorem weHR (m : Memref sig .tc .vmem S3x256x8192 .f32) (s : Fin 3) : (hfR m s).view.WordExact := (View.wordExact_bits rfl).reshape _ _
theorem weHL (m : Memref sig .tc .vmem S2x256x8192 .f32) (s : Fin 2) : (hfL m s).view.WordExact := (View.wordExact_bits rfl).reshape _ _

variable (arg0 : Memref sig .tc .smem S34 .i32) (harg0 : arg0.IsWhole) (arg1 : Memref sig .tc .vmem S256x8192 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S3x256x8192 .f32) (harg4 : arg4.IsWhole) (arg5 : Memref sig .tc .vmem S2x256x8192 .f32) (harg5 : arg5.IsWhole) (arg6 : DmaSems sig S3) (arg7 : DmaSems sig S3) (arg8 : DmaSems sig S2) (arg9 : DmaSems sig S2) (arg10 : Sems sig S_) (arg11 : Sems sig S_)

/-- The word at place `j` of the table. -/
def word (j : Fin 34) : P F (Elt F .i32) :=
  smemLoad arg0 (Rect.unit (s := S34) ![j.val] S1.size (inbT j)) numel1_S1 rfl

/-- The rows of the result that the word `v` names are written with `y`. -/
def rowsOut (v : Elt F .i32) (hv : k0_chk3 v) (y : FVec F S256x128 .f32) : P F PUnit := do
  let _o : Vec F S256x128 .f32 ← Prog.lift (.load arg3 (Rect.unit (s := S8192x128) (k0_off1 v) S256x128.size (k0_off1_inb v hv)).toLoadRect (View.loadsAt_vmem h_S256x128))
  Prog.lift (.store arg3 (Rect.unit (s := S8192x128) (k0_off1 v) S256x128.size (k0_off1_inb v hv)) y Finset.univ (View.stores_vmem_bits_univ h_S256x128 rfl) (.inl rfl))

/-- The weight block, loaded whole. -/
def loadW : P F (Vec F S8192x128 .f32) :=
  Prog.lift (.load arg2 (Rect.unit (s := S8192x128) ![0, 0] S8192x128.size inb_S8192x128_S8192x128_0_0).toLoadRect (View.loadsAt_vmem h_S8192x128))

/-- A received chunk's product: the chunk in slot `s` of the right-going buffer, its origin at place `j`. -/
def gemmR (s : Fin 3) (j : Fin 34) : P F PUnit := do
  let a : Vec F S1x256x8192 .f32 ← Prog.lift (.load arg4 (Rect.unit (s := S3x256x8192) ![s.val, 0, 0] S1x256x8192.size (inbR s)).toLoadRect (View.loadsAt_vmem h_S1x256x8192))
  let v ← word (F := F) arg0 j
  have hv : k0_chk3 v := (← Prog.lift (TpuEff.assume (k0_chk3 v) (k0_chk3.dec v))).down
  let w ← loadW arg2
  rowsOut arg3 v hv (k0_pay2 a w)

/-- A received chunk's product: the chunk in slot `s` of the left-going buffer, its origin at place `j`. -/
def gemmL (s : Fin 2) (j : Fin 34) : P F PUnit := do
  let a : Vec F S1x256x8192 .f32 ← Prog.lift (.load arg5 (Rect.unit (s := S2x256x8192) ![s.val, 0, 0] S1x256x8192.size (inbL s)).toLoadRect (View.loadsAt_vmem h_S1x256x8192))
  let v ← word (F := F) arg0 j
  have hv : k0_chk3 v := (← Prog.lift (TpuEff.assume (k0_chk3 v) (k0_chk3.dec v))).down
  let w ← loadW arg2
  rowsOut arg3 v hv (k0_pay2 a w)

/-- Hop 0: the device's own chunk goes both ways, and its own product is written. -/
def hop0 (v2 : Elt F .i32) (hw3 : k0_chk3 v2) (rt lf : Dev nD) : P F PUnit := do
  send arg1 (slR arg4 1) harg1.wordExact (weR arg4 1) rt (sem3 arg6 0) (sem3 arg7 1)
  send arg1 (slL arg5 1) harg1.wordExact (weL arg5 1) lf (sem2 arg8 0) (sem2 arg9 1)
  let a : Vec F S256x8192 .f32 ← Prog.lift (.load arg1 (Rect.unit (s := S256x8192) ![0, 0] S256x8192.size inb_S256x8192_S256x8192_0_0).toLoadRect (View.loadsAt_vmem h_S256x8192))
  let w ← loadW arg2
  rowsOut arg3 v2 hw3 (k0_pay1 a w)

/-- The wait for the left-going copy of hop `h - 1` to be out of its source: the own chunk at hop 1, a slot after. -/
def waitSL (h : ℕ) : P F PUnit :=
  if 2 ≤ h then wait (slL arg5 (m2 h)) (slL arg5 (m2 (h - 1))) (weL arg5 (m2 h)) (weL arg5 (m2 (h - 1))) (sem2 arg8 (m2 (h - 1)))
  else wait (slL arg5 (m2 h)) arg1 (weL arg5 (m2 h)) harg1.wordExact (sem2 arg8 (m2 (h - 1)))
/-- The same of the right-going copy. -/
def waitSR (h : ℕ) : P F PUnit :=
  if 2 ≤ h then wait (slR arg4 (m3 h)) (slR arg4 (m3 (h - 1))) (weR arg4 (m3 h)) (weR arg4 (m3 (h - 1))) (sem3 arg6 (m3 (h - 1)))
  else wait (slR arg4 (m3 h)) arg1 (weR arg4 (m3 h)) harg1.wordExact (sem3 arg6 (m3 (h - 1)))

/-- The exchange of hop `h ≥ 1`: what arrived goes on, each way, and the freed slots are credited. -/
def xchg (rt lf : Dev nD) (h : ℕ) : P F PUnit := do
  wait (slR arg4 (m3 h)) (slR arg4 (m3 h)) (weR arg4 (m3 h)) (weR arg4 (m3 h)) (sem3 arg7 (m3 h))
  whenP (3 ≤ h) (semWaitWord arg10.sem 1#32)
  send (slR arg4 (m3 h)) (slR arg4 (m3 (h + 1))) (weR arg4 (m3 h)) (weR arg4 (m3 (h + 1))) rt (sem3 arg6 (m3 h)) (sem3 arg7 (m3 (h + 1)))
  wait (slL arg5 (m2 h)) (slL arg5 (m2 h)) (weL arg5 (m2 h)) (weL arg5 (m2 h)) (sem2 arg9 (m2 h))
  waitSL arg1 harg1 arg5 arg8 h
  whenP (2 ≤ h) (semSignalWord rt arg11.sem 1#32)
  whenP (2 ≤ h) (semWaitWord arg11.sem 1#32)
  send (slL arg5 (m2 h)) (slL arg5 (m2 (h + 1))) (weL arg5 (m2 h)) (weL arg5 (m2 (h + 1))) lf (sem2 arg8 (m2 h)) (sem2 arg9 (m2 (h + 1)))
  waitSR arg1 harg1 arg4 arg6 h
  whenP (2 ≤ h) (semSignalWord lf arg10.sem 1#32)

/-- One middle hop: the exchange, then both received chunks' products. -/
def hop (rt lf : Dev nD) (h : ℕ) : P F PUnit := do
  xchg arg1 harg1 arg4 arg5 arg6 arg7 arg8 arg9 arg10 arg11 rt lf h
  gemmR arg0 arg2 arg3 arg4 (m3 h) (mT (h + 2))
  gemmL arg0 arg2 arg3 arg5 (m2 h) (mT (h + 18))

/-- `n` middle hops from hop `h` on. -/
def hops (rt lf : Dev nD) : ℕ → ℕ → P F PUnit
  | 0, _ => pure ⟨⟩
  | n + 1, h => do
    hop arg0 arg1 harg1 arg2 arg3 arg4 arg5 arg6 arg7 arg8 arg9 arg10 arg11 rt lf h
    hops rt lf n (h + 1)

/-- The half products and the last waits, the far chunk's origin `v` read. -/
def halves : P F PUnit := do
  let v ← word (F := F) arg0 18
  have hv : k0_chk34 v := (← Prog.lift (TpuEff.assume (k0_chk34 v) (k0_chk34.dec v))).down
  wait (hfR arg4 1) (hfR arg4 1) (weHR arg4 1) (weHR arg4 1) (sem3 arg7 1)
  let a : Vec F S1x128x8192 .f32 ← Prog.lift (.load arg4 (Rect.unit (s := S3x256x8192) ![1, 0, 0] S1x128x8192.size inb_S3x256x8192_S1x128x8192_1_0_0).toLoadRect (View.loadsAt_vmem h_S1x128x8192))
  let w ← loadW arg2
  let _o : Vec F S128x128 .f32 ← Prog.lift (.load arg3 (Rect.unit (s := S8192x128) (k0_off32 v) S128x128.size (k0_off32_inb v hv)).toLoadRect (View.loadsAt_vmem h_S128x128))
  Prog.lift (.store arg3 (Rect.unit (s := S8192x128) (k0_off32 v) S128x128.size (k0_off32_inb v hv)) (k0_pay58 a w) Finset.univ (View.stores_vmem_bits_univ h_S128x128 rfl) (.inl rfl))
  wait (hfL arg5 0) (hfL arg5 0) (weHL arg5 0) (weHL arg5 0) (sem2 arg9 0)
  let b : Vec F S1x128x8192 .f32 ← Prog.lift (.load arg5 (Rect.unit (s := S2x256x8192) ![0, 128, 0] S1x128x8192.size inb_S2x256x8192_S1x128x8192_0_128_0).toLoadRect (View.loadsAt_vmem h_S1x128x8192))
  let w' ← loadW arg2
  let _o' : Vec F S128x128 .f32 ← Prog.lift (.load arg3 (Rect.unit (s := S8192x128) (k0_off33 v) S128x128.size (k0_off33_inb v hv)).toLoadRect (View.loadsAt_vmem h_S128x128))
  Prog.lift (.store arg3 (Rect.unit (s := S8192x128) (k0_off33 v) S128x128.size (k0_off33_inb v hv)) (k0_pay58 b w') Finset.univ (View.stores_vmem_bits_univ h_S128x128 rfl) (.inl rfl))
  wait (hfR arg4 1) (hfR arg4 0) (weHR arg4 1) (weHR arg4 0) (sem3 arg6 0)
  wait (hfL arg5 0) (hfL arg5 1) (weHL arg5 0) (weHL arg5 1) (sem2 arg8 1)

/-- The exchange of hop 15: only a half goes on each way. -/
def xchgLast (rt lf : Dev nD) : P F PUnit := do
  wait (slR arg4 0) (slR arg4 0) (weR arg4 0) (weR arg4 0) (sem3 arg7 0)
  semWaitWord arg10.sem 1#32
  send (hfR arg4 0) (hfR arg4 1) (weHR arg4 0) (weHR arg4 1) rt (sem3 arg6 0) (sem3 arg7 1)
  wait (slL arg5 1) (slL arg5 1) (weL arg5 1) (weL arg5 1) (sem2 arg9 1)
  wait (slL arg5 1) (slL arg5 0) (weL arg5 1) (weL arg5 0) (sem2 arg8 0)
  semSignalWord rt arg11.sem 1#32
  semWaitWord arg11.sem 1#32
  send (hfL arg5 1) (hfL arg5 0) (weHL arg5 1) (weHL arg5 0) lf (sem2 arg8 1) (sem2 arg9 0)
  wait (slR arg4 0) (slR arg4 2) (weR arg4 0) (weR arg4 2) (sem3 arg6 2)

/-- The end of the body: hop 15's exchange, its two products, the halves. -/
def tail (rt lf : Dev nD) : P F PUnit := do
  xchgLast arg4 arg5 arg6 arg7 arg8 arg9 arg10 arg11 rt lf
  gemmR arg0 arg2 arg3 arg4 0 17
  gemmL arg0 arg2 arg3 arg5 1 33
  halves arg0 arg2 arg3 arg4 arg5 arg6 arg7 arg8 arg9

/-- Everything behind the entry barrier. -/
def rest (v2 : Elt F .i32) (hw3 : k0_chk3 v2) (rt lf : Dev nD) : P F PUnit := do
  hop0 arg1 harg1 arg2 arg3 arg4 arg5 arg6 arg7 arg8 arg9 v2 hw3 rt lf
  hops arg0 arg1 harg1 arg2 arg3 arg4 arg5 arg6 arg7 arg8 arg9 arg10 arg11 rt lf 14 1
  tail arg0 arg2 arg3 arg4 arg5 arg6 arg7 arg8 arg9 arg10 arg11 rt lf

/-- The whole body. -/
def body : P F PUnit := do
  let v0 ← word (F := F) arg0 0
  have hw2 : k0_chk2 v0 := (← Prog.lift (TpuEff.assume (k0_chk2 v0) (k0_chk2.dec v0))).down
  let v1 ← word (F := F) arg0 1
  have hw1 : k0_chk1 v1 := (← Prog.lift (TpuEff.assume (k0_chk1 v1) (k0_chk1.dec v1))).down
  let v2 ← word (F := F) arg0 2
  have hw3 : k0_chk3 v2 := (← Prog.lift (TpuEff.assume (k0_chk3 v2) (k0_chk3.dec v2))).down
  semSignalWord (⟨k0_dev1 v1, k0_dev1_lt v1 hw1⟩ : Dev nD) (SemArray.scalar (sig.barrier 0 rfl) : Sems sig S_).sem 1#32
  semSignalWord (⟨k0_dev2 v0, k0_dev2_lt v0 hw2⟩ : Dev nD) (SemArray.scalar (sig.barrier 0 rfl) : Sems sig S_).sem 1#32
  semWaitWord (SemArray.scalar (sig.barrier 0 rfl) : Sems sig S_).sem 2#32
  rest arg0 arg1 harg1 arg2 arg3 arg4 arg5 arg6 arg7 arg8 arg9 arg10 arg11 v2 hw3
    (⟨k0_dev2 v0, k0_dev2_lt v0 hw2⟩ : Dev nD) (⟨k0_dev1 v1, k0_dev1_lt v1 hw1⟩ : Dev nD)

/-- Two programs agree when their first operations do and what follows each response does. -/
theorem op_congr {E : Type → Type} {α β : Type} {e e' : E β} {k k' : β → Prog E α} (h : e = e') (hk : ∀ x, k x = k' x) :
    Prog.op e k = Prog.op e' k' := by
  subst h; exact congrArg _ (funext hk)

set_option maxHeartbeats 4000000 in
/-- The printed body is the program above. -/
theorem body_eq : cc0_body arg0 harg0 arg1 harg1 arg2 harg2 arg3 harg3 arg4 harg4 arg5 harg5 arg6 arg7 arg8 arg9 arg10 arg11
    = body (F := F) arg0 arg1 harg1 arg2 arg3 arg4 arg5 arg6 arg7 arg8 arg9 arg10 arg11 := by
  repeat refine op_congr rfl fun _ => ?_
  rfl

end Cert.Ring
-- ==== Proof.Mem.lean ====
/- The memory of the exchange: the receive slots, their halves, the rows of the result, and what is
   read and written through them. -/
module

public import proofs.«01_k».proof.Proof.Prog
public import Idealize.ShloMosaic.Lib.Memref
public import Idealize.ShloMosaic.Lib.MemrefSat
public import Idealize.ShloMosaic.Lib.Release
public import Idealize.ShloMosaic.Lib.Rounds
public import Idealize.ShloMosaic.Lib.Pipeline.Kit
public import Idealize.ShloMosaic.Lib.Pipeline.Regions
public import Idealize.ShloMosaic.Lib.Pipeline.Value
public import Idealize.ShloMosaic.Lib.Tactic

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Cert.KernelIdeal Cert.KernelIdeal.Gen

variable {F : FTy → Type} [FloatOps F]

/-- The ghost state: the staging pipeline's, the rounds of the semaphores, the released slots. -/
abbrev UU := URounds (GSem nD τ sig) Unit × (URounds (GSem nD τ sig) ℕ × USlots (Dev nD × Fin 5))

local notation "𝕄" => MT nD τ sig ℕ (Elt F) ℕ UU ℕ

/-- The right-going receive buffer, three slots. -/
abbrev BR : Memref sig .tc .vmem S3x256x8192 .f32 := Memref.whole cc0_scratch0
/-- The left-going receive buffer, two slots. -/
abbrev BL : Memref sig .tc .vmem S2x256x8192 .f32 := Memref.whole cc0_scratch1
/-- The table of words. -/
abbrev MT0 : Memref sig .tc .smem S34 .i32 := Memref.whole cc0_stg0_0
/-- The own chunk. -/
abbrev MX : Memref sig .tc .vmem S256x8192 .f32 := Memref.whole cc0_stg1_0
/-- The own weight block. -/
abbrev MW : Memref sig .tc .vmem S8192x128 .f32 := Memref.whole cc0_stg2_0
/-- The result block. -/
abbrev MO : Memref sig .tc .vmem S8192x128 .f32 := Memref.whole cc0_stg3_0

/-! ## The elements of the slots -/

def SR (s : Fin 3) : Finset S3x256x8192.Idx := (Rect.unit (s := S3x256x8192) ![s.val, 0, 0] S1x256x8192.size (inbR s)).set
def SL (s : Fin 2) : Finset S2x256x8192.Idx := (Rect.unit (s := S2x256x8192) ![s.val, 0, 0] S1x256x8192.size (inbL s)).set
def HR (s : Fin 3) : Finset S3x256x8192.Idx := (Rect.unit (s := S3x256x8192) ![s.val, 0, 0] S1x128x8192.size (inbHR s)).set
def HL (s : Fin 2) : Finset S2x256x8192.Idx := (Rect.unit (s := S2x256x8192) ![s.val, 128, 0] S1x128x8192.size (inbHL s)).set

theorem set_slR (s : Fin 3) : (slR BR s).view.set = SR s := (View.set_reshape _ _).trans (View.set_slice_whole _ _)
theorem set_slL (s : Fin 2) : (slL BL s).view.set = SL s := (View.set_reshape _ _).trans (View.set_slice_whole _ _)
theorem set_hfR (s : Fin 3) : (hfR BR s).view.set = HR s := (View.set_reshape _ _).trans (View.set_slice_whole _ _)
theorem set_hfL (s : Fin 2) : (hfL BL s).view.set = HL s := (View.set_reshape _ _).trans (View.set_slice_whole _ _)

theorem mem_SR {s : Fin 3} {j : S3x256x8192.Idx} : j ∈ SR s ↔ (j 0).val = s.val := by
  refine Rect.mem_set_unit.trans ⟨fun h => ?_, fun h a => ?_⟩
  · have := h 0; simp at this; omega
  · fin_cases a
    · simp; omega
    · simp; exact (j 1).isLt
    · simp; exact (j 2).isLt

theorem mem_SL {s : Fin 2} {j : S2x256x8192.Idx} : j ∈ SL s ↔ (j 0).val = s.val := by
  refine Rect.mem_set_unit.trans ⟨fun h => ?_, fun h a => ?_⟩
  · have := h 0; simp at this; omega
  · fin_cases a
    · simp; omega
    · simp; exact (j 1).isLt
    · simp; exact (j 2).isLt

theorem mem_HR {s : Fin 3} {j : S3x256x8192.Idx} : j ∈ HR s ↔ (j 0).val = s.val ∧ (j 1).val < 128 := by
  refine Rect.mem_set_unit.trans ⟨fun h => ?_, fun h a => ?_⟩
  · have h0 := h 0; have h1 := h 1; simp at h0 h1; omega
  · fin_cases a
    · simp; omega
    · simp; omega
    · simp; exact (j 2).isLt

theorem mem_HL {s : Fin 2} {j : S2x256x8192.Idx} : j ∈ HL s ↔ (j 0).val = s.val ∧ 128 ≤ (j 1).val := by
  refine Rect.mem_set_unit.trans ⟨fun h => ?_, fun h a => ?_⟩
  · have h0 := h 0; have h1 := h 1; simp at h0 h1; omega
  · have hj := (j 1).isLt
    fin_cases a
    · simp; omega
    · simp; exact ⟨h.2, hj⟩
    · simp; exact (j 2).isLt

theorem HR_sub (s : Fin 3) : HR s ⊆ SR s := fun _ h => mem_SR.mpr (mem_HR.mp h).1
theorem HL_sub (s : Fin 2) : HL s ⊆ SL s := fun _ h => mem_SL.mpr (mem_HL.mp h).1
theorem SR_ne (s : Fin 3) : (SR s).Nonempty := ⟨(fun | 0 => s | 1 => ⟨0, by decide⟩ | 2 => ⟨0, by decide⟩), mem_SR.mpr rfl⟩
theorem SL_ne (s : Fin 2) : (SL s).Nonempty := ⟨(fun | 0 => s | 1 => ⟨0, by decide⟩ | 2 => ⟨0, by decide⟩), mem_SL.mpr rfl⟩

/-! ## Halves of a chunk -/

/-- The upper 128 rows of a chunk. -/
def top {α : Type} (A : S256x8192.Idx → α) : S128x8192.Idx → α := fun i =>
  A (fun | 0 => ⟨(i 0).val, Nat.lt_of_lt_of_le (i 0).isLt (by decide)⟩ | 1 => i 1)
/-- The lower 128 rows of a chunk. -/
def bot {α : Type} (A : S256x8192.Idx → α) : S128x8192.Idx → α := fun i =>
  A (fun | 0 => ⟨128 + (i 0).val, Nat.add_lt_add_left (i 0).isLt 128⟩ | 1 => i 1)

theorem sq256 (h : S256x8192.numel = S1x256x8192.numel) (x : S256x8192.Idx) :
    Shape.reshapeEquiv h x = Fin.cons (⟨0, Nat.one_pos⟩ : Fin 1) x := Shape.reshapeEquiv_cons_one (d := ![256, 8192]) h x
theorem sq128 (h : S128x8192.numel = S1x128x8192.numel) (x : S128x8192.Idx) :
    Shape.reshapeEquiv h x = Fin.cons (⟨0, Nat.one_pos⟩ : Fin 1) x := Shape.reshapeEquiv_cons_one (d := ![128, 8192]) h x

theorem emb_slR (s : Fin 3) (x : S256x8192.Idx) (a : Fin 3) :
    ((slR BR s).view.emb x a).val = (![s.val, 0, 0] : Fin 3 → ℕ) a + 1 * (Fin.cons (⟨0, Nat.one_pos⟩ : Fin 1) x : S1x256x8192.Idx) a := by
  show ((Rect.unit (s := S3x256x8192) ![s.val, 0, 0] S1x256x8192.size (inbR s)).emb (Shape.reshapeEquiv squeezes_S1x256x8192_S256x8192.numel_eq x) a).val = _
  rw [sq256]; rfl
theorem emb_slL (s : Fin 2) (x : S256x8192.Idx) (a : Fin 3) :
    ((slL BL s).view.emb x a).val = (![s.val, 0, 0] : Fin 3 → ℕ) a + 1 * (Fin.cons (⟨0, Nat.one_pos⟩ : Fin 1) x : S1x256x8192.Idx) a := by
  show ((Rect.unit (s := S2x256x8192) ![s.val, 0, 0] S1x256x8192.size (inbL s)).emb (Shape.reshapeEquiv squeezes_S1x256x8192_S256x8192.numel_eq x) a).val = _
  rw [sq256]; rfl
theorem emb_hfR (s : Fin 3) (x : S128x8192.Idx) (a : Fin 3) :
    ((hfR BR s).view.emb x a).val = (![s.val, 0, 0] : Fin 3 → ℕ) a + 1 * (Fin.cons (⟨0, Nat.one_pos⟩ : Fin 1) x : S1x128x8192.Idx) a := by
  show ((Rect.unit (s := S3x256x8192) ![s.val, 0, 0] S1x128x8192.size (inbHR s)).emb (Shape.reshapeEquiv squeezes_S1x128x8192_S128x8192.numel_eq x) a).val = _
  rw [sq128]; rfl
theorem emb_hfL (s : Fin 2) (x : S128x8192.Idx) (a : Fin 3) :
    ((hfL BL s).view.emb x a).val = (![s.val, 128, 0] : Fin 3 → ℕ) a + 1 * (Fin.cons (⟨0, Nat.one_pos⟩ : Fin 1) x : S1x128x8192.Idx) a := by
  show ((Rect.unit (s := S2x256x8192) ![s.val, 128, 0] S1x128x8192.size (inbHL s)).emb (Shape.reshapeEquiv squeezes_S1x128x8192_S128x8192.numel_eq x) a).val = _
  rw [sq128]; rfl

theorem read_hfR {s : Fin 3} (f : S3x256x8192.Idx → Elt F .f32) :
    (hfR BR s).view.read (Elt F) f = top ((slR BR s).view.read (Elt F) f) := by
  funext i
  unfold top
  simp only [View.read]
  refine congrArg (fun j => cast _ (f j)) (funext fun a => ?_)
  refine Fin.ext ((emb_hfR s i a).trans (Eq.trans ?_ (emb_slR s _ a).symm))
  fin_cases a <;> rfl

theorem read_hfL {s : Fin 2} (f : S2x256x8192.Idx → Elt F .f32) :
    (hfL BL s).view.read (Elt F) f = bot ((slL BL s).view.read (Elt F) f) := by
  funext i
  unfold bot
  simp only [View.read]
  refine congrArg (fun j => cast _ (f j)) (funext fun a => ?_)
  refine Fin.ext ((emb_hfL s i a).trans (Eq.trans ?_ (emb_slL s _ a).symm))
  fin_cases a
  · rfl
  · show 128 + 1 * (i 0).val = 0 + 1 * (128 + (i 0).val)
    omega
  · rfl

/-! ## The products -/

/-- A chunk's rows times the weight block, through the activation. -/
def gem (a : FVec F S256x8192 .f32) (w : FVec F S8192x128 .f32) : FVec F S256x128 .f32 := k0_pay1 a w
/-- The same of half a chunk. -/
def gemH (a : FVec F S128x8192 .f32) (w : FVec F S8192x128 .f32) : FVec F S128x128 .f32 :=
  k0_pay58 (shapeCast S1x128x8192 a (by decide)) w

theorem pay2_eq (a : Vec F S1x256x8192 .f32) (w : Vec F S8192x128 .f32) :
    k0_pay2 a w = gem (shapeCast S256x8192 a shapeCasts_S1x256x8192_S256x8192) w := by
  unfold k0_pay2 gem k0_pay1
  rw [shapeCast_self (shapeCast S256x8192 a shapeCasts_S1x256x8192_S256x8192)]

theorem pay58_eq (a : Vec F S1x128x8192 .f32) (w : Vec F S8192x128 .f32) :
    k0_pay58 a w = gemH (shapeCast S128x8192 a shapeCasts_S1x128x8192_S128x8192) w := by
  unfold gemH
  rw [shapeCast_shapeCast]

/-! ## Slots, owned -/

section Logic

/-- Elements of the right-going receive buffer held at `f`. -/
abbrev ptR (c : Dev nD) (I : Finset S3x256x8192.Idx) (q : PosShare TreeShare) (f : S3x256x8192.Idx → Elt F .f32) : sProp 𝕄 :=
  pointsTo (BR.view.loc (c : Thread nD τ)) I q f
/-- What slot `s` reads of the buffer's contents. -/
def rdR (s : Fin 3) (f : S3x256x8192.Idx → Elt F .f32) : S256x8192.Idx → Elt F .f32 := (slR BR s).view.read (Elt F) f

theorem owns_slR (c : Dev nD) (s : Fin 3) (q : PosShare TreeShare) (A : S256x8192.Idx → Elt F .f32) :
    (owns (c : Thread nD τ) (slR BR s) q A : sProp 𝕄) = iprop(∃ f, ⌜rdR s f = A⌝ ∗ ptR c (SR s) q f) :=
  congrArg (fun I => (iprop(∃ f, ⌜rdR s f = A⌝ ∗ ptR c I q f) : sProp 𝕄)) (set_slR s)
theorem owns_hfR (c : Dev nD) (s : Fin 3) (q : PosShare TreeShare) (B : S128x8192.Idx → Elt F .f32) :
    (owns (c : Thread nD τ) (hfR BR s) q B : sProp 𝕄) = iprop(∃ f, ⌜top (rdR s f) = B⌝ ∗ ptR c (HR s) q f) := by
  have h : (fun f : S3x256x8192.Idx → Elt F .f32 => (hfR BR s).view.read (Elt F) f) = fun f => top (rdR s f) := funext fun f => read_hfR f
  exact (congrArg (fun I => (iprop(∃ f, ⌜(hfR BR s).view.read (Elt F) f = B⌝ ∗ ptR c I q f) : sProp 𝕄)) (set_hfR s)).trans
    (congrArg (fun r : (S3x256x8192.Idx → Elt F .f32) → S128x8192.Idx → Elt F .f32 => (iprop(∃ f, ⌜r f = B⌝ ∗ ptR c (HR s) q f) : sProp 𝕄)) h)

/-- Contents whose halves read the same agree on the half's elements. -/
theorem agreeR {s : Fin 3} {f g : S3x256x8192.Idx → Elt F .f32} (h : top (rdR s f) = top (rdR s g)) : ∀ i ∈ HR s, f i = g i := by
  intro i hi
  have h' : (hfR BR s).view.read (Elt F) f = (hfR BR s).view.read (Elt F) g := (read_hfR f).trans (h.trans (read_hfR g).symm)
  rw [← set_hfR] at hi
  obtain ⟨x, -, hx⟩ := Finset.mem_map.mp hi
  have := congrFun h' x
  simp only [View.read] at this
  exact hx ▸ (cast_inj _).mp this

/-- The rest of a right-going slot beside the half that goes on, known to hold the other rows of the chunk `A`. -/
def restR (c : Dev nD) (s : Fin 3) (q : PosShare TreeShare) (A : S256x8192.Idx → Elt F .f32) : sProp 𝕄 :=
  iprop(∃ f, ⌜rdR s f = A⌝ ∗ ptR c (SR s \ HR s) q f)
/-- Slot `s` of the right-going buffer owned at any contents. -/
abbrev slotR (c : Dev nD) (s : Fin 3) : sProp 𝕄 := slot (BR.view.loc (c : Thread nD τ)) (SR s)

theorem splitR (c : Dev nD) (s : Fin 3) (q : PosShare TreeShare) (A : S256x8192.Idx → Elt F .f32) :
    (owns (c : Thread nD τ) (slR BR s) q A : sProp 𝕄) ⊢ iprop(owns (c : Thread nD τ) (hfR BR s) q (top A) ∗ restR c s q A) := by
  rw [owns_slR, owns_hfR]; unfold restR
  iintro ⟨%f, %hf, H⟩
  ihave H2 := (pointsTo_split_subset (HR_sub s)).1 $$ H
  icases H2 with ⟨H1, H2⟩
  isplitl [H1]
  · iexists f; isplitr
    · ipureintro; rw [hf]
    · iexact H1
  · iexists f; isplitr
    · ipureintro; exact hf
    · iexact H2

theorem joinR (c : Dev nD) (s : Fin 3) (q : PosShare TreeShare) (A : S256x8192.Idx → Elt F .f32) :
    iprop(owns (c : Thread nD τ) (hfR BR s) q (top A) ∗ restR c s q A) ⊢ (owns (c : Thread nD τ) (slR BR s) q A : sProp 𝕄) := by
  rw [owns_slR, owns_hfR]; unfold restR
  iintro ⟨⟨%g, %hg, H1⟩, ⟨%f, %hf, H2⟩⟩
  iexists f
  isplitr
  · ipureintro; exact hf
  ihave H1' := (Entails.of_eq (pointsTo_congr (f := g) (g := f) (agreeR (hg.trans (congrArg top hf.symm))))) $$ H1
  iapply (pointsTo_split_subset (HR_sub s)).2
  isplitl [H1'] <;> iassumption

/-- Elements of the left-going receive buffer held at `f`. -/
abbrev ptL (c : Dev nD) (I : Finset S2x256x8192.Idx) (q : PosShare TreeShare) (f : S2x256x8192.Idx → Elt F .f32) : sProp 𝕄 :=
  pointsTo (BL.view.loc (c : Thread nD τ)) I q f
/-- What slot `s` reads of the buffer's contents. -/
def rdL (s : Fin 2) (f : S2x256x8192.Idx → Elt F .f32) : S256x8192.Idx → Elt F .f32 := (slL BL s).view.read (Elt F) f

theorem owns_slL (c : Dev nD) (s : Fin 2) (q : PosShare TreeShare) (A : S256x8192.Idx → Elt F .f32) :
    (owns (c : Thread nD τ) (slL BL s) q A : sProp 𝕄) = iprop(∃ f, ⌜rdL s f = A⌝ ∗ ptL c (SL s) q f) :=
  congrArg (fun I => (iprop(∃ f, ⌜rdL s f = A⌝ ∗ ptL c I q f) : sProp 𝕄)) (set_slL s)
theorem owns_hfL (c : Dev nD) (s : Fin 2) (q : PosShare TreeShare) (B : S128x8192.Idx → Elt F .f32) :
    (owns (c : Thread nD τ) (hfL BL s) q B : sProp 𝕄) = iprop(∃ f, ⌜bot (rdL s f) = B⌝ ∗ ptL c (HL s) q f) := by
  have h : (fun f : S2x256x8192.Idx → Elt F .f32 => (hfL BL s).view.read (Elt F) f) = fun f => bot (rdL s f) := funext fun f => read_hfL f
  exact (congrArg (fun I => (iprop(∃ f, ⌜(hfL BL s).view.read (Elt F) f = B⌝ ∗ ptL c I q f) : sProp 𝕄)) (set_hfL s)).trans
    (congrArg (fun r : (S2x256x8192.Idx → Elt F .f32) → S128x8192.Idx → Elt F .f32 => (iprop(∃ f, ⌜r f = B⌝ ∗ ptL c (HL s) q f) : sProp 𝕄)) h)

/-- Contents whose halves read the same agree on the half's elements. -/
theorem agreeL {s : Fin 2} {f g : S2x256x8192.Idx → Elt F .f32} (h : bot (rdL s f) = bot (rdL s g)) : ∀ i ∈ HL s, f i = g i := by
  intro i hi
  have h' : (hfL BL s).view.read (Elt F) f = (hfL BL s).view.read (Elt F) g := (read_hfL f).trans (h.trans (read_hfL g).symm)
  rw [← set_hfL] at hi
  obtain ⟨x, -, hx⟩ := Finset.mem_map.mp hi
  have := congrFun h' x
  simp only [View.read] at this
  exact hx ▸ (cast_inj _).mp this

/-- The rest of a left-going slot beside the half that goes on, known to hold the other rows of the chunk `A`. -/
def restL (c : Dev nD) (s : Fin 2) (q : PosShare TreeShare) (A : S256x8192.Idx → Elt F .f32) : sProp 𝕄 :=
  iprop(∃ f, ⌜rdL s f = A⌝ ∗ ptL c (SL s \ HL s) q f)
/-- Slot `s` of the left-going buffer owned at any contents. -/
abbrev slotL (c : Dev nD) (s : Fin 2) : sProp 𝕄 := slot (BL.view.loc (c : Thread nD τ)) (SL s)

theorem splitL (c : Dev nD) (s : Fin 2) (q : PosShare TreeShare) (A : S256x8192.Idx → Elt F .f32) :
    (owns (c : Thread nD τ) (slL BL s) q A : sProp 𝕄) ⊢ iprop(owns (c : Thread nD τ) (hfL BL s) q (bot A) ∗ restL c s q A) := by
  rw [owns_slL, owns_hfL]; unfold restL
  iintro ⟨%f, %hf, H⟩
  ihave H2 := (pointsTo_split_subset (HL_sub s)).1 $$ H
  icases H2 with ⟨H1, H2⟩
  isplitl [H1]
  · iexists f; isplitr
    · ipureintro; rw [hf]
    · iexact H1
  · iexists f; isplitr
    · ipureintro; exact hf
    · iexact H2

theorem joinL (c : Dev nD) (s : Fin 2) (q : PosShare TreeShare) (A : S256x8192.Idx → Elt F .f32) :
    iprop(owns (c : Thread nD τ) (hfL BL s) q (bot A) ∗ restL c s q A) ⊢ (owns (c : Thread nD τ) (slL BL s) q A : sProp 𝕄) := by
  rw [owns_slL, owns_hfL]; unfold restL
  iintro ⟨⟨%g, %hg, H1⟩, ⟨%f, %hf, H2⟩⟩
  iexists f
  isplitr
  · ipureintro; exact hf
  ihave H1' := (Entails.of_eq (pointsTo_congr (f := g) (g := f) (agreeL (hg.trans (congrArg bot hf.symm))))) $$ H1
  iapply (pointsTo_split_subset (HL_sub s)).2
  isplitl [H1'] <;> iassumption

/-- Two parts of a buffer at any contents are their union at some. -/
theorem slot_join {ℓ : Loc nD τ sig} {I J : Finset (Idx ℓ)} (h : Disjoint I J) :
    iprop(slot ℓ I ∗ slot ℓ J) ⊢ (slot ℓ (I ∪ J) : sProp 𝕄) := by
  unfold slot
  iintro ⟨⟨%f, H1⟩, ⟨%g, H2⟩⟩
  iexists (J.piecewise g f)
  iapply (pointsTo_join h)
  isplitl [H1] <;> iassumption

theorem slot_split {ℓ : Loc nD τ sig} {I S : Finset (Idx ℓ)} (h : I ⊆ S) :
    (slot ℓ S : sProp 𝕄) ⊢ iprop(slot ℓ I ∗ slot ℓ (S \ I)) := by
  unfold slot
  iintro ⟨%f, H⟩
  ihave H2 := (pointsTo_split_subset h).1 $$ H
  icases H2 with ⟨H1, H2⟩
  isplitl [H1]
  · iexists f; iexact H1
  · iexists f; iexact H2

theorem slotR_of (c : Dev nD) (s : Fin 3) (A : S256x8192.Idx → Elt F .f32) :
    (owns (c : Thread nD τ) (slR BR s) fullShare A : sProp 𝕄) ⊢ slotR c s := by
  rw [owns_slR]; unfold slotR slot
  iintro ⟨%f, -, H⟩
  iexists f; iexact H

theorem slotL_of (c : Dev nD) (s : Fin 2) (A : S256x8192.Idx → Elt F .f32) :
    (owns (c : Thread nD τ) (slL BL s) fullShare A : sProp 𝕄) ⊢ slotL c s := by
  rw [owns_slL]; unfold slotL slot
  iintro ⟨%f, -, H⟩
  iexists f; iexact H

/-- A received half and the other half at any contents are the slot. -/
theorem slotR_of_half (c : Dev nD) (s : Fin 3) (B : S128x8192.Idx → Elt F .f32) :
    iprop(owns (c : Thread nD τ) (hfR BR s) fullShare B ∗ slot (BR.view.loc (c : Thread nD τ)) (SR s \ HR s)) ⊢ (slotR c s : sProp 𝕄) := by
  rw [owns_hfR]
  iintro ⟨⟨%f, -, H⟩, HR⟩
  ihave H2 := (slot_join (ℓ := BR.view.loc (c : Thread nD τ)) (I := HR s) (J := SR s \ HR s) Finset.disjoint_sdiff) $$ [H HR]
  · isplitl [H]
    · unfold slot; iexists f; iexact H
    · iexact HR
  rw [Finset.union_sdiff_of_subset (HR_sub s)]
  iexact H2

theorem slotL_of_half (c : Dev nD) (s : Fin 2) (B : S128x8192.Idx → Elt F .f32) :
    iprop(owns (c : Thread nD τ) (hfL BL s) fullShare B ∗ slot (BL.view.loc (c : Thread nD τ)) (SL s \ HL s)) ⊢ (slotL c s : sProp 𝕄) := by
  rw [owns_hfL]
  iintro ⟨⟨%f, -, H⟩, HR⟩
  ihave H2 := (slot_join (ℓ := BL.view.loc (c : Thread nD τ)) (I := HL s) (J := SL s \ HL s) Finset.disjoint_sdiff) $$ [H HR]
  · isplitl [H]
    · unfold slot; iexists f; iexact H
    · iexact HR
  rw [Finset.union_sdiff_of_subset (HL_sub s)]
  iexact H2

theorem SR_all : SR 0 ∪ (SR 1 ∪ SR 2) = Finset.univ := by
  ext j
  have := (j 0).isLt
  simp only [Finset.mem_union, mem_SR, Finset.mem_univ, iff_true]
  change (j 0).val < 3 at this
  show (j 0).val = 0 ∨ (j 0).val = 1 ∨ (j 0).val = 2
  omega
theorem SL_all : SL 0 ∪ SL 1 = Finset.univ := by
  ext j
  have := (j 0).isLt
  simp only [Finset.mem_union, mem_SL, Finset.mem_univ, iff_true]
  change (j 0).val < 2 at this
  show (j 0).val = 0 ∨ (j 0).val = 1
  omega
theorem SR_disj {s t : Fin 3} (h : s ≠ t) : Disjoint (SR s) (SR t) := Finset.disjoint_left.mpr fun _ h1 h2 =>
  h (Fin.ext ((mem_SR.mp h1).symm.trans (mem_SR.mp h2)))
theorem SL_disj {s t : Fin 2} (h : s ≠ t) : Disjoint (SL s) (SL t) := Finset.disjoint_left.mpr fun _ h1 h2 =>
  h (Fin.ext ((mem_SL.mp h1).symm.trans (mem_SL.mp h2)))

/-- The right-going buffer at any contents is its three slots at any contents, -/
theorem scrR_split (c : Dev nD) : (slot (BR.view.loc (c : Thread nD τ)) Finset.univ : sProp 𝕄) ⊢ iprop(slotR c 0 ∗ slotR c 1 ∗ slotR c 2) := by
  refine (slot_split (ℓ := BR.view.loc (c : Thread nD τ)) (Finset.subset_univ (SR 0))).trans (sep_mono_right ?_)
  have h1 : SR 1 ⊆ Finset.univ \ SR 0 := fun j hj => Finset.mem_sdiff.mpr ⟨Finset.mem_univ _, Finset.disjoint_left.mp (SR_disj (by decide)) hj⟩
  have e : (Finset.univ \ SR 0) \ SR 1 = SR 2 := by
    ext j
    have := (j 0).isLt
    change (j 0).val < 3 at this
    simp only [Finset.mem_sdiff, mem_SR, Finset.mem_univ, true_and]
    show (¬(j 0).val = 0 ∧ ¬(j 0).val = 1) ↔ (j 0).val = 2
    omega
  exact (slot_split h1).trans (sep_mono_right (Entails.of_eq (congrArg (slot _) e)))
/-- and back. -/
theorem scrR_join (c : Dev nD) : iprop(slotR c 0 ∗ slotR c 1 ∗ slotR c 2) ⊢ (slot (BR.view.loc (c : Thread nD τ)) Finset.univ : sProp 𝕄) := by
  refine (sep_mono_right (slot_join (SR_disj (by decide)))).trans ((slot_join ?_).trans (Entails.of_eq (by rw [SR_all])))
  exact Finset.disjoint_union_right.mpr ⟨SR_disj (by decide), SR_disj (by decide)⟩
theorem scrL_split (c : Dev nD) : (slot (BL.view.loc (c : Thread nD τ)) Finset.univ : sProp 𝕄) ⊢ iprop(slotL c 0 ∗ slotL c 1) := by
  have e : Finset.univ \ SL 0 = SL 1 := by
    ext j
    have := (j 0).isLt
    change (j 0).val < 2 at this
    simp only [Finset.mem_sdiff, mem_SL, Finset.mem_univ, true_and]
    show (¬(j 0).val = 0) ↔ (j 0).val = 1
    omega
  exact (slot_split (ℓ := BL.view.loc (c : Thread nD τ)) (Finset.subset_univ (SL 0))).trans (sep_mono_right (Entails.of_eq (congrArg (slot _) e)))
theorem scrL_join (c : Dev nD) : iprop(slotL c 0 ∗ slotL c 1) ⊢ (slot (BL.view.loc (c : Thread nD τ)) Finset.univ : sProp 𝕄) :=
  (slot_join (SL_disj (by decide))).trans (Entails.of_eq (by rw [SL_all]))

end Logic

/-! ## The result's rows -/

/-- Row `r`, column `n`. -/
def ix2 {N : ℕ} (r : Fin N) (n : Fin 128) : (⟨2, ![N, 128]⟩ : Shape).Idx := fun | 0 => r | 1 => n

/-- Column `i 1` of row `r` of a product of 256 rows. -/
def at256 (y : FVec F S256x128 .f32) (r : ℕ) (h : r < 256) (n : Fin 128) : F .f32 := y (ix2 ⟨r, h⟩ n)
def at128 (y : FVec F S128x128 .f32) (r : ℕ) (h : r < 128) (n : Fin 128) : F .f32 := y (ix2 ⟨r, h⟩ n)

/-- The device whose chunk row `i` of the result multiplies. -/
def org (i : S8192x128.Idx) : Dev nD := ⟨(i 0).val / 256, by have := (i 0).isLt; change (i 0).val < 8192 at this; show _ < 32; omega⟩

/-- The result on a device with weight block `w`, the chunks `X`, and the device `far` whose chunk comes in
    two halves: the rows of each chunk are its product with `w`. -/
def G (X : Dev nD → S256x8192.Idx → Elt F .f32) (w : S8192x128.Idx → Elt F .f32) (far : Dev nD) : S8192x128.Idx → Elt F .f32 := fun i =>
  if org i = far then
    if h : (i 0).val % 256 < 128 then at128 (gemH (top (X (org i))) w) ((i 0).val % 256) h (i 1)
    else at128 (gemH (bot (X (org i))) w) ((i 0).val % 256 - 128) (by omega) (i 1)
  else at256 (gem (X (org i)) w) ((i 0).val % 256) (Nat.mod_lt _ (by decide)) (i 1)

/-- The table word of a device. -/
def wd (d : Dev nD) : BitVec 32 := BitVec.ofNat 32 d.val

theorem off1_wd (d : Dev nD) : k0_off1 (wd d) = ![256 * d.val, 0] := by revert d; decide
theorem off32_wd (d : Dev nD) : k0_off32 (wd d) = ![256 * d.val, 0] := by revert d; decide
theorem off33_wd (d : Dev nD) : k0_off33 (wd d) = ![256 * d.val + 128, 0] := by revert d; decide

/-- `n` rows from row `o` on are written: those rows take the payload, the others keep what they held. -/
theorem rows_write {n o : ℕ} {off : Fin 2 → ℕ} (ho : off = ![o, 0]) (inb : ∀ a, off a + (![n, 128] : Fin 2 → ℕ) a ≤ S8192x128.size a)
    (f : S8192x128.Idx → Elt F .f32) (y : (⟨2, ![n, 128]⟩ : Shape).Idx → Elt F .f32) (i : S8192x128.Idx) :
    (MO.access (Rect.unit (s := S8192x128) off ![n, 128] inb)).write (Elt F) f y Finset.univ i
      = if h : o ≤ (i 0).val ∧ (i 0).val < o + n then y (ix2 ⟨(i 0).val - o, by omega⟩ (i 1)) else f i := by
  subst ho
  by_cases h : o ≤ (i 0).val ∧ (i 0).val < o + n
  · rw [dif_pos h]
    have e : i = (MO.access (Rect.unit (s := S8192x128) ![o, 0] ![n, 128] inb)).emb (ix2 ⟨(i 0).val - o, by omega⟩ (i 1)) := by
      funext a
      refine Fin.ext ?_
      fin_cases a
      · show (i 0).val = o + 1 * ((i 0).val - o); omega
      · show (i 1).val = 0 + 1 * (i 1).val; omega
    conv_lhs => rw [e]
    rw [View.write_emb_of_mem _ _ (Finset.mem_univ _)]
    exact cast_eq _ _
  · rw [dif_neg h]
    refine View.write_of_not_mem _ _ _ ?_
    rw [View.setOn_univ]
    intro hm
    have hm' : i ∈ (Rect.unit (s := S8192x128) ![o, 0] ![n, 128] inb).set := Eq.mp (congrArg (i ∈ ·) (View.set_slice_whole cc0_stg3_0 (Rect.unit (s := S8192x128) ![o, 0] ![n, 128] inb))) hm
    have := Rect.mem_set_unit.mp hm' 0
    exact h this

/-- The result holds the wanted rows `128 n … 128 n + 127`. -/
def okRows (g f : S8192x128.Idx → Elt F .f32) (n : ℕ) : Prop := ∀ i : S8192x128.Idx, (i 0).val / 128 = n → f i = g i

end Cert.Ring
-- ==== Proof.Sched.lean ====
/- The exchange's protocol: who is beside whom on the ring, what each semaphore's units stand for, what each
   device owes, and the facts that travel with the units.

   Device `c` sends right to `rt c` and left to `lf c`. Hop `h` of the right-going ring carries the chunk of
   `lf^[h] c`, hop `h` of the left-going ring the chunk of `rt^[h] c`. Hops 0 to 14 carry whole chunks, hop 15 a
   half each way. A unit on a credit semaphore carries the fact that a slot was released. -/
module

public import proofs.«01_k».proof.Proof.Mem
public import Idealize.ShloMosaic.Lib.Pipeline.TalkSites

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Cert.KernelIdeal Cert.KernelIdeal.Gen

variable {F : FTy → Type} [FloatOps F]

local notation "𝕄" => MT nD τ sig ℕ (Elt F) ℕ UU ℕ

/-! ## The ring -/

/-- The right neighbour. -/
def rt (c : Dev nD) : Dev nD := (![3, 0, 1, 4, 7, 2, 5, 15, 16, 10, 13, 8, 11, 14, 6, 12, 19, 9, 17, 20, 23, 18, 21, 31, 25, 26, 29, 24, 27, 30, 22, 28] : Fin 32 → Fin 32) c
/-- The left neighbour. -/
def lf (c : Dev nD) : Dev nD := (![1, 2, 5, 0, 3, 6, 14, 4, 11, 17, 9, 12, 15, 10, 13, 7, 8, 18, 21, 16, 19, 22, 30, 20, 27, 24, 25, 28, 31, 26, 29, 23] : Fin 32 → Fin 32) c

theorem lf_rt (c : Dev nD) : lf (rt c) = c := by revert c; decide
theorem rt_lf (c : Dev nD) : rt (lf c) = c := by revert c; decide
/-- One step to the right, as a permutation of the devices. -/
def ring : Dev nD ≃ Dev nD := ⟨rt, lf, lf_rt, rt_lf⟩

/-- The device sixteen steps away, either way round. -/
def far (c : Dev nD) : Dev nD := lf^[16] c
theorem far_eq (c : Dev nD) : far c = rt^[16] c := by revert c; decide

theorem lf_it (h : ℕ) (c : Dev nD) : lf^[h + 1] (rt c) = lf^[h] c := by rw [Function.iterate_succ_apply, lf_rt]
theorem rt_it (h : ℕ) (c : Dev nD) : rt^[h + 1] (lf c) = rt^[h] c := by rw [Function.iterate_succ_apply, rt_lf]

/-! ## The semaphores -/

/-- What a semaphore is for; `sr`, `rr`, `sl`, `rl` the send and receive semaphores of the two directions. -/
inductive CK | bar | cr | cl | sr (s : ℕ) | rr (s : ℕ) | sl (s : ℕ) | rl (s : ℕ) | oth

def kindOf : SemLoc sig → CK
  | .reg s => if s.val = 0 then .cr else if s.val = 1 then .cl else .bar
  | .dma s => if s.val < 4 then .oth else if s.val < 7 then .sr (s.val - 4) else if s.val < 10 then .rr (s.val - 7)
      else if s.val < 12 then .sl (s.val - 10) else .rl (s.val - 12)

abbrev bS : Sem sig := (SemArray.scalar (sig.barrier 0 rfl) : Sems sig S_).sem
abbrev crS : Sem sig := (cc0_scratch6 : Sems sig S_).sem
abbrev clS : Sem sig := (cc0_scratch7 : Sems sig S_).sem
abbrev cBar : SemLoc sig := .reg bS
abbrev cCr : SemLoc sig := .reg crS
abbrev cCl : SemLoc sig := .reg clS
/-- The semaphores of hop `h`. -/
abbrev dSr (h : ℕ) : DmaSem sig := sem3 cc0_scratch2 (m3 h)
abbrev dRr (h : ℕ) : DmaSem sig := sem3 cc0_scratch3 (m3 (h + 1))
abbrev dSl (h : ℕ) : DmaSem sig := sem2 cc0_scratch4 (m2 h)
abbrev dRl (h : ℕ) : DmaSem sig := sem2 cc0_scratch5 (m2 (h + 1))

theorem val_Sr (s : Fin 3) : (sem3 cc0_scratch2 s).val = 4 + s.val := by revert s; decide
theorem val_Rr (s : Fin 3) : (sem3 cc0_scratch3 s).val = 7 + s.val := by revert s; decide
theorem val_Sl (s : Fin 2) : (sem2 cc0_scratch4 s).val = 10 + s.val := by revert s; decide
theorem val_Rl (s : Fin 2) : (sem2 cc0_scratch5 s).val = 12 + s.val := by revert s; decide

theorem kind_bar : kindOf cBar = .bar := rfl
theorem kind_cr : kindOf cCr = .cr := rfl
theorem kind_cl : kindOf cCl = .cl := rfl
theorem kind_sr (s : Fin 3) : kindOf (.dma (sem3 cc0_scratch2 s)) = .sr s.val := by
  unfold kindOf; simp only [val_Sr]
  rw [if_neg (by omega), if_pos (by omega)]; congr 1; omega
theorem kind_rr (s : Fin 3) : kindOf (.dma (sem3 cc0_scratch3 s)) = .rr s.val := by
  unfold kindOf; simp only [val_Rr]
  rw [if_neg (by omega), if_neg (by omega), if_pos (by omega)]; congr 1; omega
theorem kind_sl (s : Fin 2) : kindOf (.dma (sem2 cc0_scratch4 s)) = .sl s.val := by
  unfold kindOf; simp only [val_Sl]
  rw [if_neg (by omega), if_neg (by omega), if_neg (by omega), if_pos (by omega)]; congr 1; omega
theorem kind_rl (s : Fin 2) : kindOf (.dma (sem2 cc0_scratch5 s)) = .rl s.val := by
  unfold kindOf; simp only [val_Rl]
  rw [if_neg (by omega), if_neg (by omega), if_neg (by omega), if_neg (by omega)]; congr 1; omega

/-! ## The ghost components -/

abbrev EP : Emb (URounds (GSem nD τ sig) Unit) 𝕄 := embL
abbrev ER : Emb (URounds (GSem nD τ sig) ℕ) 𝕄 := (Emb.inl : Emb _ (URounds (GSem nD τ sig) ℕ × USlots (Dev nD × Fin 5))).trans embR
abbrev ES : Emb (USlots (Dev nD × Fin 5)) 𝕄 := (Emb.inr : Emb _ (URounds (GSem nD τ sig) ℕ × USlots (Dev nD × Fin 5))).trans embR

/-- The key of a slot of the right-going buffer, of the left-going one. -/
def kR (d : Dev nD) (h : ℕ) : Dev nD × Fin 5 := (d, ⟨h % 3, by omega⟩)
def kL (d : Dev nD) (h : ℕ) : Dev nD × Fin 5 := (d, ⟨3 + h % 2, by omega⟩)
/-- The slot of a key. -/
def Sl (k : Dev nD × Fin 5) : sProp 𝕄 :=
  if h : k.2.val < 3 then slotR k.1 ⟨k.2.val, h⟩ else slotL k.1 ⟨k.2.val - 3, by omega⟩
instance Sl_storable (k : Dev nD × Fin 5) : BI.Storable (upEmb : UEmb _ 𝕄) (Sl (F := F) k) := by
  unfold Sl; split <;> infer_instance
theorem Sl_R (d : Dev nD) (h : ℕ) : (Sl (kR d h) : sProp 𝕄) = slotR d (m3 h) := dif_pos (show h % 3 < 3 by omega)
theorem Sl_L (d : Dev nD) (h : ℕ) : (Sl (kL d h) : sProp 𝕄) = slotL d (m2 h) := by
  refine (dif_neg (show ¬ (3 + h % 2 < 3) by omega)).trans ?_
  exact congrArg (slotL d) (Fin.ext (show 3 + h % 2 - 3 = h % 2 by omega))

/-- A cell of a device. -/
abbrev at_ (c : Dev nD) (sm : SemLoc sig) : GSem nD τ sig := ((c : Thread nD τ), sm)

/-- Slot facts: device `e` has made the slot of right-going hop `h` free, and is past the earlier landings on its
    semaphore. -/
def okR (e : Dev nD) (h : ℕ) : sProp 𝕄 := iprop(released ES (kR e (h + 1)) (h / 3 + 1) ∗ reached ER (at_ e (.dma (dRr h))) (h / 3))
def okL (e : Dev nD) (h : ℕ) : sProp 𝕄 := iprop(released ES (kL e (h + 1)) (h / 2 + 1) ∗ reached ER (at_ e (.dma (dRl h))) (h / 2))
/-- The same of all hops before `n`. -/
def okRs (e : Dev nD) (n : ℕ) : sProp 𝕄 := bigSep (Finset.range n) fun h => okR e h
def okLs (e : Dev nD) (n : ℕ) : sProp 𝕄 := bigSep (Finset.range n) fun h => okL e h

instance okR_pers (e : Dev nD) (h : ℕ) : BI.Persistent (okR (F := F) e h) := by unfold okR; infer_instance
instance okL_pers (e : Dev nD) (h : ℕ) : BI.Persistent (okL (F := F) e h) := by unfold okL; infer_instance
instance okRs_pers (e : Dev nD) (n : ℕ) : BI.Persistent (okRs (F := F) e n) := by unfold okRs; infer_instance
instance okLs_pers (e : Dev nD) (n : ℕ) : BI.Persistent (okLs (F := F) e n) := by unfold okLs; infer_instance
instance okRs_stor (e : Dev nD) (n : ℕ) : BI.Storable (upEmb : UEmb _ 𝕄) (okRs (F := F) e n) := by unfold okRs okR; infer_instance
instance okLs_stor (e : Dev nD) (n : ℕ) : BI.Storable (upEmb : UEmb _ 𝕄) (okLs (F := F) e n) := by unfold okLs okL; infer_instance

theorem okRs_get {e : Dev nD} {h n : ℕ} (hn : h < n) : okRs e n ⊢ (okR e h : sProp 𝕄) := bigSep_elim (Finset.mem_range.mpr hn)
theorem okLs_get {e : Dev nD} {h n : ℕ} (hn : h < n) : okLs e n ⊢ (okL e h : sProp 𝕄) := bigSep_elim (Finset.mem_range.mpr hn)
theorem okRs_succ (e : Dev nD) (n : ℕ) : iprop(okRs e n ∗ okR e n) ⊢ (okRs e (n + 1) : sProp 𝕄) := by
  have e2 : (okRs e (n + 1) : sProp 𝕄) = iprop(okR e n ∗ okRs e n) := by
    unfold okRs
    rw [Finset.range_add_one, bigSep_insert Finset.notMem_range_self]; rfl
  rw [e2]
  iintro ⟨H1, H2⟩
  isplitl [H2] <;> iassumption
theorem okLs_succ (e : Dev nD) (n : ℕ) : iprop(okLs e n ∗ okL e n) ⊢ (okLs e (n + 1) : sProp 𝕄) := by
  have e2 : (okLs e (n + 1) : sProp 𝕄) = iprop(okL e n ∗ okLs e n) := by
    unfold okLs
    rw [Finset.range_add_one, bigSep_insert Finset.notMem_range_self]; rfl
  rw [e2]
  iintro ⟨H1, H2⟩
  isplitl [H2] <;> iassumption

/-! ## The payloads -/

/-- The share of a chunk that rides with a copy, and the one kept. -/
abbrev qS : PosShare TreeShare := (fullShare : PosShare TreeShare).left
abbrev qK : PosShare TreeShare := (fullShare : PosShare TreeShare).right

variable (X : Dev nD → S256x8192.Idx → Elt F .f32)

/-- At the entry: device `e` tells its neighbours that its slots are free. -/
def payBar (e : Dev nD) : sProp 𝕄 := iprop(okRs e 3 ∗ okLs e 2 ∗ reached ER (at_ e cCr) 0 ∗ reached ER (at_ e cCl) 0)
/-- Back to the sender of right-going hop `h`: the share of what was sent. -/
def paySR (c : Dev nD) (h : ℕ) : sProp 𝕄 :=
  if h = 0 then owns (c : Thread nD τ) MX qS (X c)
  else if h ≤ 14 then owns (c : Thread nD τ) (slR BR (m3 h)) qS (X (lf^[h] c))
  else owns (c : Thread nD τ) (hfR BR (m3 h)) qS (top (X (lf^[h] c)))
/-- To the receiver of right-going hop `h`: the slot with the chunk in it. -/
def payRR (c : Dev nD) (h : ℕ) : sProp 𝕄 :=
  if h ≤ 14 then owns (c : Thread nD τ) (slR BR (m3 (h + 1))) fullShare (X (lf^[h + 1] c))
  else iprop(owns (c : Thread nD τ) (hfR BR (m3 (h + 1))) fullShare (top (X (lf^[h + 1] c)))
    ∗ slot (BR.view.loc (c : Thread nD τ)) (SR (m3 (h + 1)) \ HR (m3 (h + 1))))
def paySL (c : Dev nD) (h : ℕ) : sProp 𝕄 :=
  if h = 0 then owns (c : Thread nD τ) MX qK.left (X c)
  else if h ≤ 14 then owns (c : Thread nD τ) (slL BL (m2 h)) qS (X (rt^[h] c))
  else owns (c : Thread nD τ) (hfL BL (m2 h)) qS (bot (X (rt^[h] c)))
def payRL (c : Dev nD) (h : ℕ) : sProp 𝕄 :=
  if h ≤ 14 then owns (c : Thread nD τ) (slL BL (m2 (h + 1))) fullShare (X (rt^[h + 1] c))
  else iprop(owns (c : Thread nD τ) (hfL BL (m2 (h + 1))) fullShare (bot (X (rt^[h + 1] c)))
    ∗ slot (BL.view.loc (c : Thread nD τ)) (SL (m2 (h + 1)) \ HL (m2 (h + 1))))

/-- The units of a whole chunk's copy, of half a chunk's. -/
def NF : ℕ := (slR BR 0).view.dmaCredit
def NH : ℕ := (hfR BR 0).view.dmaCredit
def amtH (h : ℕ) : ℕ := if h ≤ 14 then NF else NH
theorem NF_pos : 0 < NF := View.dmaCredit_pos _ (by decide)
theorem NH_pos : 0 < NH := View.dmaCredit_pos _ (by decide)
theorem amtH_pos (h : ℕ) : 0 < amtH h := by unfold amtH; split; exacts [NF_pos, NH_pos]

def dutC : CK → ℕ → Finset ℕ
  | .bar, r => if r = 0 then {0, 1} else ∅
  | .cr, r => if r = 0 then Finset.range 13 else ∅
  | .cl, r => if r = 0 then Finset.range 14 else ∅
  | .sr s, r => if 3 * r + s ≤ 15 then {0} else ∅
  | .rr s, r => if 3 * r + (s + 2) % 3 ≤ 15 then {0} else ∅
  | .sl s, r => if 2 * r + s ≤ 15 then {0} else ∅
  | .rl s, r => if 2 * r + (s + 1) % 2 ≤ 15 then {0} else ∅
  | .oth, _ => ∅
def amtC : CK → ℕ → ℕ
  | .sr s, r => amtH (3 * r + s)
  | .rr s, r => amtH (3 * r + (s + 2) % 3)
  | .sl s, r => amtH (2 * r + s)
  | .rl s, r => amtH (2 * r + (s + 1) % 2)
  | _, _ => 1
def payC (c : Dev nD) : CK → ℕ → ℕ → sProp 𝕄
  | .bar, _, d => payBar (if d = 0 then lf c else rt c)
  | .cr, _, d => okRs (rt c) (d + 4)
  | .cl, _, d => okLs (lf c) (d + 3)
  | .sr s, r, _ => paySR X c (3 * r + s)
  | .rr s, r, _ => payRR X c (3 * r + (s + 2) % 3)
  | .sl s, r, _ => paySL X c (2 * r + s)
  | .rl s, r, _ => payRL X c (2 * r + (s + 1) % 2)
  | .oth, _, _ => iprop(emp)

/-- The schedule of all the exchange's semaphores. -/
def Rd : Rounds.Schedule (GSem nD τ sig) ℕ 𝕄 where
  duties g r := dutC (kindOf g.2) r
  unitless _ := False
  amount g r _ := amtC (kindOf g.2) r
  payload g r d := payC X g.1.1 (kindOf g.2) r d
  amount_pos g r _ _ := by
    cases h : kindOf g.2 <;> first | exact amtH_pos _ | exact Nat.one_pos

instance Rd_payload_storable (g : GSem nD τ sig) (r d : ℕ) : BI.Storable (upEmb : UEmb _ 𝕄) ((Rd X).payload g r d) := by
  show BI.Storable upEmb (payC X g.1.1 (kindOf g.2) r d)
  cases kindOf g.2 <;> unfold payC <;> (try unfold payBar) <;> (try unfold paySR) <;> (try unfold payRR) <;> (try unfold paySL) <;> (try unfold payRL) <;> (repeat' split) <;> infer_instance

section Tables
variable (c : Dev nD) (h : ℕ)

theorem hop_sr : 3 * (h / 3) + (m3 h).val = h := Nat.div_add_mod h 3
theorem hop_rr : 3 * (h / 3) + ((m3 (h + 1)).val + 2) % 3 = h := by show 3 * (h / 3) + ((h + 1) % 3 + 2) % 3 = h; omega
theorem hop_sl : 2 * (h / 2) + (m2 h).val = h := Nat.div_add_mod h 2
theorem hop_rl : 2 * (h / 2) + ((m2 (h + 1)).val + 1) % 2 = h := by show 2 * (h / 2) + ((h + 1) % 2 + 1) % 2 = h; omega

theorem dut_sr (hh : h ≤ 15) : (Rd X).duties (at_ c (.dma (dSr h))) (h / 3) = {0} := by
  show dutC (kindOf _) _ = _; rw [kind_sr]; exact if_pos (by rw [hop_sr]; exact hh)
theorem dut_rr (hh : h ≤ 15) : (Rd X).duties (at_ c (.dma (dRr h))) (h / 3) = {0} := by
  show dutC (kindOf _) _ = _; rw [kind_rr]; exact if_pos (by rw [hop_rr]; exact hh)
theorem dut_sl (hh : h ≤ 15) : (Rd X).duties (at_ c (.dma (dSl h))) (h / 2) = {0} := by
  show dutC (kindOf _) _ = _; rw [kind_sl]; exact if_pos (by rw [hop_sl]; exact hh)
theorem dut_rl (hh : h ≤ 15) : (Rd X).duties (at_ c (.dma (dRl h))) (h / 2) = {0} := by
  show dutC (kindOf _) _ = _; rw [kind_rl]; exact if_pos (by rw [hop_rl]; exact hh)
theorem amt_sr (d : ℕ) : (Rd X).amount (at_ c (.dma (dSr h))) (h / 3) d = amtH h := by
  show amtC (kindOf _) _ = _; rw [kind_sr]; exact congrArg amtH (hop_sr h)
theorem amt_rr (d : ℕ) : (Rd X).amount (at_ c (.dma (dRr h))) (h / 3) d = amtH h := by
  show amtC (kindOf _) _ = _; rw [kind_rr]; exact congrArg amtH (hop_rr h)
theorem amt_sl (d : ℕ) : (Rd X).amount (at_ c (.dma (dSl h))) (h / 2) d = amtH h := by
  show amtC (kindOf _) _ = _; rw [kind_sl]; exact congrArg amtH (hop_sl h)
theorem amt_rl (d : ℕ) : (Rd X).amount (at_ c (.dma (dRl h))) (h / 2) d = amtH h := by
  show amtC (kindOf _) _ = _; rw [kind_rl]; exact congrArg amtH (hop_rl h)
theorem pay_sr (d : ℕ) : (Rd X).payload (at_ c (.dma (dSr h))) (h / 3) d = paySR X c h := by
  show payC X c (kindOf _) _ _ = _; rw [kind_sr]; exact congrArg (paySR X c) (hop_sr h)
theorem pay_rr (d : ℕ) : (Rd X).payload (at_ c (.dma (dRr h))) (h / 3) d = payRR X c h := by
  show payC X c (kindOf _) _ _ = _; rw [kind_rr]; exact congrArg (payRR X c) (hop_rr h)
theorem pay_sl (d : ℕ) : (Rd X).payload (at_ c (.dma (dSl h))) (h / 2) d = paySL X c h := by
  show payC X c (kindOf _) _ _ = _; rw [kind_sl]; exact congrArg (paySL X c) (hop_sl h)
theorem pay_rl (d : ℕ) : (Rd X).payload (at_ c (.dma (dRl h))) (h / 2) d = payRL X c h := by
  show payC X c (kindOf _) _ _ = _; rw [kind_rl]; exact congrArg (payRL X c) (hop_rl h)

theorem dut_bar : (Rd X).duties (at_ c cBar) 0 = {0, 1} := rfl
theorem dut_cr : (Rd X).duties (at_ c cCr) 0 = Finset.range 13 := rfl
theorem dut_cl : (Rd X).duties (at_ c cCl) 0 = Finset.range 14 := rfl
theorem amt_bar (d : ℕ) : (Rd X).amount (at_ c cBar) 0 d = 1 := rfl
theorem amt_cr (d : ℕ) : (Rd X).amount (at_ c cCr) 0 d = 1 := rfl
theorem amt_cl (d : ℕ) : (Rd X).amount (at_ c cCl) 0 d = 1 := rfl
theorem pay_bar (d : ℕ) : (Rd X).payload (at_ c cBar) 0 d = payBar (if d = 0 then lf c else rt c) := rfl
theorem pay_cr (d : ℕ) : (Rd X).payload (at_ c cCr) 0 d = okRs (rt c) (d + 4) := rfl
theorem pay_cl (d : ℕ) : (Rd X).payload (at_ c cCl) 0 d = okLs (lf c) (d + 3) := rfl

/-- No duties beyond hop 15, none on the regular semaphores after round 0. -/
theorem end_sr (hh : 15 < h) : ∀ r, h / 3 ≤ r → (Rd X).duties (at_ c (.dma (dSr h))) r = ∅ := fun r hr => by
  show dutC (kindOf _) _ = _; rw [kind_sr]; exact if_neg (by show ¬ 3 * r + h % 3 ≤ 15; omega)
theorem end_rr (hh : 15 < h) : ∀ r, h / 3 ≤ r → (Rd X).duties (at_ c (.dma (dRr h))) r = ∅ := fun r hr => by
  show dutC (kindOf _) _ = _; rw [kind_rr]; exact if_neg (by show ¬ 3 * r + ((h + 1) % 3 + 2) % 3 ≤ 15; omega)
theorem end_sl (hh : 15 < h) : ∀ r, h / 2 ≤ r → (Rd X).duties (at_ c (.dma (dSl h))) r = ∅ := fun r hr => by
  show dutC (kindOf _) _ = _; rw [kind_sl]; exact if_neg (by show ¬ 2 * r + h % 2 ≤ 15; omega)
theorem end_rl (hh : 15 < h) : ∀ r, h / 2 ≤ r → (Rd X).duties (at_ c (.dma (dRl h))) r = ∅ := fun r hr => by
  show dutC (kindOf _) _ = _; rw [kind_rl]; exact if_neg (by show ¬ 2 * r + ((h + 1) % 2 + 1) % 2 ≤ 15; omega)
theorem end_bar : ∀ r, 1 ≤ r → (Rd X).duties (at_ c cBar) r = ∅ := fun r hr => if_neg (by omega)
theorem end_cr : ∀ r, 1 ≤ r → (Rd X).duties (at_ c cCr) r = ∅ := fun r hr => if_neg (by omega)
theorem end_cl : ∀ r, 1 ≤ r → (Rd X).duties (at_ c cCl) r = ∅ := fun r hr => if_neg (by omega)

end Tables

/-! ## What a device owes -/

/-- The acts by which a device pays: the two entry signals, the hops of either direction, the credits. -/
inductive Act | bL | bR | sR (h : ℕ) | sL (h : ℕ) | cR (h : ℕ) | cL (h : ℕ)

/-- The device an act is addressed to. -/
def Act.to (c : Dev nD) : Act → Dev nD
  | .bL | .sL _ | .cR _ => lf c
  | .bR | .sR _ | .cL _ => rt c
/-- Its semaphore there, its place in the order of the program, its units, its round and duty. -/
def Act.sm : Act → SemLoc sig
  | .bL | .bR => cBar
  | .sR h => .dma (dRr h)
  | .sL h => .dma (dRl h)
  | .cR _ => cCr
  | .cL _ => cCl
def Act.idx : Act → ℕ
  | .bL | .bR => 1
  | .sR h => 10 * h + 3
  | .sL h => 10 * h + 8
  | .cR h => 10 * h + 10
  | .cL h => 10 * h + 6
def Act.amt : Act → ℕ
  | .sR h | .sL h => amtH h
  | _ => 1
def Act.rnd : Act → ℕ
  | .sR h => h / 3
  | .sL h => h / 2
  | _ => 0
def Act.dut : Act → ℕ
  | .bL => 1
  | .cR h | .cL h => h - 2
  | _ => 0

def Act.pay (c : Dev nD) (a : Act) : Pay nD τ sig := (at_ (a.to c) a.sm, a.idx, a.amt)
def Act.tok (c : Dev nD) (a : Act) : sProp 𝕄 := dutyTok ER (at_ (a.to c) a.sm) a.rnd a.dut

/-- The acts of `n` middle hops from hop `h` on, followed by `l`. -/
def mid : ℕ → ℕ → List Act → List Act
  | 0, _, l => l
  | n + 1, h, l => .sR h :: .cL h :: .sL h :: .cR h :: mid n (h + 1) l
def planEnd : List Act := [.sR 15, .cL 15, .sL 15]
/-- All acts of a device in the order of the program. -/
def plan : List Act := .bL :: .bR :: .sR 0 :: .sL 0 :: .sR 1 :: .sL 1 :: mid 13 2 planEnd

/-- What is owed while the acts `l` are still to come. -/
def owed (c : Dev nD) (l : List Act) : CellTallies nD τ sig ℕ := tallyL (l.map (Act.pay c))
theorem owed_cons (c : Dev nD) (a : Act) (l : List Act) : owed c (a :: l) = owed c l + tallyAt (at_ (a.to c) a.sm) a.idx a.amt :=
  add_comm _ _

/-- All the acts of a list come after place `i`. -/
def after (i : ℕ) (l : List Act) : Prop := ∀ a ∈ l, i < a.idx ∧ a.idx < 200

theorem after_mid {i h : ℕ} : ∀ {n : ℕ} {l : List Act}, i ≤ 10 * h + 2 → h + n ≤ 19 → after i l → after i (mid n h l)
  | 0, _, _, _, hl => hl
  | n + 1, l, hi, hn, hl => by
    have ih := after_mid (i := i) (h := h + 1) (n := n) (l := l) (by omega) (by omega) hl
    intro a ha
    simp only [mid, List.mem_cons] at ha
    rcases ha with rfl | rfl | rfl | rfl | ha
    · exact ⟨by show i < 10 * h + 3; omega, by show 10 * h + 3 < 200; omega⟩
    · exact ⟨by show i < 10 * h + 6; omega, by show 10 * h + 6 < 200; omega⟩
    · exact ⟨by show i < 10 * h + 8; omega, by show 10 * h + 8 < 200; omega⟩
    · exact ⟨by show i < 10 * h + 10; omega, by show 10 * h + 10 < 200; omega⟩
    · exact ih a ha
theorem after_cons {i : ℕ} {a : Act} {l : List Act} (h : i < a.idx) (h' : a.idx < 200) (hl : after i l) : after i (a :: l) := fun b hb => by
  rcases List.mem_cons.mp hb with rfl | hb
  · exact ⟨h, h'⟩
  · exact hl b hb
theorem after_nil (i : ℕ) : after i [] := fun _ h => absurd h List.not_mem_nil
theorem after_mono {i j : ℕ} {l : List Act} (h : i ≤ j) (hl : after j l) : after i l := fun a ha => ⟨lt_of_le_of_lt h (hl a ha).1, (hl a ha).2⟩
theorem after_end {i : ℕ} (h : i ≤ 152) : after i planEnd :=
  after_cons (show i < 10 * 15 + 3 by omega) (by decide) (after_cons (show i < 10 * 15 + 6 by omega) (by decide)
    (after_cons (show i < 10 * 15 + 8 by omega) (by decide) (after_nil i)))

abbrev LV : GSem nD τ sig → Finset ℕ := SiteBlocks.L 200
abbrev lvl : GSem nD τ sig → ℕ → ℕ := SiteBlocks.lv

/-- A device may wait at place `i` while it owes only acts that come later. -/
theorem mayWait (c : Dev nD) (sm : SemLoc sig) {i : ℕ} {l : List Act} (hi : i < 200) (hl : after i l) :
    (levAts LV lvl : sProp 𝕄) ⊢ MayWait (c : Thread nD τ) sm i (owed c l) :=
  SiteBlocks.mayWait_of hi c sm _ fun g k h => by
    obtain ⟨x, hx, rfl, rfl⟩ := tallyL_pos h
    obtain ⟨a, ha, rfl⟩ := List.mem_map.mp hx
    exact ⟨SiteBlocks.mem_L' rfl (hl a ha).2, (hl a ha).1⟩

end Cert.Ring
-- ==== Proof.Steps.lean ====
/- One step of the exchange at a time: a wait for a copy, a credit given or taken, a copy sent, a chunk's product
   stored. Each is stated with what it takes and what it leaves. -/
module

public import proofs.«01_k».proof.Proof.Sched

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Cert.KernelIdeal Cert.KernelIdeal.Gen

variable {F : FTy → Type} [FloatOps F]

local notation "𝕄" => MT nD τ sig ℕ (Elt F) ℕ UU ℕ

abbrev 𝒱₀ : Variants := Variants.none

/-- A program of device `c`'s thread runs to `Q`. -/
abbrev WP {α : Type} (c : Dev nD) (p : P F α) (Q : α → sProp 𝕄) : sProp 𝕄 :=
  wp frame (wpE (defs₀ (F := F)) 𝒱₀ (c : Thread nD τ) none) Set.univ p Q

theorem WP_bind {α β : Type} (c : Dev nD) (p : P F α) (k : α → P F β) (Q : β → sProp 𝕄) :
    WP c (p >>= k) Q = WP c p (fun a => WP c (k a) Q) := wp_bind _ _ _ _ _ _

/-- Device `c` owes `O`. -/
def ow (c : Dev nD) (O : CellTallies nD τ sig ℕ) : sProp 𝕄 := iprop(∃ W, owes (c : Thread nD τ) O W)

variable (X : Dev nD → S256x8192.Idx → Elt F .f32)

/-! ## Waiting for a copy -/

/-- A wait for all the units of a round with one duty: the duty's payload comes with them. -/
theorem step_wait {s : Shape} (src dst : Memref sig .tc .vmem s .f32) (hs : src.view.WordExact) (hd : dst.view.WordExact)
    (c : Dev nD) (sm : DmaSem sig) (r i n : ℕ) (l : List Act) (κ : ℕ)
    (h1 : (Rd X).duties (at_ c (.dma sm)) r = {0}) (h2 : (Rd X).amount (at_ c (.dma sm)) r 0 = n) (h3 : dst.view.dmaCredit = n)
    (hi : i < 200) (hl : after i l) (Q : PUnit → sProp 𝕄) :
    iprop((cellInv ER (Rd X) κ (at_ c (.dma sm)) ∗ levAts LV lvl ∗ cred (tallyAt (at_ c (.dma sm)) i n) ∗ ow c (owed c l)
        ∗ atPos ER (at_ c (.dma sm)) r ∅ 0)
      ∗ ((ow c (owed c l) ∗ atPos ER (at_ c (.dma sm)) (r + 1) ∅ 0 ∗ reached ER (at_ c (.dma sm)) (r + 1)
          ∗ (Rd X).payload (at_ c (.dma sm)) r 0) -∗ Q ⟨⟩))
      ⊢ WP c (wait src dst hs hd sm) Q := by
  have he : (Rd X).expect (at_ c (.dma sm)) r = n := by
    unfold Schedule.expect Schedule.amountOf; rw [h1, Finset.sum_singleton, h2]
  have hp : bigSep ((Rd X).duties (at_ c (.dma sm)) r \ ∅) (fun u => (Rd X).payload (at_ c (.dma sm)) r u)
      = (Rd X).payload (at_ c (.dma sm)) r 0 := by rw [Finset.sdiff_empty, h1, bigSep_singleton]
  subst h3
  unfold ow
  iintro ⟨⟨#HI, #Hlev, Hc, ⟨%W, HO⟩, Hat⟩, Hk⟩
  iapply (Rounds.wp_wait_rest_token 𝒱₀ ER (Rd X) (c : Thread nD τ) none (κ := κ)
      (wpE_waitDma2_eq 𝒱₀ (c : Thread nD τ) none Set.univ) (Set.mem_univ _) i (O := owed c l) (W := W) (R := r) (m := 0) (T := ∅)
      ((Nat.zero_add _).trans he.symm)) $$ [Hc HO Hat]
  · isplitr; · iexact HI
    isplitl [Hc]; · iexact Hc
    isplitl [HO]; · iexact HO
    isplitr; · iapply (mayWait c _ hi hl); iexact Hlev
    iexact Hat
  iintro ⟨HO, Hat, Hr, Hpay⟩
  ihave Hpay := (Entails.of_eq hp) $$ Hpay
  rw [wp_ret]
  imodintro
  iapply Hk
  isplitl [HO]; · iexists _; iexact HO
  isplitl [Hat]; · iexact Hat
  isplitl [Hr]; · iexact Hr
  iexact Hpay

/-! ## Credits -/

/-- A unit given to a semaphore, with the fact it stands for. -/
theorem step_signal (c d : Dev nD) (sm : Sem sig) (r i u κ : ℕ) (l : List Act) (O : CellTallies nD τ sig ℕ)
    (h1 : u ∈ (Rd X).duties (at_ d (.reg sm)) r) (h2 : (Rd X).amount (at_ d (.reg sm)) r u = 1)
    (hO : O = owed c l + tallyAt (at_ d (.reg sm)) i 1) (Q : PUnit → sProp 𝕄) :
    iprop((cellInv ER (Rd X) κ (at_ d (.reg sm)) ∗ ow c O ∗ dutyTok ER (at_ d (.reg sm)) r u ∗ (Rd X).payload (at_ d (.reg sm)) r u
        ∗ reached ER (at_ d (.reg sm)) r)
      ∗ (ow c (owed c l) -∗ Q ⟨⟩))
      ⊢ WP c (semSignalWord d sm 1#32) Q := by
  unfold ow
  iintro ⟨⟨#HI, ⟨%W, HO⟩, Ht, Hp, Hr⟩, Hk⟩
  iapply (Rounds.wp_signal 𝒱₀ ER (Rd X) (c : Thread nD τ) none (dst := (d : Thread nD τ)) (sem := sm) (r := r) (d := u) (κ := κ)
      (k' := 1) h1 h2 i (owed c l) hO) $$ [HO Ht Hp Hr]
  · isplitr; · iexact HI
    isplitl [HO]; · iexact HO
    isplitl [Ht]; · iexact Ht
    isplitl [Hp]; · iexact Hp
    iexact Hr
  iintro HO
  rw [wp_ret]
  imodintro
  iapply Hk
  iexists _; iexact HO

/-- `i` units of a credit semaphore are taken: at least that many of its duties are known paid, and their facts
    are at hand. -/
def credSt (c : Dev nD) (sm : Sem sig) (N : ℕ) (Φ : ℕ → sProp 𝕄) (i : ℕ) : sProp 𝕄 :=
  iprop(∃ S : Finset ℕ, ⌜S ⊆ Finset.range N ∧ i ≤ S.card⌝ ∗ atPos ER (at_ c (.reg sm)) 0 S i ∗ bigSep S Φ)

theorem credSt_init (c : Dev nD) (sm : Sem sig) (N : ℕ) (Φ : ℕ → sProp 𝕄) :
    (atPos ER (at_ c (.reg sm)) 0 ∅ 0 : sProp 𝕄) ⊢ credSt c sm N Φ 0 := by
  unfold credSt
  iintro H
  iexists ∅
  isplitr; · ipureintro; exact ⟨Finset.empty_subset _, le_refl _⟩
  isplitl [H]; · iexact H
  rw [bigSep_empty]; iempintro

theorem step_credit (c : Dev nD) (sm : Sem sig) (N i j κ : ℕ) (Φ : ℕ → sProp 𝕄) (l : List Act)
    (h1 : (Rd X).duties (at_ c (.reg sm)) 0 = Finset.range N) (h2 : ∀ d, (Rd X).amount (at_ c (.reg sm)) 0 d = 1)
    (h3 : ∀ d, (Rd X).payload (at_ c (.reg sm)) 0 d = Φ d) (hj : j < 200) (hl : after j l) (Q : PUnit → sProp 𝕄) :
    iprop((cellInv ER (Rd X) κ (at_ c (.reg sm)) ∗ levAts LV lvl ∗ cred (tallyAt (at_ c (.reg sm)) j 1) ∗ ow c (owed c l)
        ∗ credSt c sm N Φ i)
      ∗ ((ow c (owed c l) ∗ credSt c sm N Φ (i + 1)) -∗ Q ⟨⟩))
      ⊢ WP c (semWaitWord sm 1#32) Q := by
  have he : (Rd X).expect (at_ c (.reg sm)) 0 = N := by
    unfold Schedule.expect Schedule.amountOf; rw [h1, Finset.sum_congr rfl fun d _ => h2 d]; simp
  unfold ow credSt
  iintro ⟨⟨#HI, #Hlev, Hc, ⟨%W, HO⟩, ⟨%S, %hS, Hat, HS⟩⟩, Hk⟩
  iapply (Rounds.wp_wait 𝒱₀ ER (Rd X) (c : Thread nD τ) none (κ := κ) (k' := 1)
      (wpE_semWait_eq 𝒱₀ (c : Thread nD τ) none Set.univ) (Set.mem_univ _) (cr := Finsupp.single j 1) (O := owed c l) (W := W)
      {(SemLoc.reg sm, j)} (R := 0) (m := i) (T := S) (by simp)
      (fun p hp => by
        obtain ⟨q, hq, rfl⟩ := Finset.mem_image.mp hp
        rw [Finsupp.mem_support_iff, Finsupp.single_apply] at hq
        by_cases e : j = q
        · subst e; exact Finset.mem_singleton_self _
        · rw [if_neg e] at hq; exact absurd rfl hq)) $$ [Hc HO Hat]
  · isplitr; · iexact HI
    isplitl [Hc]; · iexact Hc
    isplitl [HO]; · iexact HO
    isplitr; · iapply (mayWait c _ hj hl); iexact Hlev
    iexact Hat
  iintro %S' ⟨%hS', HO, Hat, Hpay⟩
  rw [wp_ret]
  imodintro
  iapply Hk
  isplitl [HO]; · iexists _; iexact HO
  iexists S'
  have hsub : S' ⊆ Finset.range N := h1 ▸ hS'.2.1
  isplitr
  · ipureintro
    refine ⟨hsub, ?_⟩
    have h := hS'.2.2
    rw [he, h1, Finset.card_sdiff_of_subset hsub, Finset.card_range] at h
    have := Finset.card_le_card hsub
    rw [Finset.card_range] at this
    omega
  isplitl [Hat]; · iexact Hat
  have e : (bigSep S' Φ : sProp 𝕄) = iprop(bigSep S Φ ∗ bigSep (S' \ S) Φ) := by
    have e' := bigSep_union (Φ := Φ) (Finset.disjoint_sdiff (s := S) (t := S'))
    rw [Finset.union_sdiff_of_subset hS'.1] at e'
    exact e'
  rw [e]
  isplitl [HS]; · iexact HS
  have e3 : (bigSep (S' \ S) (fun d => (Rd X).payload (at_ c (.reg sm)) 0 d) : sProp 𝕄) = bigSep (S' \ S) Φ :=
    congrArg (bigSep (S' \ S)) (funext h3)
  iapply (Entails.of_eq e3); iexact Hpay

/-- Of `i` facts one is of a duty numbered `i - 1` or higher. -/
theorem credSt_get (c : Dev nD) (sm : Sem sig) (N i : ℕ) (Φ : ℕ → sProp 𝕄) [∀ d, BI.Persistent (Φ d)] (hi : 0 < i) :
    credSt c sm N Φ i ⊢ iprop(∃ d, ⌜i - 1 ≤ d⌝ ∗ Φ d) := by
  unfold credSt
  iintro ⟨%S, %hS, -, HS⟩
  have : ∃ d ∈ S, i - 1 ≤ d := by
    by_contra hn
    push Not at hn
    have : S ⊆ Finset.range (i - 1) := fun d hd => Finset.mem_range.mpr (hn d hd)
    have := Finset.card_le_card this
    rw [Finset.card_range] at this
    omega
  obtain ⟨d, hd, hle⟩ := this
  iexists d
  isplitr; · ipureintro; exact hle
  ihave HS := (show bigSep S Φ ⊢ (Φ d : sProp 𝕄) from bigSep_elim hd) $$ HS
  iexact HS

/-- All units taken, the semaphore's round is over. -/
theorem credSt_end (c : Dev nD) (sm : Sem sig) (N κ : ℕ) (Φ : ℕ → sProp 𝕄)
    (h1 : (Rd X).duties (at_ c (.reg sm)) 0 = Finset.range N) (h2 : ∀ d, (Rd X).amount (at_ c (.reg sm)) 0 d = 1)
    (h4 : ∀ r, 1 ≤ r → (Rd X).duties (at_ c (.reg sm)) r = ∅) :
    iprop(cellInv ER (Rd X) κ (at_ c (.reg sm)) ∗ credSt c sm N Φ N) ⊢ (|={Set.univ}=> semVal (at_ c (.reg sm)) 0 : sProp 𝕄) := by
  have he : (Rd X).expect (at_ c (.reg sm)) 0 = N := by
    unfold Schedule.expect Schedule.amountOf; rw [h1, Finset.sum_congr rfl fun d _ => h2 d]; simp
  unfold credSt
  iintro ⟨#HI, ⟨%S, %hS, Hat, -⟩⟩
  have e : S = Finset.range N := Finset.eq_of_subset_of_card_le hS.1 (by rw [Finset.card_range]; exact hS.2)
  imod (Rounds.fupd_skip ER (Rd X) (κ := κ) (R := 0) (T := S) (m := N) (by rw [h1, e]) he.symm (Set.mem_univ _)) $$ [Hat] with ⟨Hat, -⟩
  · isplitr; · iexact HI
    iexact Hat
  iapply (Rounds.cell_close ER (Rd X) (Set.mem_univ κ) id h4)
  isplitr; · iexact HI
  iexact Hat

/-! ## Sending -/

/-- A copy to a neighbour: the source's share and the destination go with it. -/
theorem step_send {s : Shape} (src dst : Memref sig .tc .vmem s .f32) (hs : src.view.WordExact) (hd : dst.view.WordExact)
    (c e : Dev nD) (ss rs : DmaSem sig) (r₁ r₂ i n κ₁ κ₂ : ℕ) (l : List Act) (O : CellTallies nD τ sig ℕ)
    (q : PosShare TreeShare) (A : s.Idx → Elt F .f32) (D Fr : sProp 𝕄)
    (h1 : (Rd X).duties (at_ c (.dma ss)) r₁ = {0}) (h2 : (Rd X).amount (at_ c (.dma ss)) r₁ 0 = n)
    (h3 : (Rd X).duties (at_ e (.dma rs)) r₂ = {0}) (h4 : (Rd X).amount (at_ e (.dma rs)) r₂ 0 = n)
    (h5 : dst.view.dmaCredit = n) (hO : O = owed c l + tallyAt (at_ e (.dma rs)) i n)
    (hD : D ⊢ iprop((∃ fd, dst.view.loc (e : Thread nD τ) ↦[dst.view.set]{fullShare} fd) ∗ Fr))
    (hp1 : (owns (c : Thread nD τ) src q A : sProp 𝕄) ⊢ (Rd X).payload (at_ c (.dma ss)) r₁ 0)
    (hp2 : iprop(owns (e : Thread nD τ) dst fullShare A ∗ Fr) ⊢ (Rd X).payload (at_ e (.dma rs)) r₂ 0) (Q : PUnit → sProp 𝕄) :
    iprop((cellInv ER (Rd X) κ₁ (at_ c (.dma ss)) ∗ cellInv ER (Rd X) κ₂ (at_ e (.dma rs)) ∗ owns (c : Thread nD τ) src q A ∗ D
        ∗ ow c O ∗ dutyTok ER (at_ c (.dma ss)) r₁ 0 ∗ reached ER (at_ c (.dma ss)) r₁
        ∗ dutyTok ER (at_ e (.dma rs)) r₂ 0 ∗ reached ER (at_ e (.dma rs)) r₂)
      ∗ ((ow c (owed c l) ∗ cred (tallyAt (at_ c (.dma ss)) 0 n)) -∗ Q ⟨⟩))
      ⊢ WP c (send src dst hs hd e ss rs) Q := by
  unfold ow
  iintro ⟨⟨#HI1, #HI2, Hsrc, HD, ⟨%W, HO⟩, Ht1, Hr1, Ht2, Hr2⟩, Hk⟩
  ihave HD := hD $$ HD
  icases HD with ⟨⟨%fd, Hdst⟩, HF⟩
  ihave Hsrc := (show (owns (c : Thread nD τ) src q A : sProp 𝕄) ⊢ _ by unfold owns; exact .rfl) $$ Hsrc
  icases Hsrc with ⟨%fs, %hfs, Hsrc⟩
  iapply (Rounds.wp_send_pointsTo_with 𝒱₀ ER (Rd X) (c : Thread nD τ) none (c' := (e : Thread nD τ)) (src := src) (dst := dst)
      (sS := .dma ss) (sem := .dma rs) (q := q) (fs := fs) (fd := fd) (F := Fr) (κ₁ := κ₁) (κ₂ := κ₂)
      (r₁ := r₁) (r₂ := r₂) (d₁ := 0) (d₂ := 0)
      (by rw [h1]; exact Finset.mem_singleton_self _) (by rw [h3]; exact Finset.mem_singleton_self _)
      i 0 n h5 h2 h4 (owed c l) hO (W := W)
      (by
        refine BIBase.Entails.trans ?_ hp1
        unfold owns
        iintro H
        iexists fs
        isplitr; · ipureintro; exact hfs
        iexact H)
      (by
        refine BIBase.Entails.trans (sep_mono_left ?_) hp2
        unfold owns
        iintro H
        iexists _
        isplitr
        rotate_left
        · iexact H
        · ipureintro; rw [View.read_write_univ]; exact hfs)) $$ [Hsrc Hdst HF HO Ht1 Hr1 Ht2 Hr2]
  · isplitr; · iexact HI1
    isplitr; · iexact HI2
    isplitl [Hsrc]; · iexact Hsrc
    isplitl [Hdst HF]
    · isplitl [Hdst] <;> iassumption
    isplitl [HO]; · iexact HO
    isplitl [Ht1]; · iexact Ht1
    isplitl [Hr1]; · iexact Hr1
    isplitl [Ht2]; · iexact Ht2
    iexact Hr2
  iintro ⟨Hc, HO⟩
  rw [wp_ret]
  imodintro
  iapply Hk
  isplitl [HO]; · iexists _; iexact HO
  iexact Hc

end Cert.Ring
-- ==== Proof.Gemm.lean ====
/- A chunk's product, one step at a time: the table word, the loads, the store of the rows, and the whole of it from a
   received chunk. -/
module

public import proofs.«01_k».proof.Proof.Steps

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Cert.KernelIdeal Cert.KernelIdeal.Gen

variable {F : FTy → Type} [FloatOps F]

local notation "𝕄" => MT nD τ sig ℕ (Elt F) ℕ UU ℕ

/-! ## Loads of whole operands -/

/-- A load through a rectangle by the points-to of any part that covers it. -/
theorem step_load {sp : CoreSpace} {s : Shape} {e : EltTy} (c : Dev nD) (m : Memref sig .tc sp s e) (r : Rect s) (hl : m.view.LoadsAt r.toLoadRect)
    (S : Finset (Idx ((m.access r).loc (c : Thread nD τ)))) (q : PosShare TreeShare) (f : Buf (Elt F) ((m.access r).loc (c : Thread nD τ)))
    (hS : (m.access r).set ⊆ S) (Q : (r.toLoadRect.shape.Idx → Elt F e) → sProp 𝕄) :
    iprop(((m.access r).loc (c : Thread nD τ) ↦[S]{q} f)
      ∗ (((m.access r).loc (c : Thread nD τ) ↦[S]{q} f) -∗ Q ((m.access r).read (Elt F) f)))
      ⊢ WP c (Prog.lift (.load m r.toLoadRect hl)) Q := by
  iintro ⟨H, Hk⟩
  iapply (wp_load_rect 𝒱₀ (c : Thread nD τ) none Set.univ (m := m) (r := r) hS) $$ [H]
  · iexact H
  iintro H
  rw [wp_ret]
  imodintro
  iapply Hk
  iexact H

theorem step_loadW (c : Dev nD) (q : PosShare TreeShare) (W : S8192x128.Idx → Elt F .f32) (Q : Vec F S8192x128 .f32 → sProp 𝕄) :
    iprop(owns (c : Thread nD τ) MW q W ∗ (owns (c : Thread nD τ) MW q W -∗ Q W)) ⊢ WP c (loadW MW) Q := by
  have e : (MW.access (Rect.unit (s := S8192x128) ![0, 0] S8192x128.size inb_S8192x128_S8192x128_0_0)).read (Elt F) W = W := by
    funext x
    refine (cast_eq _ _).trans (congrArg W (funext fun a => Fin.ext ?_))
    fin_cases a
    · show 0 + 1 * (x 0).val = (x 0).val; omega
    · show 0 + 1 * (x 1).val = (x 1).val; omega
  rw [owns_whole (c : Thread nD τ) cc0_stg2_0 q W]
  iintro ⟨H, Hk⟩
  unfold loadW
  iapply (step_load c MW _ _ Finset.univ q W (Finset.subset_univ _) Q)
  isplitl [H]; · iexact H
  iintro H
  rw [e]
  iapply Hk
  iexact H

/-- The own chunk, loaded whole. -/
theorem step_loadX (c : Dev nD) (q : PosShare TreeShare) (A : S256x8192.Idx → Elt F .f32) (Q : Vec F S256x8192 .f32 → sProp 𝕄) :
    iprop(owns (c : Thread nD τ) MX q A ∗ (owns (c : Thread nD τ) MX q A -∗ Q A))
      ⊢ WP c (Prog.lift (.load MX (Rect.unit (s := S256x8192) ![0, 0] S256x8192.size inb_S256x8192_S256x8192_0_0).toLoadRect (View.loadsAt_vmem h_S256x8192))) Q := by
  have e : (MX.access (Rect.unit (s := S256x8192) ![0, 0] S256x8192.size inb_S256x8192_S256x8192_0_0)).read (Elt F) A = A := by
    funext x
    refine (cast_eq _ _).trans (congrArg A (funext fun a => Fin.ext ?_))
    fin_cases a
    · show 0 + 1 * (x 0).val = (x 0).val; omega
    · show 0 + 1 * (x 1).val = (x 1).val; omega
  rw [owns_whole (c : Thread nD τ) cc0_stg1_0 q A]
  iintro ⟨H, Hk⟩
  iapply (step_load c MX _ _ Finset.univ q A (Finset.subset_univ _) Q)
  isplitl [H]; · iexact H
  iintro H
  rw [e]
  iapply Hk
  iexact H

/-- The table's place `j` as an index. -/
def ixT (j : Fin 34) : S34.Idx := fun | 0 => j

theorem step_word (c : Dev nD) (q : PosShare TreeShare) (T : S34.Idx → Elt F .i32) (j : Fin 34) (Q : Elt F .i32 → sProp 𝕄) :
    iprop(owns (c : Thread nD τ) MT0 q T ∗ (owns (c : Thread nD τ) MT0 q T -∗ Q (T (ixT j)))) ⊢ WP c (word (F := F) MT0 j) Q := by
  have e : ∀ x, (MT0.access (Rect.unit (s := S34) ![j.val] S1.size (inbT j))).read (Elt F) T x = T (ixT j) := by
    intro x
    refine (cast_eq _ _).trans (congrArg T (funext fun a => Fin.ext ?_))
    have hx := (x 0).isLt
    change (x 0).val < 1 at hx
    fin_cases a
    show j.val + 1 * (x 0).val = j.val; omega
  rw [owns_whole (c : Thread nD τ) cc0_stg0_0 q T]
  iintro ⟨H, Hk⟩
  unfold word smemLoad
  iapply (wp_load_rect 𝒱₀ (c : Thread nD τ) none Set.univ (m := MT0) (S := Finset.univ) (Finset.subset_univ _)) $$ [H]
  · iexact H
  iintro H
  rw [wp_ret, e]
  imodintro
  iapply Hk
  iexact H

theorem step_assume {p : Prop} (d : Decidable p) (c : Dev nD) (h : p) (Q : PLift p → sProp 𝕄) :
    Q ⟨h⟩ ⊢ WP c (Prog.lift (TpuEff.assume p d) : P F (PLift p)) Q := by
  refine BIBase.Entails.trans ?_ (wp_assume 𝒱₀ (c : Thread nD τ) none Set.univ h)
  iintro H
  rw [wp_ret]
  imodintro
  iexact H

/-! ## The result's rows -/

/-- The result buffer on device `c`: the elements of which `p` holds are as in `g`. -/
def outSt (c : Dev nD) (g : S8192x128.Idx → Elt F .f32) (p : S8192x128.Idx → Prop) : sProp 𝕄 :=
  iprop(∃ f : S8192x128.Idx → Elt F .f32, ⌜∀ i, p i → f i = g i⌝ ∗ owns (c : Thread nD τ) MO fullShare f)

/-- `n` rows are written from row `o` on. -/
theorem step_rows {n o : ℕ} {off : Fin 2 → ℕ} (ho : off = ![o, 0]) (inb : ∀ a, off a + (![n, 128] : Fin 2 → ℕ) a ≤ S8192x128.size a)
    (c : Dev nD) (hl : MO.view.LoadsAt (Rect.unit (s := S8192x128) off ![n, 128] inb).toLoadRect)
    (hst : (MO.access (Rect.unit (s := S8192x128) off ![n, 128] inb)).Stores Finset.univ) (hm)
    (y : (⟨2, ![n, 128]⟩ : Shape).Idx → Elt F .f32) (g : S8192x128.Idx → Elt F .f32) (p p' : S8192x128.Idx → Prop)
    (hy : ∀ i : S8192x128.Idx, ∀ h : o ≤ (i 0).val ∧ (i 0).val < o + n, y (ix2 ⟨(i 0).val - o, by omega⟩ (i 1)) = g i)
    (hp : ∀ i, p' i → p i ∨ (o ≤ (i 0).val ∧ (i 0).val < o + n)) (Q : PUnit → sProp 𝕄) :
    iprop(outSt c g p ∗ (outSt c g p' -∗ Q ⟨⟩))
      ⊢ WP c (Prog.lift (.load MO (Rect.unit (s := S8192x128) off ![n, 128] inb).toLoadRect hl) >>= fun _ =>
          Prog.lift (.store MO (Rect.unit (s := S8192x128) off ![n, 128] inb) y Finset.univ hst hm) : P F PUnit) Q := by
  unfold outSt
  iintro ⟨⟨%f, %hf, H⟩, Hk⟩
  ihave H := (Entails.of_eq (owns_whole (c : Thread nD τ) cc0_stg3_0 fullShare f)) $$ H
  rw [WP_bind]
  iapply (step_load c MO (Rect.unit (s := S8192x128) off ![n, 128] inb) hl Finset.univ fullShare f (Finset.subset_univ _) _)
  isplitl [H]; · iexact H
  iintro H
  iapply (wp_store 𝒱₀ (c : Thread nD τ) none Set.univ (m := MO) (r := Rect.unit (s := S8192x128) off ![n, 128] inb) (S := Finset.univ) (Finset.subset_univ _)) $$ [H]
  · iexact H
  iintro H
  rw [wp_ret]
  imodintro
  iapply Hk
  iexists _
  isplitr
  rotate_left
  · iapply (Entails.of_eq (owns_whole (c : Thread nD τ) cc0_stg3_0 fullShare _).symm)
    iexact H
  ipureintro
  intro i hi
  rw [rows_write ho inb f y i]
  by_cases h : o ≤ (i 0).val ∧ (i 0).val < o + n
  · rw [dif_pos h]; exact hy i h
  · rw [dif_neg h]; exact hf i ((hp i hi).resolve_right h)

theorem chk3_wd (d : Dev nD) : k0_chk3 (wd d) := by
  unfold k0_chk3; rw [off1_wd]; revert d; decide
theorem chk34_wd (d : Dev nD) : k0_chk34 (wd d) := by
  unfold k0_chk34; rw [off32_wd, off33_wd]; revert d; decide

/-- The rows of device `d`'s chunk. -/
def rowsOf (d : Dev nD) (i : S8192x128.Idx) : Prop := org i = d

/-- A whole chunk's product is stored. -/
theorem step_rowsOut (c d fr : Dev nD) (X : Dev nD → S256x8192.Idx → Elt F .f32) (w : S8192x128.Idx → Elt F .f32) (v : Elt F .i32) (hv : k0_chk3 v)
    (he : v = wd d) (hd : d ≠ fr) (y : FVec F S256x128 .f32) (hy : y = gem (X d) w) (p : S8192x128.Idx → Prop) (Q : PUnit → sProp 𝕄) :
    iprop(outSt c (G X w fr) p ∗ (outSt c (G X w fr) (fun i => p i ∨ org i = d) -∗ Q ⟨⟩)) ⊢ WP c (rowsOut MO v hv y) Q := by
  subst he hy
  refine step_rows (off1_wd d) _ c _ _ _ _ _ p _ (fun i h => ?_) (fun i h => h.imp_right fun h => ?_) Q
  · have e : org i = d := Fin.ext (show (i 0).val / 256 = d.val by omega)
    unfold G
    rw [if_neg (by rw [e]; exact hd), e]
    unfold at256
    refine congrArg (gem (X d) w) (congrArg (fun r => ix2 r (i 1)) (Fin.ext ?_))
    show (i 0).val - 256 * d.val = (i 0).val % 256
    omega
  · have : (i 0).val / 256 = d.val := congrArg Fin.val h
    omega

/-! ## Received chunks -/

theorem step_slR (c : Dev nD) (s : Fin 3) (q : PosShare TreeShare) (A : S256x8192.Idx → Elt F .f32) (Q : Vec F S1x256x8192 .f32 → sProp 𝕄) :
    iprop(owns (c : Thread nD τ) (slR BR s) q A
      ∗ (∀ a, ⌜shapeCast S256x8192 a shapeCasts_S1x256x8192_S256x8192 = A⌝ -∗ owns (c : Thread nD τ) (slR BR s) q A -∗ Q a))
      ⊢ WP c (Prog.lift (.load BR (Rect.unit (s := S3x256x8192) ![s.val, 0, 0] S1x256x8192.size (inbR s)).toLoadRect (View.loadsAt_vmem h_S1x256x8192))) Q := by
  rw [owns_slR]
  iintro ⟨⟨%f, %hf, H⟩, Hk⟩
  iapply (step_load c BR (Rect.unit (s := S3x256x8192) ![s.val, 0, 0] S1x256x8192.size (inbR s)) _ (SR s) q f (le_of_eq (View.set_slice_whole _ _)) Q)
  isplitl [H]; · iexact H
  iintro H
  ispecialize Hk $$ %((BR.access (Rect.unit (s := S3x256x8192) ![s.val, 0, 0] S1x256x8192.size (inbR s))).read (Elt F) f)
  iapply Hk
  · ipureintro; exact hf
  iexists f
  isplitr; · ipureintro; exact hf
  iexact H

theorem step_slL (c : Dev nD) (s : Fin 2) (q : PosShare TreeShare) (A : S256x8192.Idx → Elt F .f32) (Q : Vec F S1x256x8192 .f32 → sProp 𝕄) :
    iprop(owns (c : Thread nD τ) (slL BL s) q A
      ∗ (∀ a, ⌜shapeCast S256x8192 a shapeCasts_S1x256x8192_S256x8192 = A⌝ -∗ owns (c : Thread nD τ) (slL BL s) q A -∗ Q a))
      ⊢ WP c (Prog.lift (.load BL (Rect.unit (s := S2x256x8192) ![s.val, 0, 0] S1x256x8192.size (inbL s)).toLoadRect (View.loadsAt_vmem h_S1x256x8192))) Q := by
  rw [owns_slL]
  iintro ⟨⟨%f, %hf, H⟩, Hk⟩
  iapply (step_load c BL (Rect.unit (s := S2x256x8192) ![s.val, 0, 0] S1x256x8192.size (inbL s)) _ (SL s) q f (le_of_eq (View.set_slice_whole _ _)) Q)
  isplitl [H]; · iexact H
  iintro H
  ispecialize Hk $$ %((BL.access (Rect.unit (s := S2x256x8192) ![s.val, 0, 0] S1x256x8192.size (inbL s))).read (Elt F) f)
  iapply Hk
  · ipureintro; exact hf
  iexists f
  isplitr; · ipureintro; exact hf
  iexact H

variable (X : Dev nD → S256x8192.Idx → Elt F .f32) (w : S8192x128.Idx → Elt F .f32) (T : S34.Idx → Elt F .i32)

/-- The product of the chunk in a slot of the right-going buffer. -/
theorem step_gemmR (c d fr : Dev nD) (s : Fin 3) (j : Fin 34) (q qt qw : PosShare TreeShare) (hT : T (ixT j) = wd d) (hd : d ≠ fr)
    (p : S8192x128.Idx → Prop) (Q : PUnit → sProp 𝕄) :
    iprop((owns (c : Thread nD τ) (slR BR s) q (X d) ∗ owns (c : Thread nD τ) MT0 qt T ∗ owns (c : Thread nD τ) MW qw w ∗ outSt c (G X w fr) p)
      ∗ ((owns (c : Thread nD τ) (slR BR s) q (X d) ∗ owns (c : Thread nD τ) MT0 qt T ∗ owns (c : Thread nD τ) MW qw w
        ∗ outSt c (G X w fr) (fun i => p i ∨ org i = d)) -∗ Q ⟨⟩)) ⊢ WP c (gemmR MT0 MW MO BR s j) Q := by
  unfold gemmR
  rw [WP_bind]
  iintro ⟨⟨HA, HT, HW, HO⟩, Hk⟩
  iapply (step_slR c s q (X d) _)
  isplitl [HA]; · iexact HA
  iintro %a %ha HA
  rw [WP_bind]
  iapply (step_word c qt T j _)
  isplitl [HT]; · iexact HT
  iintro HT
  rw [WP_bind]
  iapply (step_assume _ c (by rw [hT]; exact chk3_wd d) _)
  rw [WP_bind]
  iapply (step_loadW c qw w _)
  isplitl [HW]; · iexact HW
  iintro HW
  iapply (step_rowsOut c d fr X w _ _ hT hd _ ((pay2_eq a w).trans (by rw [ha])) p Q)
  isplitl [HO]; · iexact HO
  iintro HO
  iapply Hk
  isplitl [HA]; · iexact HA
  isplitl [HT]; · iexact HT
  isplitl [HW]; · iexact HW
  iexact HO

/-- The product of the chunk in a slot of the left-going buffer. -/
theorem step_gemmL (c d fr : Dev nD) (s : Fin 2) (j : Fin 34) (q qt qw : PosShare TreeShare) (hT : T (ixT j) = wd d) (hd : d ≠ fr)
    (p : S8192x128.Idx → Prop) (Q : PUnit → sProp 𝕄) :
    iprop((owns (c : Thread nD τ) (slL BL s) q (X d) ∗ owns (c : Thread nD τ) MT0 qt T ∗ owns (c : Thread nD τ) MW qw w ∗ outSt c (G X w fr) p)
      ∗ ((owns (c : Thread nD τ) (slL BL s) q (X d) ∗ owns (c : Thread nD τ) MT0 qt T ∗ owns (c : Thread nD τ) MW qw w
        ∗ outSt c (G X w fr) (fun i => p i ∨ org i = d)) -∗ Q ⟨⟩)) ⊢ WP c (gemmL MT0 MW MO BL s j) Q := by
  unfold gemmL
  rw [WP_bind]
  iintro ⟨⟨HA, HT, HW, HO⟩, Hk⟩
  iapply (step_slL c s q (X d) _)
  isplitl [HA]; · iexact HA
  iintro %a %ha HA
  rw [WP_bind]
  iapply (step_word c qt T j _)
  isplitl [HT]; · iexact HT
  iintro HT
  rw [WP_bind]
  iapply (step_assume _ c (by rw [hT]; exact chk3_wd d) _)
  rw [WP_bind]
  iapply (step_loadW c qw w _)
  isplitl [HW]; · iexact HW
  iintro HW
  iapply (step_rowsOut c d fr X w _ _ hT hd _ ((pay2_eq a w).trans (by rw [ha])) p Q)
  isplitl [HO]; · iexact HO
  iintro HO
  iapply Hk
  isplitl [HA]; · iexact HA
  isplitl [HT]; · iexact HT
  isplitl [HW]; · iexact HW
  iexact HO

/-! ## The halves -/

theorem step_hfR (c : Dev nD) (B : S128x8192.Idx → Elt F .f32) (Q : Vec F S1x128x8192 .f32 → sProp 𝕄) :
    iprop(owns (c : Thread nD τ) (hfR BR 1) fullShare B
      ∗ (∀ a, ⌜shapeCast S128x8192 a shapeCasts_S1x128x8192_S128x8192 = B⌝ -∗ owns (c : Thread nD τ) (hfR BR 1) fullShare B -∗ Q a))
      ⊢ WP c (Prog.lift (.load BR (Rect.unit (s := S3x256x8192) ![1, 0, 0] S1x128x8192.size inb_S3x256x8192_S1x128x8192_1_0_0).toLoadRect (View.loadsAt_vmem h_S1x128x8192))) Q := by
  unfold owns
  iintro ⟨⟨%f, %hf, H⟩, Hk⟩
  iapply (step_load c BR (Rect.unit (s := S3x256x8192) ![1, 0, 0] S1x128x8192.size inb_S3x256x8192_S1x128x8192_1_0_0) _ (hfR BR 1).view.set fullShare f
    (le_of_eq (View.set_reshape _ _).symm) Q)
  isplitl [H]; · iexact H
  iintro H
  ispecialize Hk $$ %((BR.access (Rect.unit (s := S3x256x8192) ![1, 0, 0] S1x128x8192.size inb_S3x256x8192_S1x128x8192_1_0_0)).read (Elt F) f)
  iapply Hk
  · ipureintro; exact hf
  iexists f
  isplitr; · ipureintro; exact hf
  iexact H

theorem step_hfL (c : Dev nD) (B : S128x8192.Idx → Elt F .f32) (Q : Vec F S1x128x8192 .f32 → sProp 𝕄) :
    iprop(owns (c : Thread nD τ) (hfL BL 0) fullShare B
      ∗ (∀ a, ⌜shapeCast S128x8192 a shapeCasts_S1x128x8192_S128x8192 = B⌝ -∗ owns (c : Thread nD τ) (hfL BL 0) fullShare B -∗ Q a))
      ⊢ WP c (Prog.lift (.load BL (Rect.unit (s := S2x256x8192) ![0, 128, 0] S1x128x8192.size inb_S2x256x8192_S1x128x8192_0_128_0).toLoadRect (View.loadsAt_vmem h_S1x128x8192))) Q := by
  unfold owns
  iintro ⟨⟨%f, %hf, H⟩, Hk⟩
  iapply (step_load c BL (Rect.unit (s := S2x256x8192) ![0, 128, 0] S1x128x8192.size inb_S2x256x8192_S1x128x8192_0_128_0) _ (hfL BL 0).view.set fullShare f
    (le_of_eq (View.set_reshape _ _).symm) Q)
  isplitl [H]; · iexact H
  iintro H
  ispecialize Hk $$ %((BL.access (Rect.unit (s := S2x256x8192) ![0, 128, 0] S1x128x8192.size inb_S2x256x8192_S1x128x8192_0_128_0)).read (Elt F) f)
  iapply Hk
  · ipureintro; exact hf
  iexists f
  isplitr; · ipureintro; exact hf
  iexact H

/-- What half a chunk of the far device gives is what is wanted of its upper rows, of its lower. -/
theorem far_top (fr : Dev nD) (a : Vec F S1x128x8192 .f32) (ha : shapeCast S128x8192 a shapeCasts_S1x128x8192_S128x8192 = top (X fr))
    (i : S8192x128.Idx) (h : 256 * fr.val ≤ (i 0).val ∧ (i 0).val < 256 * fr.val + 128) :
    (k0_pay58 a w : S128x128.Idx → Elt F .f32) (ix2 ⟨(i 0).val - 256 * fr.val, by omega⟩ (i 1)) = G X w fr i := by
  have e : org i = fr := Fin.ext (show (i 0).val / 256 = fr.val by omega)
  unfold G
  rw [if_pos e, dif_pos (by omega), pay58_eq, ha, e]
  unfold at128
  refine congrArg (gemH (top (X fr)) w) (congrArg (fun r => ix2 r (i 1)) (Fin.ext ?_))
  show (i 0).val - 256 * fr.val = (i 0).val % 256
  omega
theorem far_bot (fr : Dev nD) (a : Vec F S1x128x8192 .f32) (ha : shapeCast S128x8192 a shapeCasts_S1x128x8192_S128x8192 = bot (X fr))
    (i : S8192x128.Idx) (h : 256 * fr.val + 128 ≤ (i 0).val ∧ (i 0).val < 256 * fr.val + 128 + 128) :
    (k0_pay58 a w : S128x128.Idx → Elt F .f32) (ix2 ⟨(i 0).val - (256 * fr.val + 128), by omega⟩ (i 1)) = G X w fr i := by
  have e : org i = fr := Fin.ext (show (i 0).val / 256 = fr.val by omega)
  unfold G
  rw [if_pos e, dif_neg (by omega), pay58_eq, ha, e]
  unfold at128
  refine congrArg (gemH (bot (X fr)) w) (congrArg (fun r => ix2 r (i 1)) (Fin.ext ?_))
  show (i 0).val - (256 * fr.val + 128) = (i 0).val % 256 - 128
  omega

end Cert.Ring
-- ==== Proof.Ring.lean ====
/- The exchange's steps in either direction, by hop: what arrives, what goes on, what is given free. -/
module

public import proofs.«01_k».proof.Proof.Gemm

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Cert.KernelIdeal Cert.KernelIdeal.Gen

variable {F : FTy → Type} [FloatOps F]

local notation "𝕄" => MT nD τ sig ℕ (Elt F) ℕ UU ℕ

/-! ## What all devices share -/

/-- The cells of a device: the entry semaphore, the two credit semaphores, ten of the copies. -/
def osem (k : Fin 12) : SemLoc sig := if k.val = 0 then cCr else if k.val = 1 then cCl else .dma ⟨k.val + 2, by show k.val + 2 < 14; omega⟩
def smAt : Option (Fin 12) → SemLoc sig
  | none => cBar
  | some k => osem k

variable (X : Dev nD → S256x8192.Idx → Elt F .f32)

/-- A cell's invariant, a slot's. -/
def cinv (g : GSem nD τ sig) : sProp 𝕄 := iprop(∃ κ, cellInv ER (Rd X) κ g)
def sinv (k : Dev nD × Fin 5) : sProp 𝕄 := iprop(∃ ι, slotInv ES ι k (Sl k))
instance cinv_pers (g : GSem nD τ sig) : BI.Persistent (cinv X g) := by unfold cinv; infer_instance
instance sinv_pers (k : Dev nD × Fin 5) : BI.Persistent (sinv (F := F) k) := by unfold sinv; infer_instance

/-- All invariants and the order of the waits. -/
def CTX : sProp 𝕄 := iprop((bigSep Finset.univ fun x : Dev nD × Option (Fin 12) => cinv X (at_ x.1 (smAt x.2)))
  ∗ (bigSep Finset.univ fun k : Dev nD × Fin 5 => sinv k) ∗ levAts LV lvl)
instance CTX_pers : BI.Persistent (CTX X) := by unfold CTX; infer_instance

theorem ctx_lev : CTX X ⊢ (levAts LV lvl : sProp 𝕄) := by unfold CTX; iintro ⟨-, -, H⟩; iexact H
theorem ctx_slot (k : Dev nD × Fin 5) : CTX X ⊢ (sinv k : sProp 𝕄) := by
  unfold CTX; iintro ⟨-, H, -⟩
  iapply (show (bigSep Finset.univ fun k : Dev nD × Fin 5 => sinv k) ⊢ (sinv k : sProp 𝕄) from bigSep_elim (Finset.mem_univ k)); iexact H
theorem ctx_cell (c : Dev nD) (o : Option (Fin 12)) : CTX X ⊢ cinv X (at_ c (smAt o)) := by
  unfold CTX; iintro ⟨H, -, -⟩
  iapply (show (bigSep Finset.univ fun x : Dev nD × Option (Fin 12) => cinv X (at_ x.1 (smAt x.2))) ⊢ cinv X (at_ c (smAt o)) from
    bigSep_elim (Finset.mem_univ (c, o))); iexact H

theorem osem_dma (a : DmaSem sig) (k : Fin 12) (hk : 2 ≤ k.val) (ha : a.val = k.val + 2) : osem k = .dma a := by
  unfold osem
  rw [if_neg (by omega), if_neg (by omega)]
  exact congrArg SemLoc.dma (Fin.ext ha.symm)

theorem ctx_bar (c : Dev nD) : CTX X ⊢ cinv X (at_ c cBar) := ctx_cell X c none
theorem ctx_cr (c : Dev nD) : CTX X ⊢ cinv X (at_ c cCr) := ctx_cell X c (some 0)
theorem ctx_cl (c : Dev nD) : CTX X ⊢ cinv X (at_ c cCl) := ctx_cell X c (some 1)
theorem ctx_sr (c : Dev nD) (h : ℕ) : CTX X ⊢ cinv X (at_ c (.dma (dSr h))) :=
  (ctx_cell X c (some ⟨2 + h % 3, by omega⟩)).trans (Entails.of_eq (congrArg (fun s => cinv X (at_ c s))
    (osem_dma _ _ (by show 2 ≤ 2 + h % 3; omega) ((val_Sr _).trans (by show 4 + h % 3 = 2 + h % 3 + 2; omega)))))
theorem ctx_rr (c : Dev nD) (h : ℕ) : CTX X ⊢ cinv X (at_ c (.dma (dRr h))) :=
  (ctx_cell X c (some ⟨5 + (h + 1) % 3, by omega⟩)).trans (Entails.of_eq (congrArg (fun s => cinv X (at_ c s))
    (osem_dma _ _ (by show 2 ≤ 5 + (h + 1) % 3; omega) ((val_Rr _).trans (by show 7 + (h + 1) % 3 = 5 + (h + 1) % 3 + 2; omega)))))
theorem ctx_sl (c : Dev nD) (h : ℕ) : CTX X ⊢ cinv X (at_ c (.dma (dSl h))) :=
  (ctx_cell X c (some ⟨8 + h % 2, by omega⟩)).trans (Entails.of_eq (congrArg (fun s => cinv X (at_ c s))
    (osem_dma _ _ (by show 2 ≤ 8 + h % 2; omega) ((val_Sl _).trans (by show 10 + h % 2 = 8 + h % 2 + 2; omega)))))
theorem ctx_rl (c : Dev nD) (h : ℕ) : CTX X ⊢ cinv X (at_ c (.dma (dRl h))) :=
  (ctx_cell X c (some ⟨10 + (h + 1) % 2, by omega⟩)).trans (Entails.of_eq (congrArg (fun s => cinv X (at_ c s))
    (osem_dma _ _ (by show 2 ≤ 10 + (h + 1) % 2; omega) ((val_Rl _).trans (by show 12 + (h + 1) % 2 = 10 + (h + 1) % 2 + 2; omega)))))

/-- A lasting fact is read off what implies it. -/
theorem keep {P Q : sProp 𝕄} [BI.Persistent Q] (h : P ⊢ Q) : P ⊢ iprop(Q ∗ P) :=
  (persistently_entails_left (h.trans BI.Persistent.persistent)).trans (sep_mono_left Laws.persistently_elim)

/-! ## Places in the rounds -/

/-- Device `c` is past all rounds of a semaphore before the one of hop `g`. -/
def pos (c : Dev nD) (sm : DmaSem sig) (r : ℕ) : sProp 𝕄 := iprop(atPos ER (at_ c (.dma sm)) r ∅ 0 ∗ reached ER (at_ c (.dma sm)) r)
def posSR (c : Dev nD) (g : ℕ) : sProp 𝕄 := pos c (dSr g) (g / 3)
def posRR (c : Dev nD) (g : ℕ) : sProp 𝕄 := pos c (dRr g) (g / 3)
def posSL (c : Dev nD) (g : ℕ) : sProp 𝕄 := pos c (dSl g) (g / 2)
def posRL (c : Dev nD) (g : ℕ) : sProp 𝕄 := pos c (dRl g) (g / 2)

theorem m3_add (h : ℕ) : m3 (h + 3) = m3 h := Fin.ext (by show (h + 3) % 3 = h % 3; omega)
theorem m2_add (h : ℕ) : m2 (h + 2) = m2 h := Fin.ext (by show (h + 2) % 2 = h % 2; omega)

theorem posSR_next (c : Dev nD) (g : ℕ) : (pos c (dSr g) (g / 3 + 1) : sProp 𝕄) = posSR c (g + 3) := by
  unfold posSR dSr; rw [m3_add, show (g + 3) / 3 = g / 3 + 1 by omega]
theorem posRR_next (c : Dev nD) (g : ℕ) : (pos c (dRr g) (g / 3 + 1) : sProp 𝕄) = posRR c (g + 3) := by
  unfold posRR dRr; rw [show g + 3 + 1 = g + 1 + 3 by omega, m3_add, show (g + 3) / 3 = g / 3 + 1 by omega]
theorem posSL_next (c : Dev nD) (g : ℕ) : (pos c (dSl g) (g / 2 + 1) : sProp 𝕄) = posSL c (g + 2) := by
  unfold posSL dSl; rw [m2_add, show (g + 2) / 2 = g / 2 + 1 by omega]
theorem posRL_next (c : Dev nD) (g : ℕ) : (pos c (dRl g) (g / 2 + 1) : sProp 𝕄) = posRL c (g + 2) := by
  unfold posRL dRl; rw [show g + 2 + 1 = g + 1 + 2 by omega, m2_add, show (g + 2) / 2 = g / 2 + 1 by omega]

/-- The units another device's act brings to device `c`. -/
def crd (c : Dev nD) (a : Act) : sProp 𝕄 := cred (tallyAt (at_ c a.sm) a.idx a.amt)
theorem crd_sR (c : Dev nD) (g : ℕ) : (crd c (.sR g) : sProp 𝕄) = cred (tallyAt (at_ c (.dma (dRr g))) (10 * g + 3) (amtH g)) := rfl
theorem crd_sL (c : Dev nD) (g : ℕ) : (crd c (.sL g) : sProp 𝕄) = cred (tallyAt (at_ c (.dma (dRl g))) (10 * g + 8) (amtH g)) := rfl
/-- The units of a copy of its own that a device gets back. -/
def crdSR (c : Dev nD) (h : ℕ) : sProp 𝕄 := cred (tallyAt (at_ c (.dma (dSr h))) 0 (amtH h))
def crdSL (c : Dev nD) (h : ℕ) : sProp 𝕄 := cred (tallyAt (at_ c (.dma (dSl h))) 0 (amtH h))

/-! ## Waits -/

/-- A wait for all of a one-duty round, by the cell's invariant. -/
theorem step_wait' {s : Shape} (src dst : Memref sig .tc .vmem s .f32) (hs : src.view.WordExact) (hd : dst.view.WordExact)
    (c : Dev nD) (sm : DmaSem sig) (r i n : ℕ) (l : List Act) (P : sProp 𝕄) (hP : (Rd X).payload (at_ c (.dma sm)) r 0 = P)
    (hI : CTX X ⊢ cinv X (at_ c (.dma sm)))
    (h1 : (Rd X).duties (at_ c (.dma sm)) r = {0}) (h2 : (Rd X).amount (at_ c (.dma sm)) r 0 = n) (h3 : dst.view.dmaCredit = n)
    (hi : i < 200) (hl : after i l) (Q : PUnit → sProp 𝕄) :
    iprop((CTX X ∗ cred (tallyAt (at_ c (.dma sm)) i n) ∗ ow c (owed c l) ∗ pos c sm r)
      ∗ ((ow c (owed c l) ∗ pos c sm (r + 1) ∗ P) -∗ Q ⟨⟩))
      ⊢ WP c (wait src dst hs hd sm) Q := by
  subst hP
  iintro ⟨⟨#HX, Hc, HO, Hp⟩, Hk⟩
  ihave #HI := hI $$ HX
  ihave #HL := (ctx_lev X) $$ HX
  unfold cinv pos
  icases HI with ⟨%κ, HI⟩
  icases Hp with ⟨Hp, -⟩
  iapply (step_wait X src dst hs hd c sm r i n l κ h1 h2 h3 hi hl Q)
  isplitr [Hk]
  · isplitr; · iexact HI
    isplitr; · iexact HL
    isplitl [Hc]; · iexact Hc
    isplitl [HO]; · iexact HO
    iexact Hp
  iintro ⟨HO, Hp, Hr, HP⟩
  iapply Hk
  isplitl [HO]; · iexact HO
  isplitl [Hp Hr]
  · isplitl [Hp]; · iexact Hp
    iexact Hr
  iexact HP

section Waits
variable {s : Shape} (src dst : Memref sig .tc .vmem s .f32) (hs : src.view.WordExact) (hd : dst.view.WordExact)
variable (c : Dev nD) (g : ℕ) (hg : g ≤ 15) (h3 : dst.view.dmaCredit = amtH g) (l : List Act)
include hg h3

theorem step_recvR (hl : after (10 * g + 3) l) (Q : PUnit → sProp 𝕄) :
    iprop((CTX X ∗ crd c (.sR g) ∗ ow c (owed c l) ∗ posRR c g)
      ∗ ((ow c (owed c l) ∗ posRR c (g + 3) ∗ payRR X c g) -∗ Q ⟨⟩)) ⊢ WP c (wait src dst hs hd (dRr g)) Q := by
  rw [← posRR_next, crd_sR]
  unfold posRR
  exact step_wait' X src dst hs hd c (dRr g) (g / 3) (10 * g + 3) (amtH g) l _ (pay_rr X c g 0) (ctx_rr X c g) (dut_rr X c g hg) (amt_rr X c g 0)
    h3 (by omega) hl _
theorem step_recvL (hl : after (10 * g + 8) l) (Q : PUnit → sProp 𝕄) :
    iprop((CTX X ∗ crd c (.sL g) ∗ ow c (owed c l) ∗ posRL c g)
      ∗ ((ow c (owed c l) ∗ posRL c (g + 2) ∗ payRL X c g) -∗ Q ⟨⟩)) ⊢ WP c (wait src dst hs hd (dRl g)) Q := by
  rw [← posRL_next, crd_sL]
  unfold posRL
  exact step_wait' X src dst hs hd c (dRl g) (g / 2) (10 * g + 8) (amtH g) l _ (pay_rl X c g 0) (ctx_rl X c g) (dut_rl X c g hg) (amt_rl X c g 0)
    h3 (by omega) hl _
theorem step_backR (hl : after 0 l) (Q : PUnit → sProp 𝕄) :
    iprop((CTX X ∗ crdSR c g ∗ ow c (owed c l) ∗ posSR c g)
      ∗ ((ow c (owed c l) ∗ posSR c (g + 3) ∗ paySR X c g) -∗ Q ⟨⟩)) ⊢ WP c (wait src dst hs hd (dSr g)) Q := by
  rw [← posSR_next]
  unfold posSR crdSR
  exact step_wait' X src dst hs hd c (dSr g) (g / 3) 0 (amtH g) l _ (pay_sr X c g 0) (ctx_sr X c g) (dut_sr X c g hg) (amt_sr X c g 0)
    h3 (by omega) hl _
theorem step_backL (hl : after 0 l) (Q : PUnit → sProp 𝕄) :
    iprop((CTX X ∗ crdSL c g ∗ ow c (owed c l) ∗ posSL c g)
      ∗ ((ow c (owed c l) ∗ posSL c (g + 2) ∗ paySL X c g) -∗ Q ⟨⟩)) ⊢ WP c (wait src dst hs hd (dSl g)) Q := by
  rw [← posSL_next]
  unfold posSL crdSL
  exact step_wait' X src dst hs hd c (dSl g) (g / 2) 0 (amtH g) l _ (pay_sl X c g 0) (ctx_sl X c g) (dut_sl X c g hg) (amt_sl X c g 0)
    h3 (by omega) hl _
end Waits

/-! ## Credits taken and given -/

/-- The facts that come with the credits. -/
abbrev crF (c : Dev nD) (d : ℕ) : sProp 𝕄 := okRs (rt c) (d + 4)
abbrev clF (c : Dev nD) (d : ℕ) : sProp 𝕄 := okLs (lf c) (d + 3)
abbrev crSt (c : Dev nD) (i : ℕ) : sProp 𝕄 := credSt c crS 13 (crF c) i
abbrev clSt (c : Dev nD) (i : ℕ) : sProp 𝕄 := credSt c clS 14 (clF c) i

theorem step_takeR (c : Dev nD) (g i : ℕ) (hg : g ≤ 15) (l : List Act) (hl : after (10 * g + 10) l) (Q : PUnit → sProp 𝕄) :
    iprop((CTX X ∗ crd c (.cR g) ∗ ow c (owed c l) ∗ crSt c i) ∗ ((ow c (owed c l) ∗ crSt c (i + 1)) -∗ Q ⟨⟩))
      ⊢ WP c (semWaitWord crS 1#32) Q := by
  iintro ⟨⟨#HX, Hc, HO, Hp⟩, Hk⟩
  ihave #HI := (ctx_cr X c) $$ HX
  ihave #HL := (ctx_lev X) $$ HX
  unfold cinv
  icases HI with ⟨%κ, HI⟩
  iapply (step_credit X c crS 13 i (10 * g + 10) κ (crF c) l (dut_cr X c) (amt_cr X c) (pay_cr X c) (by omega) hl Q)
  isplitr [Hk]
  · isplitr; · iexact HI
    isplitr; · iexact HL
    isplitl [Hc]; · iapply (Entails.of_eq (show (crd c (.cR g) : sProp 𝕄) = cred (tallyAt (at_ c cCr) (10 * g + 10) 1) from rfl)); iexact Hc
    isplitl [HO]; · iexact HO
    iexact Hp
  iexact Hk
theorem step_takeL (c : Dev nD) (g i : ℕ) (hg : g ≤ 15) (l : List Act) (hl : after (10 * g + 6) l) (Q : PUnit → sProp 𝕄) :
    iprop((CTX X ∗ crd c (.cL g) ∗ ow c (owed c l) ∗ clSt c i) ∗ ((ow c (owed c l) ∗ clSt c (i + 1)) -∗ Q ⟨⟩))
      ⊢ WP c (semWaitWord clS 1#32) Q := by
  iintro ⟨⟨#HX, Hc, HO, Hp⟩, Hk⟩
  ihave #HI := (ctx_cl X c) $$ HX
  ihave #HL := (ctx_lev X) $$ HX
  unfold cinv
  icases HI with ⟨%κ, HI⟩
  iapply (step_credit X c clS 14 i (10 * g + 6) κ (clF c) l (dut_cl X c) (amt_cl X c) (pay_cl X c) (by omega) hl Q)
  isplitr [Hk]
  · isplitr; · iexact HI
    isplitr; · iexact HL
    isplitl [Hc]; · iapply (Entails.of_eq (show (crd c (.cL g) : sProp 𝕄) = cred (tallyAt (at_ c cCl) (10 * g + 6) 1) from rfl)); iexact Hc
    isplitl [HO]; · iexact HO
    iexact Hp
  iexact Hk

/-- A credit to the left neighbour: the slots of the hops up to `h + 1` have been freed. -/
theorem step_giveR (c : Dev nD) (h : ℕ) (h2 : 2 ≤ h) (hh : h ≤ 14) (l : List Act) (Q : PUnit → sProp 𝕄) :
    iprop((CTX X ∗ ow c (owed c (.cR h :: l)) ∗ Act.tok c (.cR h) ∗ okRs c (h + 2) ∗ reached ER (at_ (lf c) cCr) 0)
      ∗ (ow c (owed c l) -∗ Q ⟨⟩)) ⊢ WP c (semSignalWord (lf c) crS 1#32) Q := by
  have e : (Rd X).payload (at_ (lf c) cCr) 0 (h - 2) = okRs c (h + 2) := by
    rw [pay_cr, rt_lf, show h - 2 + 4 = h + 2 by omega]
  iintro ⟨⟨#HX, HO, Ht, Hp, Hr⟩, Hk⟩
  ihave #HI := (ctx_cr X (lf c)) $$ HX
  unfold cinv
  icases HI with ⟨%κ, HI⟩
  iapply (step_signal X c (lf c) crS 0 (10 * h + 10) (h - 2) κ l _ (by rw [dut_cr]; exact Finset.mem_range.mpr (by omega)) (amt_cr X (lf c) _)
    (owed_cons c (.cR h) l) Q)
  isplitr [Hk]
  · isplitr; · iexact HI
    isplitl [HO]; · iexact HO
    isplitl [Ht]; · iapply (Entails.of_eq (show (Act.tok c (.cR h) : sProp 𝕄) = dutyTok ER (at_ (lf c) cCr) 0 (h - 2) from rfl)); iexact Ht
    isplitl [Hp]; · iapply (Entails.of_eq e.symm); iexact Hp
    iexact Hr
  iexact Hk
/-- A credit to the right neighbour. -/
theorem step_giveL (c : Dev nD) (h : ℕ) (h2 : 2 ≤ h) (hh : h ≤ 15) (l : List Act) (Q : PUnit → sProp 𝕄) :
    iprop((CTX X ∗ ow c (owed c (.cL h :: l)) ∗ Act.tok c (.cL h) ∗ okLs c (h + 1) ∗ reached ER (at_ (rt c) cCl) 0)
      ∗ (ow c (owed c l) -∗ Q ⟨⟩)) ⊢ WP c (semSignalWord (rt c) clS 1#32) Q := by
  have e : (Rd X).payload (at_ (rt c) cCl) 0 (h - 2) = okLs c (h + 1) := by
    rw [pay_cl, lf_rt, show h - 2 + 3 = h + 1 by omega]
  iintro ⟨⟨#HX, HO, Ht, Hp, Hr⟩, Hk⟩
  ihave #HI := (ctx_cl X (rt c)) $$ HX
  unfold cinv
  icases HI with ⟨%κ, HI⟩
  iapply (step_signal X c (rt c) clS 0 (10 * h + 6) (h - 2) κ l _ (by rw [dut_cl]; exact Finset.mem_range.mpr (by omega)) (amt_cl X (rt c) _)
    (owed_cons c (.cL h) l) Q)
  isplitr [Hk]
  · isplitr; · iexact HI
    isplitl [HO]; · iexact HO
    isplitl [Ht]; · iapply (Entails.of_eq (show (Act.tok c (.cL h) : sProp 𝕄) = dutyTok ER (at_ (rt c) cCl) 0 (h - 2) from rfl)); iexact Ht
    isplitl [Hp]; · iapply (Entails.of_eq e.symm); iexact Hp
    iexact Hr
  iexact Hk

/-! ## Slots made free -/

/-- Device `c` has made the slot of right-going hop `g` free for that hop, as often as hops used it before. -/
def frR (c : Dev nD) (g : ℕ) : sProp 𝕄 := readerAt ES (kR c (g + 1)) (g / 3 + 1)
def frL (c : Dev nD) (g : ℕ) : sProp 𝕄 := readerAt ES (kL c (g + 1)) (g / 2 + 1)

theorem free_slotR (c : Dev nD) (h n : ℕ) :
    iprop(CTX X ∗ readerAt ES (kR c h) n ∗ slotR c (m3 h)) ⊢ (|={Set.univ}=> (readerAt ES (kR c h) (n + 1) ∗ released ES (kR c h) (n + 1)) : sProp 𝕄) := by
  iintro ⟨#HX, Hr, Hs⟩
  ihave #HI := (ctx_slot X (kR c h)) $$ HX
  unfold sinv
  rw [Sl_R]
  icases HI with ⟨%ι, HI⟩
  iapply (slot_release ES (Set.mem_univ ι) (slot_slot_false (ℓ := BR.view.loc (c : Thread nD τ)) (SR_ne (m3 h))) n)
  isplitr; · iexact HI
  isplitl [Hr]; · iexact Hr
  iexact Hs
theorem free_slotL (c : Dev nD) (h n : ℕ) :
    iprop(CTX X ∗ readerAt ES (kL c h) n ∗ slotL c (m2 h)) ⊢ (|={Set.univ}=> (readerAt ES (kL c h) (n + 1) ∗ released ES (kL c h) (n + 1)) : sProp 𝕄) := by
  iintro ⟨#HX, Hr, Hs⟩
  ihave #HI := (ctx_slot X (kL c h)) $$ HX
  unfold sinv
  rw [Sl_L]
  icases HI with ⟨%ι, HI⟩
  iapply (slot_release ES (Set.mem_univ ι) (slot_slot_false (ℓ := BL.view.loc (c : Thread nD τ)) (SL_ne (m2 h))) n)
  isplitr; · iexact HI
  isplitl [Hr]; · iexact Hr
  iexact Hs

theorem kR_add (c : Dev nD) (h : ℕ) : kR c (h + 3) = kR c h := Prod.ext rfl (Fin.ext (by show (h + 3) % 3 = h % 3; omega))
theorem kL_add (c : Dev nD) (h : ℕ) : kL c (h + 2) = kL c h := Prod.ext rfl (Fin.ext (by show 3 + (h + 2) % 2 = 3 + h % 2; omega))

/-- The slot that hop `g` used is free for hop `g + 3`. -/
theorem step_freeR (c : Dev nD) (g : ℕ) (A : S256x8192.Idx → Elt F .f32) :
    iprop(CTX X ∗ frR c g ∗ reached ER (at_ c (.dma (dRr (g + 3)))) ((g + 3) / 3) ∗ owns (c : Thread nD τ) (slR BR (m3 (g + 1))) fullShare A ∗ okRs c (g + 3))
      ⊢ (|={Set.univ}=> (frR c (g + 3) ∗ okRs c (g + 4)) : sProp 𝕄) := by
  have e1 : kR c (g + 3 + 1) = kR c (g + 1) := kR_add c (g + 1)
  have e2 : (g + 3) / 3 = g / 3 + 1 := by omega
  iintro ⟨#HX, Hr, Hp, Hs, Ho⟩
  ihave Hs := (slotR_of c (m3 (g + 1)) A) $$ Hs
  unfold frR
  imod (free_slotR X c (g + 1) (g / 3 + 1)) $$ [Hr Hs] with ⟨Hr, Hf⟩
  · isplitr; · iexact HX
    isplitl [Hr] <;> iassumption
  imodintro
  rw [e1, e2]
  isplitl [Hr]; · iexact Hr
  iapply (okRs_succ c (g + 3))
  isplitl [Ho]; · iexact Ho
  unfold okR
  rw [e1, e2]
  isplitl [Hf] <;> iassumption
theorem step_freeL (c : Dev nD) (g : ℕ) (A : S256x8192.Idx → Elt F .f32) :
    iprop(CTX X ∗ frL c g ∗ reached ER (at_ c (.dma (dRl (g + 2)))) ((g + 2) / 2) ∗ owns (c : Thread nD τ) (slL BL (m2 (g + 1))) fullShare A ∗ okLs c (g + 2))
      ⊢ (|={Set.univ}=> (frL c (g + 2) ∗ okLs c (g + 3)) : sProp 𝕄) := by
  have e1 : kL c (g + 2 + 1) = kL c (g + 1) := kL_add c (g + 1)
  have e2 : (g + 2) / 2 = g / 2 + 1 := by omega
  iintro ⟨#HX, Hr, Hp, Hs, Ho⟩
  ihave Hs := (slotL_of c (m2 (g + 1)) A) $$ Hs
  unfold frL
  imod (free_slotL X c (g + 1) (g / 2 + 1)) $$ [Hr Hs] with ⟨Hr, Hf⟩
  · isplitr; · iexact HX
    isplitl [Hr] <;> iassumption
  imodintro
  rw [e1, e2]
  isplitl [Hr]; · iexact Hr
  iapply (okLs_succ c (g + 2))
  isplitl [Ho]; · iexact Ho
  unfold okL
  rw [e1, e2]
  isplitl [Hf] <;> iassumption

end Cert.Ring
-- ==== Proof.Sends.lean ====
/- The copies to the two neighbours, whole chunks and halves. -/
module

public import proofs.«01_k».proof.Proof.Ring

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Cert.KernelIdeal Cert.KernelIdeal.Gen

variable {F : FTy → Type} [FloatOps F]

local notation "𝕄" => MT nD τ sig ℕ (Elt F) ℕ UU ℕ

variable (X : Dev nD → S256x8192.Idx → Elt F .f32)

/-- What a device needs of its own for the copies of hop `h`: the duty at its send semaphore, the turn at the slot. -/
def ownR (c : Dev nD) (h : ℕ) : sProp 𝕄 := iprop(dutyTok ER (at_ c (.dma (dSr h))) (h / 3) 0 ∗ writeTok ES (kR (rt c) (h + 1)) (h / 3 + 1))
def ownL (c : Dev nD) (h : ℕ) : sProp 𝕄 := iprop(dutyTok ER (at_ c (.dma (dSl h))) (h / 2) 0 ∗ writeTok ES (kL (lf c) (h + 1)) (h / 2 + 1))

theorem credR (s : Fin 3) : (slR BR s).view.dmaCredit = NF := rfl
theorem credL (s : Fin 2) : (slL BL s).view.dmaCredit = NF := rfl
theorem credHR (s : Fin 3) : (hfR BR s).view.dmaCredit = NH := rfl
theorem credHL (s : Fin 2) : (hfL BL s).view.dmaCredit = NH := rfl
theorem credX : MX.view.dmaCredit = NF := rfl
theorem amt_le {h : ℕ} (hh : h ≤ 14) : NF = amtH h := (if_pos hh).symm

section Send
variable {s : Shape} (src dst : Memref sig .tc .vmem s .f32) (hs : src.view.WordExact) (hd : dst.view.WordExact)
variable (c : Dev nD) (h : ℕ) (hh : h ≤ 15) (q : PosShare TreeShare) (A : s.Idx → Elt F .f32)
variable (h5 : dst.view.dmaCredit = amtH h) (l : List Act)
include hh h5

theorem step_sendR' (Fr : sProp 𝕄) (hD : (slotR (rt c) (m3 (h + 1)) : sProp 𝕄) ⊢ iprop((∃ fd, dst.view.loc ((rt c : Dev nD) : Thread nD τ) ↦[dst.view.set]{fullShare} fd) ∗ Fr))
    (hp1 : (owns (c : Thread nD τ) src q A : sProp 𝕄) ⊢ paySR X c h)
    (hp2 : iprop(owns ((rt c : Dev nD) : Thread nD τ) dst fullShare A ∗ Fr) ⊢ payRR X (rt c) h) (Q : PUnit → sProp 𝕄) :
    iprop((CTX X ∗ owns (c : Thread nD τ) src q A ∗ okR (rt c) h ∗ ownR c h ∗ reached ER (at_ c (.dma (dSr h))) (h / 3)
        ∗ ow c (owed c (.sR h :: l)) ∗ Act.tok c (.sR h))
      ∗ ((ow c (owed c l) ∗ crdSR c h) -∗ Q ⟨⟩)) ⊢ WP c (send src dst hs hd (rt c) (dSr h) (dRr h)) Q := by
  unfold okR ownR
  iintro ⟨⟨#HX, Hs, ⟨Hrel, Hr2⟩, ⟨Ht1, Hw⟩, Hr1, HO, Ht2⟩, Hk⟩
  ihave #HI1 := (ctx_sr X c h) $$ HX
  ihave #HI2 := (ctx_rr X (rt c) h) $$ HX
  ihave #HS := (ctx_slot X (kR (rt c) (h + 1))) $$ HX
  unfold cinv sinv
  icases HI1 with ⟨%κ₁, HI1⟩
  icases HI2 with ⟨%κ₂, HI2⟩
  icases HS with ⟨%ι, HS⟩
  imod (slot_take ES (Set.mem_univ ι) (h / 3 + 1)) $$ [Hrel Hw] with Hd
  · isplitr; · iexact HS
    isplitl [Hrel] <;> iassumption
  ihave Hd := (Entails.of_eq (Sl_R (rt c) (h + 1))) $$ Hd
  iapply (step_send X src dst hs hd c (rt c) (dSr h) (dRr h) (h / 3) (h / 3) (10 * h + 3) (amtH h) κ₁ κ₂ l _ q A _ Fr
    (dut_sr X c h hh) (amt_sr X c h 0) (dut_rr X (rt c) h hh) (amt_rr X (rt c) h 0) h5 (owed_cons c (.sR h) l) hD
    (hp1.trans (Entails.of_eq (pay_sr X c h 0).symm)) (hp2.trans (Entails.of_eq (pay_rr X (rt c) h 0).symm)) Q)
  isplitr [Hk]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]
    · iapply (Entails.of_eq (show (Act.tok c (.sR h) : sProp 𝕄) = dutyTok ER (at_ (rt c) (.dma (dRr h))) (h / 3) 0 from rfl)); iexact Ht2
    iexact Hr2
  iexact Hk

theorem step_sendL' (Fr : sProp 𝕄) (hD : (slotL (lf c) (m2 (h + 1)) : sProp 𝕄) ⊢ iprop((∃ fd, dst.view.loc ((lf c : Dev nD) : Thread nD τ) ↦[dst.view.set]{fullShare} fd) ∗ Fr))
    (hp1 : (owns (c : Thread nD τ) src q A : sProp 𝕄) ⊢ paySL X c h)
    (hp2 : iprop(owns ((lf c : Dev nD) : Thread nD τ) dst fullShare A ∗ Fr) ⊢ payRL X (lf c) h) (Q : PUnit → sProp 𝕄) :
    iprop((CTX X ∗ owns (c : Thread nD τ) src q A ∗ okL (lf c) h ∗ ownL c h ∗ reached ER (at_ c (.dma (dSl h))) (h / 2)
        ∗ ow c (owed c (.sL h :: l)) ∗ Act.tok c (.sL h))
      ∗ ((ow c (owed c l) ∗ crdSL c h) -∗ Q ⟨⟩)) ⊢ WP c (send src dst hs hd (lf c) (dSl h) (dRl h)) Q := by
  unfold okL ownL
  iintro ⟨⟨#HX, Hs, ⟨Hrel, Hr2⟩, ⟨Ht1, Hw⟩, Hr1, HO, Ht2⟩, Hk⟩
  ihave #HI1 := (ctx_sl X c h) $$ HX
  ihave #HI2 := (ctx_rl X (lf c) h) $$ HX
  ihave #HS := (ctx_slot X (kL (lf c) (h + 1))) $$ HX
  unfold cinv sinv
  icases HI1 with ⟨%κ₁, HI1⟩
  icases HI2 with ⟨%κ₂, HI2⟩
  icases HS with ⟨%ι, HS⟩
  imod (slot_take ES (Set.mem_univ ι) (h / 2 + 1)) $$ [Hrel Hw] with Hd
  · isplitr; · iexact HS
    isplitl [Hrel] <;> iassumption
  ihave Hd := (Entails.of_eq (Sl_L (lf c) (h + 1))) $$ Hd
  iapply (step_send X src dst hs hd c (lf c) (dSl h) (dRl h) (h / 2) (h / 2) (10 * h + 8) (amtH h) κ₁ κ₂ l _ q A _ Fr
    (dut_sl X c h hh) (amt_sl X c h 0) (dut_rl X (lf c) h hh) (amt_rl X (lf c) h 0) h5 (owed_cons c (.sL h) l) hD
    (hp1.trans (Entails.of_eq (pay_sl X c h 0).symm)) (hp2.trans (Entails.of_eq (pay_rl X (lf c) h 0).symm)) Q)
  isplitr [Hk]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]
    · iapply (Entails.of_eq (show (Act.tok c (.sL h) : sProp 𝕄) = dutyTok ER (at_ (lf c) (.dma (dRl h))) (h / 2) 0 from rfl)); iexact Ht2
    iexact Hr2
  iexact Hk
end Send

/-- A whole chunk to the right. -/
theorem step_sendR (src : Memref sig .tc .vmem S256x8192 .f32) (hs : src.view.WordExact) (c : Dev nD) (h : ℕ) (hd : (slR BR (m3 (h + 1))).view.WordExact) (hh : h ≤ 14)
    (q : PosShare TreeShare) (l : List Act) (hp1 : (owns (c : Thread nD τ) src q (X (lf^[h] c)) : sProp 𝕄) ⊢ paySR X c h) (Q : PUnit → sProp 𝕄) :
    iprop((CTX X ∗ owns (c : Thread nD τ) src q (X (lf^[h] c)) ∗ okR (rt c) h ∗ ownR c h ∗ reached ER (at_ c (.dma (dSr h))) (h / 3)
        ∗ ow c (owed c (.sR h :: l)) ∗ Act.tok c (.sR h))
      ∗ ((ow c (owed c l) ∗ crdSR c h) -∗ Q ⟨⟩)) ⊢ WP c (send src (slR BR (m3 (h + 1))) hs hd (rt c) (dSr h) (dRr h)) Q := by
  refine step_sendR' X src (slR BR (m3 (h + 1))) hs hd c h (by omega) q _ (amt_le hh) l iprop(emp) ?_ hp1 ?_ Q
  · unfold slotR slot
    rw [← set_slR]
    iintro H
    isplitl [H]; · iexact H
    iempintro
  · unfold payRR
    rw [if_pos hh, lf_it]
    iintro ⟨H, -⟩; iexact H
/-- A whole chunk to the left. -/
theorem step_sendL (src : Memref sig .tc .vmem S256x8192 .f32) (hs : src.view.WordExact) (c : Dev nD) (h : ℕ) (hd : (slL BL (m2 (h + 1))).view.WordExact) (hh : h ≤ 14)
    (q : PosShare TreeShare) (l : List Act) (hp1 : (owns (c : Thread nD τ) src q (X (rt^[h] c)) : sProp 𝕄) ⊢ paySL X c h) (Q : PUnit → sProp 𝕄) :
    iprop((CTX X ∗ owns (c : Thread nD τ) src q (X (rt^[h] c)) ∗ okL (lf c) h ∗ ownL c h ∗ reached ER (at_ c (.dma (dSl h))) (h / 2)
        ∗ ow c (owed c (.sL h :: l)) ∗ Act.tok c (.sL h))
      ∗ ((ow c (owed c l) ∗ crdSL c h) -∗ Q ⟨⟩)) ⊢ WP c (send src (slL BL (m2 (h + 1))) hs hd (lf c) (dSl h) (dRl h)) Q := by
  refine step_sendL' X src (slL BL (m2 (h + 1))) hs hd c h (by omega) q _ (amt_le hh) l iprop(emp) ?_ hp1 ?_ Q
  · unfold slotL slot
    rw [← set_slL]
    iintro H
    isplitl [H]; · iexact H
    iempintro
  · unfold payRL
    rw [if_pos hh, rt_it]
    iintro ⟨H, -⟩; iexact H

/-- The upper half of a chunk to the right, at hop 15. -/
theorem step_sendHR (hs : (hfR BR (m3 15)).view.WordExact) (hd : (hfR BR (m3 16)).view.WordExact) (c : Dev nD) (l : List Act) (Q : PUnit → sProp 𝕄) :
    iprop((CTX X ∗ owns (c : Thread nD τ) (hfR BR (m3 15)) qS (top (X (lf^[15] c))) ∗ okR (rt c) 15 ∗ ownR c 15 ∗ reached ER (at_ c (.dma (dSr 15))) (15 / 3)
        ∗ ow c (owed c (.sR 15 :: l)) ∗ Act.tok c (.sR 15))
      ∗ ((ow c (owed c l) ∗ crdSR c 15) -∗ Q ⟨⟩)) ⊢ WP c (send (hfR BR (m3 15)) (hfR BR (m3 16)) hs hd (rt c) (dSr 15) (dRr 15)) Q := by
  refine step_sendR' X (hfR BR (m3 15)) (hfR BR (m3 16)) hs hd c 15 (by omega) qS _ rfl l (slot (BR.view.loc ((rt c : Dev nD) : Thread nD τ)) (SR (m3 16) \ HR (m3 16))) ?_ ?_ ?_ Q
  · unfold slotR
    refine (slot_split (HR_sub (m3 16))).trans (sep_mono_left ?_)
    unfold slot
    rw [← set_hfR]
    exact .rfl
  · unfold paySR
    rw [if_neg (by omega), if_neg (by omega)]
  · unfold payRR
    rw [if_neg (by omega), lf_it]
/-- The lower half of a chunk to the left, at hop 15. -/
theorem step_sendHL (hs : (hfL BL (m2 15)).view.WordExact) (hd : (hfL BL (m2 16)).view.WordExact) (c : Dev nD) (l : List Act) (Q : PUnit → sProp 𝕄) :
    iprop((CTX X ∗ owns (c : Thread nD τ) (hfL BL (m2 15)) qS (bot (X (rt^[15] c))) ∗ okL (lf c) 15 ∗ ownL c 15 ∗ reached ER (at_ c (.dma (dSl 15))) (15 / 2)
        ∗ ow c (owed c (.sL 15 :: l)) ∗ Act.tok c (.sL 15))
      ∗ ((ow c (owed c l) ∗ crdSL c 15) -∗ Q ⟨⟩)) ⊢ WP c (send (hfL BL (m2 15)) (hfL BL (m2 16)) hs hd (lf c) (dSl 15) (dRl 15)) Q := by
  refine step_sendL' X (hfL BL (m2 15)) (hfL BL (m2 16)) hs hd c 15 (by omega) qS _ rfl l (slot (BL.view.loc ((lf c : Dev nD) : Thread nD τ)) (SL (m2 16) \ HL (m2 16))) ?_ ?_ ?_ Q
  · unfold slotL
    refine (slot_split (HL_sub (m2 16))).trans (sep_mono_left ?_)
    unfold slot
    rw [← set_hfL]
    exact .rfl
  · unfold paySL
    rw [if_neg (by omega), if_neg (by omega)]
  · unfold payRL
    rw [if_neg (by omega), rt_it]

end Cert.Ring
-- ==== Proof.Hop.lean ====
/- One middle hop: what a device holds before it, and that it holds the same of the next hop after it. -/
module

public import proofs.«01_k».proof.Proof.Sends
public import Idealize.ShloMosaic.Lib.Pipeline.BigSepL

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (X : Dev nD → S256x8192.Idx → Elt F .f32)

/-! ## The state between hops -/

/-- Before hop `k + 2`, of the right-going ring: the places in the rounds, the slots given free, the kept share of the
    chunk that went on last, the units to come. -/
def stR (c : Dev nD) (k : ℕ) : sProp 𝕄 := iprop((posSR c (k + 1) ∗ posSR c (k + 2) ∗ posSR c (k + 3)) ∗ (posRR c (k + 1) ∗ posRR c (k + 2) ∗ posRR c (k + 3))
  ∗ (frR c k ∗ frR c (k + 1) ∗ frR c (k + 2)) ∗ okRs c (k + 3) ∗ owns (c : Thread nD τ) (slR BR (m3 (k + 1))) qK (X (lf^[k + 1] c))
  ∗ crdSR c (k + 1) ∗ crSt c (k - 1) ∗ crd c (.sR (k + 1)) ∗ (if 1 ≤ k then crd c (.cR (k + 1)) else iprop(emp)))
/-- The same of the left-going ring. -/
def stL (c : Dev nD) (k : ℕ) : sProp 𝕄 := iprop((posSL c (k + 1) ∗ posSL c (k + 2)) ∗ (posRL c (k + 1) ∗ posRL c (k + 2))
  ∗ (frL c k ∗ frL c (k + 1)) ∗ okLs c (k + 2) ∗ owns (c : Thread nD τ) (slL BL (m2 (k + 1))) qK (X (rt^[k + 1] c))
  ∗ crdSL c (k + 1) ∗ clSt c k ∗ crd c (.sL (k + 1)))
/-- What the entry made known. -/
def know (c : Dev nD) : sProp 𝕄 := iprop(okRs (rt c) 3 ∗ okLs (lf c) 2 ∗ reached ER (at_ (lf c) cCr) 0 ∗ reached ER (at_ (rt c) cCl) 0)
instance know_pers (c : Dev nD) : BI.Persistent (know (F := F) c) := by unfold know; infer_instance
/-- What is in store for the acts of `l`, which begin with hop `h`. -/
def supp (c : Dev nD) (l : List Act) (h : ℕ) : sProp 𝕄 := iprop(bigSepL l (Act.tok c) ∗ bigSepL l (crd c)
  ∗ bigSep (Finset.Ico h 16) fun h => iprop(ownR c h ∗ ownL c h))

theorem supp_own (c : Dev nD) (h : ℕ) (hh : h < 16) :
    (bigSep (Finset.Ico h 16) fun h => iprop(ownR c h ∗ ownL c h)) ⊢ (iprop((ownR c h ∗ ownL c h) ∗ bigSep (Finset.Ico (h + 1) 16) fun h => iprop(ownR c h ∗ ownL c h)) : sProp 𝕄) := by
  have e : Finset.Ico h 16 = insert h (Finset.Ico (h + 1) 16) := by
    ext j; simp only [Finset.mem_Ico, Finset.mem_insert]; omega
  refine Entails.of_eq ?_
  rw [e, bigSep_insert (by simp)]
  rfl

theorem supp_mid (c : Dev nD) (n h : ℕ) (l : List Act) (hh : h < 16) :
    supp c (mid (n + 1) h l) h ⊢ (iprop((Act.tok c (.sR h) ∗ Act.tok c (.cL h) ∗ Act.tok c (.sL h) ∗ Act.tok c (.cR h))
      ∗ (crd c (.sR h) ∗ crd c (.cL h) ∗ crd c (.sL h) ∗ crd c (.cR h)) ∗ ownR c h ∗ ownL c h ∗ supp c (mid n (h + 1) l) (h + 1)) : sProp 𝕄) := by
  unfold supp
  rw [show mid (n + 1) h l = .sR h :: .cL h :: .sL h :: .cR h :: mid n (h + 1) l from rfl]
  simp only [bigSepL_cons']
  iintro ⟨⟨T1, T2, T3, T4, T⟩, ⟨C1, C2, C3, C4, C⟩, H⟩
  ihave H := (supp_own c h hh) $$ H
  icases H with ⟨⟨H1, H2⟩, H⟩
  isplitl [T1 T2 T3 T4]
  · isplitl [T1]; · iexact T1
    isplitl [T2]; · iexact T2
    isplitl [T3] <;> iassumption
  isplitl [C1 C2 C3 C4]
  · isplitl [C1]; · iexact C1
    isplitl [C2]; · iexact C2
    isplitl [C3] <;> iassumption
  isplitl [H1]; · iexact H1
  isplitl [H2]; · iexact H2
  isplitl [T]; · iexact T
  isplitl [C] <;> iassumption

/-! ## Facts at hand -/

theorem get_okR (c : Dev nD) (k : ℕ) : iprop(okRs (rt c) 3 ∗ crSt c k) ⊢ (okR (rt c) (k + 2) : sProp 𝕄) := by
  iintro ⟨H, HS⟩
  by_cases hk : k = 0
  · subst hk
    iapply (okRs_get (e := rt c) (h := 0 + 2) (n := 3) (by omega)); iexact H
  · ihave HS := (credSt_get c crS 13 k (crF c) (by omega)) $$ HS
    icases HS with ⟨%d, %hd, HS⟩
    iapply (okRs_get (e := rt c) (h := k + 2) (n := d + 4) (by omega)); iexact HS
theorem get_okL (c : Dev nD) (k : ℕ) : clSt c (k + 1) ⊢ (okL (lf c) (k + 2) : sProp 𝕄) := by
  iintro HS
  ihave HS := (credSt_get c clS 14 (k + 1) (clF c) (by omega)) $$ HS
  icases HS with ⟨%d, %hd, HS⟩
  iapply (okLs_get (e := lf c) (h := k + 2) (n := d + 3) (by omega)); iexact HS

theorem payRR_le {c : Dev nD} {g : ℕ} (hg : g ≤ 14) : payRR X c g ⊢ (iprop(owns (c : Thread nD τ) (slR BR (m3 (g + 1))) qS (X (lf^[g + 1] c))
    ∗ owns (c : Thread nD τ) (slR BR (m3 (g + 1))) qK (X (lf^[g + 1] c))) : sProp 𝕄) := by
  unfold payRR; rw [if_pos hg]; exact (owns_halves _ _ _ _).1
theorem payRL_le {c : Dev nD} {g : ℕ} (hg : g ≤ 14) : payRL X c g ⊢ (iprop(owns (c : Thread nD τ) (slL BL (m2 (g + 1))) qS (X (rt^[g + 1] c))
    ∗ owns (c : Thread nD τ) (slL BL (m2 (g + 1))) qK (X (rt^[g + 1] c))) : sProp 𝕄) := by
  unfold payRL; rw [if_pos hg]; exact (owns_halves _ _ _ _).1
theorem paySR_mid {c : Dev nD} {g : ℕ} (h1 : g ≠ 0) (hg : g ≤ 14) : paySR X c g = owns (c : Thread nD τ) (slR BR (m3 g)) qS (X (lf^[g] c)) := by
  unfold paySR; rw [if_neg h1, if_pos hg]
theorem paySL_mid {c : Dev nD} {g : ℕ} (h1 : g ≠ 0) (hg : g ≤ 14) : paySL X c g = owns (c : Thread nD τ) (slL BL (m2 g)) qS (X (rt^[g] c)) := by
  unfold paySL; rw [if_neg h1, if_pos hg]

/-- From hop 3 on a credit is taken before the right-going copy. -/
theorem step_takeR' (c : Dev nD) (k : ℕ) (hk : k ≤ 13) (l : List Act) (hl : after (10 * (k + 1) + 10) l) (Q : PUnit → sProp 𝕄) :
    iprop((CTX X ∗ (if 1 ≤ k then crd c (.cR (k + 1)) else iprop(emp)) ∗ ow c (owed c l) ∗ crSt c (k - 1)) ∗ ((ow c (owed c l) ∗ crSt c k) -∗ Q ⟨⟩))
      ⊢ WP c (whenP (3 ≤ k + 2) (semWaitWord crS 1#32)) Q := by
  unfold whenP
  by_cases h : 1 ≤ k
  · rw [if_pos h, if_pos (show 3 ≤ k + 2 by omega)]
    obtain ⟨j, rfl⟩ : ∃ j, k = j + 1 := ⟨k - 1, by omega⟩
    exact step_takeR X c (j + 1 + 1) j (by omega) l hl Q
  · rw [if_neg h, if_neg (show ¬ 3 ≤ k + 2 by omega)]
    obtain rfl : k = 0 := by omega
    rw [show (pure PUnit.unit : P F PUnit) = Prog.ret PUnit.unit from rfl, WP, wp_ret]
    iintro ⟨⟨-, -, HO, HS⟩, Hk⟩
    imodintro
    iapply Hk
    isplitl [HO] <;> iassumption

theorem after_tail {i : ℕ} {a : Act} {l : List Act} (h : after i (a :: l)) : after i l := fun b hb => h b (List.mem_cons_of_mem _ hb)

theorem bind_intro {α β : Type} (c : Dev nD) (p : P F α) (k : α → P F β) (Q : β → sProp 𝕄) :
    WP c p (fun a => WP c (k a) Q) ⊢ WP c (p >>= k) Q := Entails.of_eq (WP_bind c p k Q).symm

theorem whenP_pos {b : Prop} [Decidable b] (h : b) (p : P F PUnit) : whenP b p = p := if_pos h

theorem waitSL_mid (hw : MX.IsWhole) (k : ℕ) : waitSL (F := F) MX hw BL cc0_scratch4 (k + 2)
    = wait (slL BL (m2 (k + 2))) (slL BL (m2 (k + 1))) (weL BL (m2 (k + 2))) (weL BL (m2 (k + 1))) (dSl (k + 1)) := if_pos (by omega)
theorem waitSR_mid (hw : MX.IsWhole) (k : ℕ) : waitSR (F := F) MX hw BR cc0_scratch2 (k + 2)
    = wait (slR BR (m3 (k + 2))) (slR BR (m3 (k + 1))) (weR BR (m3 (k + 2))) (weR BR (m3 (k + 1))) (dSr (k + 1)) := if_pos (by omega)

/-! ## The exchange -/

/-- The exchange of hop `k + 2`. -/
theorem step_xchg (hw : MX.IsWhole) (c : Dev nD) (n k : ℕ) (hn : k + n = 12) (Q : PUnit → sProp 𝕄) :
    iprop((CTX X ∗ know c ∗ ow c (owed c (mid (n + 1) (k + 2) planEnd)) ∗ stR X c k ∗ stL X c k ∗ supp c (mid (n + 1) (k + 2) planEnd) (k + 2))
      ∗ ((ow c (owed c (mid n (k + 3) planEnd)) ∗ stR X c (k + 1) ∗ stL X c (k + 1) ∗ supp c (mid n (k + 3) planEnd) (k + 3)) -∗ Q ⟨⟩))
      ⊢ WP c (xchg MX hw BR BL cc0_scratch2 cc0_scratch3 cc0_scratch4 cc0_scratch5 cc0_scratch6 cc0_scratch7 (rt c) (lf c) (k + 2)) Q := by
  have ha : ∀ i, i ≤ 10 * (k + 2) + 2 → after i (mid (n + 1) (k + 2) planEnd) := fun i hi => after_mid hi (by omega) (after_end (by omega))
  have ha1 : ∀ i, i ≤ 10 * (k + 2) + 2 → after i (.cL (k + 2) :: .sL (k + 2) :: .cR (k + 2) :: mid n (k + 3) planEnd) := fun i hi => after_tail (ha i hi)
  have ha2 : ∀ i, i ≤ 10 * (k + 2) + 2 → after i (.cR (k + 2) :: mid n (k + 3) planEnd) := fun i hi => after_tail (after_tail (ha1 i hi))
  have ha3 : after (10 * (k + 2) + 6) (.sL (k + 2) :: .cR (k + 2) :: mid n (k + 3) planEnd) :=
    after_cons (show 10 * (k + 2) + 6 < 10 * (k + 2) + 8 by omega) (show 10 * (k + 2) + 8 < 200 by omega)
      (after_cons (show 10 * (k + 2) + 6 < 10 * (k + 2) + 10 by omega) (show 10 * (k + 2) + 10 < 200 by omega)
        (after_mid (by omega) (by omega) (after_end (by omega))))
  unfold stR stL
  iintro ⟨⟨#HX, #HK, HO, ⟨⟨SR1, SR2, SR3⟩, ⟨RR1, RR2, RR3⟩, ⟨FR0, FR1, FR2⟩, OKR, KR, CSR, CR, CRR, CCR⟩,
    ⟨⟨SL1, SL2⟩, ⟨RL1, RL2⟩, ⟨FL0, FL1⟩, OKL, KL, CSL, CL, CRL⟩, HU⟩, Hk⟩
  ihave HU := (supp_mid c n (k + 2) planEnd (by omega)) $$ HU
  icases HU with ⟨⟨T1, T2, T3, T4⟩, ⟨C1, C2, C3, C4⟩, OR, OL, HU⟩
  unfold know
  icases HK with ⟨#K1, #K2, #K3, #K4⟩
  unfold xchg
  -- what comes from the left
  rw [WP_bind]
  iapply (step_recvR X _ _ (weR BR (m3 (k + 2))) (weR BR (m3 (k + 2))) c (k + 1) (by omega) (amt_le (by omega)) (mid (n + 1) (k + 2) planEnd) (ha _ (by omega)) _)
  isplitl [HO CRR RR1]
  · isplitr; · iexact HX
    isplitl [CRR]; · iexact CRR
    isplitl [HO] <;> iassumption
  iintro ⟨HO, RR4, HP⟩
  ihave HP := (payRR_le X (by omega)) $$ HP
  icases HP with ⟨PR, KR'⟩
  rw [WP_bind]
  iapply (step_takeR' X c k (by omega) (mid (n + 1) (k + 2) planEnd) (ha _ (by omega)) _)
  isplitl [HO CCR CR]
  · isplitr; · iexact HX
    isplitl [CCR]; · iexact CCR
    isplitl [HO] <;> iassumption
  iintro ⟨HO, CR⟩
  -- goes on to the right
  ihave HA := (keep (get_okR c k)) $$ [CR]
  · isplitr; · iexact K1
    iexact CR
  icases HA with ⟨OK, -, CR⟩
  ihave HS := (show (posSR c (k + 2) : sProp 𝕄) ⊢ iprop(atPos ER (at_ c (.dma (dSr (k + 2)))) ((k + 2) / 3) ∅ 0 ∗ reached ER (at_ c (.dma (dSr (k + 2)))) ((k + 2) / 3)) from .rfl) $$ SR2
  icases HS with ⟨SR2, #SRr⟩
  rw [WP_bind]
  iapply (step_sendR X (slR BR (m3 (k + 2))) (weR BR (m3 (k + 2))) c (k + 2) (weR BR (m3 (k + 3))) (by omega) qS (.cL (k + 2) :: .sL (k + 2) :: .cR (k + 2) :: mid n (k + 3) planEnd)
    (Entails.of_eq (paySR_mid X (by omega) (by omega)).symm) _)
  isplitl [HO PR OK OR T1]
  · isplitr; · iexact HX
    isplitl [PR]; · iexact PR
    isplitl [OK]; · iexact OK
    isplitl [OR]; · iexact OR
    isplitr; · iexact SRr
    isplitl [HO]; · iexact HO
    iexact T1
  iintro ⟨HO, CSR'⟩
  -- what comes from the right
  rw [WP_bind]
  iapply (step_recvL X _ _ (weL BL (m2 (k + 2))) (weL BL (m2 (k + 2))) c (k + 1) (by omega) (amt_le (by omega)) _ (ha1 _ (by omega)) _)
  isplitl [HO CRL RL1]
  · isplitr; · iexact HX
    isplitl [CRL]; · iexact CRL
    isplitl [HO] <;> iassumption
  iintro ⟨HO, RL3, HP⟩
  ihave HP := (payRL_le X (by omega)) $$ HP
  icases HP with ⟨PL, KL'⟩
  -- the left-going slot of the hop before is free
  rw [WP_bind, waitSL_mid]
  iapply (step_backL X _ _ (weL BL (m2 (k + 2))) (weL BL (m2 (k + 1))) c (k + 1) (by omega) (amt_le (by omega)) _ (ha1 0 (by omega)) _)
  isplitl [HO CSL SL1]
  · isplitr; · iexact HX
    isplitl [CSL]; · iexact CSL
    isplitl [HO] <;> iassumption
  iintro ⟨HO, SL3, HP⟩
  ihave HP := (Entails.of_eq (paySL_mid X (c := c) (g := k + 1) (by omega) (by omega))) $$ HP
  ihave KL := (owns_halves (c : Thread nD τ) (slL BL (m2 (k + 1))) fullShare (X (rt^[k + 1] c))).2 $$ [HP KL]
  · isplitl [HP] <;> iassumption
  ihave HS := (show (posRL c (k + 2) : sProp 𝕄) ⊢ iprop(atPos ER (at_ c (.dma (dRl (k + 2)))) ((k + 2) / 2) ∅ 0 ∗ reached ER (at_ c (.dma (dRl (k + 2)))) ((k + 2) / 2)) from .rfl) $$ RL2
  icases HS with ⟨RL2, #RLr⟩
  imod (step_freeL X c k (X (rt^[k + 1] c))) $$ [FL0 KL OKL] with ⟨FL2, OKL⟩
  · isplitr; · iexact HX
    isplitl [FL0]; · iexact FL0
    isplitr; · iexact RLr
    isplitl [KL] <;> iassumption
  ihave HA := (keep (show (okLs c (k + 3) : sProp 𝕄) ⊢ okLs c (k + 3) from .rfl)) $$ OKL
  icases HA with ⟨OKL', OKL⟩
  iapply (bind_intro c _ _ _)
  rw [whenP_pos (show 2 ≤ k + 2 by omega)]
  iapply (step_giveL X c (k + 2) (by omega) (by omega) (.sL (k + 2) :: .cR (k + 2) :: mid n (k + 3) planEnd) _)
  isplitl [HO T2 OKL']
  · isplitr; · iexact HX
    isplitl [HO]; · iexact HO
    isplitl [T2]; · iexact T2
    isplitl [OKL']; · iexact OKL'
    iexact K4
  iintro HO
  -- goes on to the left
  iapply (bind_intro c _ _ _)
  rw [whenP_pos (show 2 ≤ k + 2 by omega)]
  iapply (step_takeL X c (k + 2) k (by omega) _ ha3 _)
  isplitl [HO C2 CL]
  · isplitr; · iexact HX
    isplitl [C2]; · iexact C2
    isplitl [HO] <;> iassumption
  iintro ⟨HO, CL⟩
  ihave HA := (keep (get_okL c k)) $$ CL
  icases HA with ⟨OK, CL⟩
  ihave HS := (show (posSL c (k + 2) : sProp 𝕄) ⊢ iprop(atPos ER (at_ c (.dma (dSl (k + 2)))) ((k + 2) / 2) ∅ 0 ∗ reached ER (at_ c (.dma (dSl (k + 2)))) ((k + 2) / 2)) from .rfl) $$ SL2
  icases HS with ⟨SL2, #SLr⟩
  rw [WP_bind]
  iapply (step_sendL X (slL BL (m2 (k + 2))) (weL BL (m2 (k + 2))) c (k + 2) (weL BL (m2 (k + 3))) (by omega) qS (.cR (k + 2) :: mid n (k + 3) planEnd)
    (Entails.of_eq (paySL_mid X (by omega) (by omega)).symm) _)
  isplitl [HO PL OK OL T3]
  · isplitr; · iexact HX
    isplitl [PL]; · iexact PL
    isplitl [OK]; · iexact OK
    isplitl [OL]; · iexact OL
    isplitr; · iexact SLr
    isplitl [HO]; · iexact HO
    iexact T3
  iintro ⟨HO, CSL'⟩
  -- the right-going slot of the hop before is free
  rw [WP_bind, waitSR_mid]
  iapply (step_backR X _ _ (weR BR (m3 (k + 2))) (weR BR (m3 (k + 1))) c (k + 1) (by omega) (amt_le (by omega)) _ (ha2 0 (by omega)) _)
  isplitl [HO CSR SR1]
  · isplitr; · iexact HX
    isplitl [CSR]; · iexact CSR
    isplitl [HO] <;> iassumption
  iintro ⟨HO, SR4, HP⟩
  ihave HP := (Entails.of_eq (paySR_mid X (c := c) (g := k + 1) (by omega) (by omega))) $$ HP
  ihave KR := (owns_halves (c : Thread nD τ) (slR BR (m3 (k + 1))) fullShare (X (lf^[k + 1] c))).2 $$ [HP KR]
  · isplitl [HP] <;> iassumption
  ihave HS := (show (posRR c (k + 3) : sProp 𝕄) ⊢ iprop(atPos ER (at_ c (.dma (dRr (k + 3)))) ((k + 3) / 3) ∅ 0 ∗ reached ER (at_ c (.dma (dRr (k + 3)))) ((k + 3) / 3)) from .rfl) $$ RR3
  icases HS with ⟨RR3, #RRr⟩
  imod (step_freeR X c k (X (lf^[k + 1] c))) $$ [FR0 KR OKR] with ⟨FR3, OKR⟩
  · isplitr; · iexact HX
    isplitl [FR0]; · iexact FR0
    isplitr; · iexact RRr
    isplitl [KR] <;> iassumption
  ihave HA := (keep (show (okRs c (k + 4) : sProp 𝕄) ⊢ okRs c (k + 4) from .rfl)) $$ OKR
  icases HA with ⟨OKR', OKR⟩
  rw [whenP_pos (show 2 ≤ k + 2 by omega)]
  iapply (step_giveR X c (k + 2) (by omega) (by omega) (mid n (k + 3) planEnd) _)
  isplitl [HO T4 OKR']
  · isplitr; · iexact HX
    isplitl [HO]; · iexact HO
    isplitl [T4]; · iexact T4
    isplitl [OKR']; · iexact OKR'
    iexact K3
  iintro HO
  iapply Hk
  isplitl [HO]; · iexact HO
  isplitr [SL2 SL3 RL2 RL3 FL1 FL2 OKL KL' CSL' CL C3 HU]
  · isplitl [SR2 SR3 SR4]
    · isplitl [SR2]
      · unfold posSR pos
        isplitl [SR2]; · iexact SR2
        iexact SRr
      isplitl [SR3] <;> iassumption
    isplitl [RR2 RR3 RR4]
    · isplitl [RR2]; · iexact RR2
      isplitl [RR3]
      · unfold posRR pos
        isplitl [RR3]; · iexact RR3
        iexact RRr
      iexact RR4
    isplitl [FR1 FR2 FR3]
    · isplitl [FR1]; · iexact FR1
      isplitl [FR2] <;> iassumption
    isplitl [OKR]; · iexact OKR
    isplitl [KR']; · iexact KR'
    isplitl [CSR']; · iexact CSR'
    isplitl [CR]; · iexact CR
    isplitl [C1]; · iexact C1
    rw [if_pos (by omega)]
    iexact C4
  isplitr [HU]
  · isplitl [SL2 SL3]
    · isplitl [SL2]
      · unfold posSL pos
        isplitl [SL2]; · iexact SL2
        iexact SLr
      iexact SL3
    isplitl [RL2 RL3]
    · isplitl [RL2]
      · unfold posRL pos
        isplitl [RL2]; · iexact RL2
        iexact RLr
      iexact RL3
    isplitl [FL1 FL2]
    · isplitl [FL1] <;> iassumption
    isplitl [OKL]; · iexact OKL
    isplitl [KL']; · iexact KL'
    isplitl [CSL']; · iexact CSL'
    isplitl [CL]; · iexact CL
    iexact C3
  iexact HU

/-! ## A hop, all middle hops -/

variable (w : S8192x128.Idx → Elt F .f32) (T : S34.Idx → Elt F .i32)

/-- The rows of the chunks that come in before hop `h`. -/
def upTo (c : Dev nD) (h : ℕ) (i : S8192x128.Idx) : Prop := ∃ j, j < h ∧ (org i = lf^[j] c ∨ org i = rt^[j] c)
/-- The operands and the result so far. -/
def ops (c : Dev nD) (p : S8192x128.Idx → Prop) : sProp 𝕄 :=
  iprop(owns (c : Thread nD τ) MT0 fullShare T ∗ owns (c : Thread nD τ) MW fullShare w ∗ outSt c (G X w (far c)) p)

theorem outSt_mono (c : Dev nD) (g : S8192x128.Idx → Elt F .f32) {p p' : S8192x128.Idx → Prop} (h : ∀ i, p' i → p i) :
    outSt c g p ⊢ (outSt c g p' : sProp 𝕄) := by
  unfold outSt
  iintro ⟨%f, %hf, H⟩
  iexists f
  isplitr; · ipureintro; exact fun i hi => hf i (h i hi)
  iexact H

theorem upTo_succ {c : Dev nD} {h : ℕ} (i : S8192x128.Idx) (hi : upTo c (h + 1) i) :
    (upTo c h i ∨ org i = lf^[h] c) ∨ org i = rt^[h] c := by
  obtain ⟨j, hj, ho⟩ := hi
  by_cases e : j = h
  · subst e; exact ho.elim (fun h => .inl (.inr h)) .inr
  · exact .inl (.inl ⟨j, by omega, ho⟩)

/-- What the table says on device `c`. -/
def tabOk (c : Dev nD) : Prop := T (ixT 0) = wd (rt c) ∧ T (ixT 1) = wd (lf c) ∧ (∀ h, h ≤ 16 → T (ixT (mT (h + 2))) = wd (lf^[h] c))
  ∧ ∀ h, 1 ≤ h → h ≤ 15 → T (ixT (mT (h + 18))) = wd (rt^[h] c)

theorem lf_ne_far (c : Dev nD) (h : ℕ) (hh : h ≤ 15) : lf^[h] c ≠ far c := by
  have : ∀ h : Fin 16, ∀ c : Dev nD, lf^[h.val] c ≠ far c := by decide
  exact this ⟨h, by omega⟩ c
theorem rt_ne_far (c : Dev nD) (h : ℕ) (hh : h ≤ 15) : rt^[h] c ≠ far c := by
  have : ∀ h : Fin 16, ∀ c : Dev nD, rt^[h.val] c ≠ far c := by decide
  exact this ⟨h, by omega⟩ c

/-- The state before hop `k + 2`, `n` middle hops to come. -/
def st (c : Dev nD) (n k : ℕ) : sProp 𝕄 := iprop(ow c (owed c (mid n (k + 2) planEnd)) ∗ stR X c k ∗ stL X c k
  ∗ supp c (mid n (k + 2) planEnd) (k + 2) ∗ ops X w T c (upTo c (k + 2)))

theorem step_hop (hw : MX.IsWhole) (c : Dev nD) (n k : ℕ) (hn : k + n = 12) (hT : tabOk T c) (Q : PUnit → sProp 𝕄) :
    iprop((CTX X ∗ know c ∗ st X w T c (n + 1) k) ∗ (st X w T c n (k + 1) -∗ Q ⟨⟩))
      ⊢ WP c (hop MT0 MX hw MW MO BR BL cc0_scratch2 cc0_scratch3 cc0_scratch4 cc0_scratch5 cc0_scratch6 cc0_scratch7 (rt c) (lf c) (k + 2)) Q := by
  unfold st ops hop
  iintro ⟨⟨#HX, #HK, HO, HR, HL, HU, ⟨HT, HW, HB⟩⟩, Hk⟩
  rw [WP_bind]
  iapply (step_xchg X hw c n k hn _)
  isplitl [HO HR HL HU]
  · isplitr; · iexact HX
    isplitr; · iexact HK
    isplitl [HO]; · iexact HO
    isplitl [HR]; · iexact HR
    isplitl [HL] <;> iassumption
  iintro ⟨HO, HR, HL, HU⟩
  rw [WP_bind]
  unfold stR stL
  icases HR with ⟨HR1, HR2, HR3, HR4, KR, HR5⟩
  icases HL with ⟨HL1, HL2, HL3, HL4, KL, HL5⟩
  iapply (step_gemmR X w T c (lf^[k + 2] c) (far c) (m3 (k + 2)) (mT (k + 2 + 2)) qK fullShare fullShare (hT.2.2.1 (k + 2) (by omega))
    (lf_ne_far c (k + 2) (by omega)) (upTo c (k + 2)) _)
  isplitl [KR HT HW HB]
  · isplitl [KR]; · iexact KR
    isplitl [HT]; · iexact HT
    isplitl [HW] <;> iassumption
  iintro ⟨KR, HT, HW, HB⟩
  iapply (step_gemmL X w T c (rt^[k + 2] c) (far c) (m2 (k + 2)) (mT (k + 2 + 18)) qK fullShare fullShare (hT.2.2.2 (k + 2) (by omega) (by omega))
    (rt_ne_far c (k + 2) (by omega)) _ _)
  isplitl [KL HT HW HB]
  · isplitl [KL]; · iexact KL
    isplitl [HT]; · iexact HT
    isplitl [HW] <;> iassumption
  iintro ⟨KL, HT, HW, HB⟩
  iapply Hk
  isplitl [HO]; · iexact HO
  isplitl [HR1 HR2 HR3 HR4 KR HR5]
  · isplitl [HR1]; · iexact HR1
    isplitl [HR2]; · iexact HR2
    isplitl [HR3]; · iexact HR3
    isplitl [HR4]; · iexact HR4
    isplitl [KR] <;> iassumption
  isplitl [HL1 HL2 HL3 HL4 KL HL5]
  · isplitl [HL1]; · iexact HL1
    isplitl [HL2]; · iexact HL2
    isplitl [HL3]; · iexact HL3
    isplitl [HL4]; · iexact HL4
    isplitl [KL] <;> iassumption
  isplitl [HU]; · iexact HU
  isplitl [HT]; · iexact HT
  isplitl [HW]; · iexact HW
  iapply (outSt_mono c (G X w (far c)) (fun i hi => upTo_succ (h := k + 2) i hi))
  iexact HB

/-- All middle hops from hop `k + 2` on. -/
theorem step_hops (hw : MX.IsWhole) (c : Dev nD) (hT : tabOk T c) (Q : PUnit → sProp 𝕄) : ∀ n k : ℕ, k + n = 13 →
    iprop((CTX X ∗ know c ∗ st X w T c n k) ∗ (st X w T c 0 13 -∗ Q ⟨⟩))
      ⊢ WP c (hops MT0 MX hw MW MO BR BL cc0_scratch2 cc0_scratch3 cc0_scratch4 cc0_scratch5 cc0_scratch6 cc0_scratch7 (rt c) (lf c) n (k + 2)) Q
  | 0, k, hn => by
    obtain rfl : k = 13 := by omega
    unfold hops
    rw [show (pure PUnit.unit : P F PUnit) = Prog.ret PUnit.unit from rfl, WP, wp_ret]
    iintro ⟨⟨-, -, H⟩, Hk⟩
    imodintro
    iapply Hk; iexact H
  | n + 1, k, hn => by
    unfold hops
    rw [WP_bind]
    iintro ⟨⟨#HX, #HK, H⟩, Hk⟩
    iapply (step_hop X w T hw c n k (by omega) hT _)
    isplitl [H]
    · isplitr; · iexact HX
      isplitr; · iexact HK
      iexact H
    iintro H
    iapply (step_hops hw c hT Q n (k + 1) (by omega))
    isplitl [H]
    · isplitr; · iexact HX
      isplitr; · iexact HK
      iexact H
    iexact Hk

end Cert.Ring
-- ==== Proof.Entry.lean ====
/- The entry of the body, hop 0 and hop 1. -/
module

public import proofs.«01_k».proof.Proof.Hop

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (X : Dev nD → S256x8192.Idx → Elt F .f32)

theorem supp_cons (c : Dev nD) (a : Act) (l : List Act) (h : ℕ) :
    supp c (a :: l) h ⊢ (iprop(Act.tok c a ∗ crd c a ∗ supp c l h) : sProp 𝕄) := by
  unfold supp
  simp only [bigSepL_cons']
  iintro ⟨⟨T1, T⟩, ⟨C1, C⟩, H⟩
  isplitl [T1]; · iexact T1
  isplitl [C1]; · iexact C1
  isplitl [T]; · iexact T
  isplitl [C] <;> iassumption
theorem supp_next (c : Dev nD) (l : List Act) (h : ℕ) (hh : h < 16) :
    supp c l h ⊢ (iprop(ownR c h ∗ ownL c h ∗ supp c l (h + 1)) : sProp 𝕄) := by
  unfold supp
  iintro ⟨T, C, H⟩
  ihave H := (supp_own c h hh) $$ H
  icases H with ⟨⟨H1, H2⟩, H⟩
  isplitl [H1]; · iexact H1
  isplitl [H2]; · iexact H2
  isplitl [T]; · iexact T
  isplitl [C] <;> iassumption

theorem pos_reached (c : Dev nD) (sm : DmaSem sig) (r : ℕ) : pos c sm r ⊢ (iprop(reached ER (at_ c (.dma sm)) r ∗ pos c sm r) : sProp 𝕄) :=
  keep (by unfold pos; iintro ⟨-, H⟩; iexact H)

/-- The acts still to come behind the entry, behind each copy of hops 0 and 1. -/
abbrev l4 : List Act := mid 13 2 planEnd
abbrev l3 : List Act := .sL 1 :: l4
abbrev l2 : List Act := .sR 1 :: l3
abbrev l1 : List Act := .sL 0 :: l2
abbrev l0 : List Act := .sR 0 :: l1

theorem after_l4 {i : ℕ} (h : i ≤ 22) : after i l4 := after_mid h (by decide) (after_end (by omega))
theorem after_l3 {i : ℕ} (h : i < 18) : after i l3 := after_cons h (by decide) (after_l4 (by omega))
theorem after_l2 {i : ℕ} (h : i < 13) : after i l2 := after_cons h (by decide) (after_l3 (by omega))
theorem after_l0 {i : ℕ} (h : i < 3) : after i l0 :=
  after_cons h (by decide) (after_cons (show i < 8 by omega) (by decide) (after_l2 (by omega)))

/-! ## The entry -/

/-- The first places in the rounds of the copies' semaphores. -/
def places (c : Dev nD) : sProp 𝕄 := iprop((posSR c 0 ∗ posSR c 1 ∗ posSR c 2) ∗ (posRR c 0 ∗ posRR c 1 ∗ posRR c 2)
  ∗ (posSL c 0 ∗ posSL c 1) ∗ (posRL c 0 ∗ posRL c 1))
/-- The rights to make the slots free, none used. -/
def readers (c : Dev nD) : sProp 𝕄 := iprop((readerAt ES (kR c 1) 0 ∗ readerAt ES (kR c 2) 0 ∗ readerAt ES (kR c 3) 0)
  ∗ (readerAt ES (kL c 1) 0 ∗ readerAt ES (kL c 2) 0))
/-- Every slot is free. -/
def freed (c : Dev nD) : sProp 𝕄 := iprop((frR c 0 ∗ frR c 1 ∗ frR c 2) ∗ okRs c 3 ∗ (frL c 0 ∗ frL c 1) ∗ okLs c 2)

/-- A slot made free for the first time. -/
theorem first_freeR (c : Dev nD) (h : ℕ) (hh : h < 3) :
    iprop(CTX X ∗ readerAt ES (kR c (h + 1)) 0 ∗ slotR c (m3 (h + 1)) ∗ posRR c h ∗ okRs c h)
      ⊢ (|={Set.univ}=> (frR c h ∗ posRR c h ∗ okRs c (h + 1)) : sProp 𝕄) := by
  have e : h / 3 = 0 := by omega
  iintro ⟨#HX, Hr, Hs, Hp, Ho⟩
  imod (free_slotR X c (h + 1) 0) $$ [Hr Hs] with ⟨Hr, Hf⟩
  · isplitr; · iexact HX
    isplitl [Hr] <;> iassumption
  imodintro
  unfold posRR frR
  ihave Hp := (pos_reached c (dRr h) (h / 3)) $$ Hp
  icases Hp with ⟨Hpr, Hp⟩
  isplitl [Hr]; · rw [e]; iexact Hr
  isplitl [Hp]; · iexact Hp
  iapply (okRs_succ c h)
  isplitl [Ho]; · iexact Ho
  unfold okR
  isplitl [Hf]; · rw [e]; iexact Hf
  iexact Hpr
theorem first_freeL (c : Dev nD) (h : ℕ) (hh : h < 2) :
    iprop(CTX X ∗ readerAt ES (kL c (h + 1)) 0 ∗ slotL c (m2 (h + 1)) ∗ posRL c h ∗ okLs c h)
      ⊢ (|={Set.univ}=> (frL c h ∗ posRL c h ∗ okLs c (h + 1)) : sProp 𝕄) := by
  have e : h / 2 = 0 := by omega
  iintro ⟨#HX, Hr, Hs, Hp, Ho⟩
  imod (free_slotL X c (h + 1) 0) $$ [Hr Hs] with ⟨Hr, Hf⟩
  · isplitr; · iexact HX
    isplitl [Hr] <;> iassumption
  imodintro
  unfold posRL frL
  ihave Hp := (pos_reached c (dRl h) (h / 2)) $$ Hp
  icases Hp with ⟨Hpr, Hp⟩
  isplitl [Hr]; · rw [e]; iexact Hr
  isplitl [Hp]; · iexact Hp
  iapply (okLs_succ c h)
  isplitl [Ho]; · iexact Ho
  unfold okL
  isplitl [Hf]; · rw [e]; iexact Hf
  iexact Hpr

theorem okRs_zero (c : Dev nD) : (emp : sProp 𝕄) ⊢ okRs c 0 := by unfold okRs; rw [Finset.range_zero, bigSep_empty]; exact .rfl
theorem okLs_zero (c : Dev nD) : (emp : sProp 𝕄) ⊢ okLs c 0 := by unfold okLs; rw [Finset.range_zero, bigSep_empty]; exact .rfl

theorem free_all (c : Dev nD) :
    iprop(CTX X ∗ places c ∗ readers c ∗ slot (BR.view.loc (c : Thread nD τ)) Finset.univ ∗ slot (BL.view.loc (c : Thread nD τ)) Finset.univ)
      ⊢ (|={Set.univ}=> (places c ∗ freed c) : sProp 𝕄) := by
  unfold places readers freed
  iintro ⟨#HX, ⟨HSR, ⟨R0, R1, R2⟩, HSL, ⟨L0, L1⟩⟩, ⟨⟨A0, A1, A2⟩, ⟨B0, B1⟩⟩, HR, HL⟩
  ihave HR := (scrR_split c) $$ HR
  icases HR with ⟨S0, S1, S2⟩
  ihave HL := (scrL_split c) $$ HL
  icases HL with ⟨U0, U1⟩
  imod (first_freeR X c 0 (by decide)) $$ [A0 S1 R0] with ⟨A0, R0, OR⟩
  · isplitr; · iexact HX
    isplitl [A0]; · iexact A0
    isplitl [S1]; · iexact S1
    isplitl [R0]; · iexact R0
    iapply (okRs_zero c); iempintro
  imod (first_freeR X c 1 (by decide)) $$ [A1 S2 R1 OR] with ⟨A1, R1, OR⟩
  · isplitr; · iexact HX
    isplitl [A1]; · iexact A1
    isplitl [S2]; · iexact S2
    isplitl [R1] <;> iassumption
  imod (first_freeR X c 2 (by decide)) $$ [A2 S0 R2 OR] with ⟨A2, R2, OR⟩
  · isplitr; · iexact HX
    isplitl [A2]; · iexact A2
    isplitl [S0]; · iexact S0
    isplitl [R2] <;> iassumption
  imod (first_freeL X c 0 (by decide)) $$ [B0 U1 L0] with ⟨B0, L0, OL⟩
  · isplitr; · iexact HX
    isplitl [B0]; · iexact B0
    isplitl [U1]; · iexact U1
    isplitl [L0]; · iexact L0
    iapply (okLs_zero c); iempintro
  imod (first_freeL X c 1 (by decide)) $$ [B1 U0 L1 OL] with ⟨B1, L1, OL⟩
  · isplitr; · iexact HX
    isplitl [B1]; · iexact B1
    isplitl [U0]; · iexact U0
    isplitl [L1] <;> iassumption
  imodintro
  isplitl [HSR R0 R1 R2 HSL L0 L1]
  · isplitl [HSR]; · iexact HSR
    isplitl [R0 R1 R2]
    · isplitl [R0]; · iexact R0
      isplitl [R1] <;> iassumption
    isplitl [HSL]; · iexact HSL
    isplitl [L0] <;> iassumption
  isplitl [A0 A1 A2]
  · isplitl [A0]; · iexact A0
    isplitl [A1] <;> iassumption
  isplitl [OR]; · iexact OR
  isplitl [B0 B1]
  · isplitl [B0] <;> iassumption
  iexact OL

/-- A device's entry signal: its slots are free, and its credit semaphores are ready. -/
theorem step_bar (c d : Dev nD) (u : ℕ) (hu : u ∈ ({0, 1} : Finset ℕ)) (hd : (if u = 0 then lf d else rt d) = c) (a : Act) (ha : a.to c = d ∧ a.sm = cBar ∧ a.idx = 1 ∧ a.amt = 1 ∧ a.rnd = 0 ∧ a.dut = u)
    (l : List Act) (Q : PUnit → sProp 𝕄) :
    iprop((CTX X ∗ ow c (owed c (a :: l)) ∗ Act.tok c a ∗ payBar c ∗ reached ER (at_ d cBar) 0) ∗ (ow c (owed c l) -∗ Q ⟨⟩))
      ⊢ WP c (semSignalWord d bS 1#32) Q := by
  obtain ⟨h1, h2, h3, h4, h5, h6⟩ := ha
  have e : (Rd X).payload (at_ d cBar) 0 u = payBar c := by rw [pay_bar, hd]
  have et : (Act.tok c a : sProp 𝕄) = dutyTok ER (at_ d cBar) 0 u := by unfold Act.tok; rw [h1, h2, h5, h6]
  have eo : owed c (a :: l) = owed c l + tallyAt (at_ d cBar) 1 1 := by rw [owed_cons, h1, h2, h3, h4]
  iintro ⟨⟨#HX, HO, Ht, Hp, Hr⟩, Hk⟩
  ihave #HI := (ctx_bar X d) $$ HX
  unfold cinv
  icases HI with ⟨%κ, HI⟩
  iapply (step_signal X c d bS 0 1 u κ l _ (by rw [dut_bar]; exact hu) (amt_bar X d _) eo Q)
  isplitr [Hk]
  · isplitr; · iexact HI
    isplitl [HO]; · iexact HO
    isplitl [Ht]; · iapply (Entails.of_eq et); iexact Ht
    isplitl [Hp]; · iapply (Entails.of_eq e.symm); iexact Hp
    iexact Hr
  iexact Hk

/-- The wait for both neighbours. -/
theorem step_wait_bar (c : Dev nD) (l : List Act) (hl : after 1 l) (Q : PUnit → sProp 𝕄) :
    iprop((CTX X ∗ crd c .bL ∗ crd c .bR ∗ ow c (owed c l) ∗ atPos ER (at_ c cBar) 0 ∅ 0)
      ∗ ((ow c (owed c l) ∗ atPos ER (at_ c cBar) 1 ∅ 0 ∗ know c) -∗ Q ⟨⟩))
      ⊢ WP c (semWaitWord bS 2#32) Q := by
  have he : (Rd X).expect (at_ c cBar) 0 = 2 := rfl
  have hp : bigSep ((Rd X).duties (at_ c cBar) 0 \ ∅) (fun u => (Rd X).payload (at_ c cBar) 0 u)
      ⊢ (iprop(payBar (lf c) ∗ payBar (rt c)) : sProp 𝕄) := by
    rw [Finset.sdiff_empty, dut_bar, bigSep_insert (by decide), bigSep_singleton]
    exact .rfl
  unfold ow know
  iintro ⟨⟨#HX, C1, C2, ⟨%W, HO⟩, Hat⟩, Hk⟩
  ihave #HI := (ctx_bar X c) $$ HX
  ihave #HL := (ctx_lev X) $$ HX
  unfold cinv
  icases HI with ⟨%κ, HI⟩
  ihave C := (show iprop(crd c .bL ∗ crd c .bR) ⊢ (cred (tallyAt (at_ c cBar) 1 2) : sProp 𝕄) from
    (cred_add _ _).2.trans (Entails.of_eq (congrArg _ (tallyAt_add (at_ c cBar) 1 1 1)))) $$ [C1 C2]
  · isplitl [C1] <;> iassumption
  iapply (Rounds.wp_wait_rest_token 𝒱₀ ER (Rd X) (c : Thread nD τ) none (κ := κ)
      (wpE_semWait_eq 𝒱₀ (c : Thread nD τ) none Set.univ) (Set.mem_univ _) 1 (O := owed c l) (W := W) (R := 0) (m := 0) (T := ∅)
      ((Nat.zero_add _).trans he.symm)) $$ [C HO Hat]
  · isplitr; · iexact HI
    isplitl [C]; · iexact C
    isplitl [HO]; · iexact HO
    isplitr; · iapply (mayWait c _ (by decide) hl); iexact HL
    iexact Hat
  iintro ⟨HO, Hat, -, Hpay⟩
  ihave Hpay := hp $$ Hpay
  unfold payBar
  icases Hpay with ⟨⟨-, P2, P3, -⟩, ⟨P5, -, -, P8⟩⟩
  rw [wp_ret]
  imodintro
  iapply Hk
  isplitl [HO]; · iexists _; iexact HO
  isplitl [Hat]; · iexact Hat
  isplitl [P5]; · iexact P5
  isplitl [P2]; · iexact P2
  isplitl [P3] <;> iassumption

/-- The entry: both neighbours are told, both are waited for. -/
theorem step_entry (c : Dev nD) (p : P F PUnit) (Q : PUnit → sProp 𝕄) :
    iprop((CTX X ∗ (atPos ER (at_ c cBar) 0 ∅ 0 ∗ reached ER (at_ (lf c) cBar) 0 ∗ reached ER (at_ (rt c) cBar) 0)
        ∗ (reached ER (at_ c cCr) 0 ∗ reached ER (at_ c cCl) 0)
        ∗ (okRs c 3 ∗ okLs c 2) ∗ supp c plan 0 ∗ ow c (owed c plan))
      ∗ ((know c ∗ atPos ER (at_ c cBar) 1 ∅ 0 ∗ supp c l0 0 ∗ ow c (owed c l0)) -∗ WP c p Q))
      ⊢ WP c (do
          semSignalWord (lf c) bS 1#32
          semSignalWord (rt c) bS 1#32
          semWaitWord bS 2#32
          p) Q := by
  iintro ⟨⟨#HX, ⟨Hat, Hr1, Hr2⟩, Hcc, Hok, HU, HO⟩, Hk⟩
  haveI : Persistent (payBar c : sProp 𝕄) := by unfold payBar; infer_instance
  ihave #HP := (show iprop((reached ER (at_ c cCr) 0 ∗ reached ER (at_ c cCl) 0) ∗ (okRs c 3 ∗ okLs c 2)) ⊢ (payBar c : sProp 𝕄) by
    unfold payBar
    iintro ⟨⟨H1, H2⟩, ⟨H3, H4⟩⟩
    isplitl [H3]; · iexact H3
    isplitl [H4]; · iexact H4
    isplitl [H1] <;> iassumption) $$ [Hcc Hok]
  · isplitl [Hcc] <;> iassumption
  unfold plan
  ihave HU := (supp_cons c .bL _ 0) $$ HU
  icases HU with ⟨T1, C1, HU⟩
  ihave HU := (supp_cons c .bR _ 0) $$ HU
  icases HU with ⟨T2, C2, HU⟩
  rw [WP_bind]
  iapply (step_bar X c (lf c) 1 (by decide) (by rw [if_neg (by decide), rt_lf]) .bL ⟨rfl, rfl, rfl, rfl, rfl, rfl⟩ (.bR :: l0) _)
  isplitl [HO T1 Hr1]
  · isplitr; · iexact HX
    isplitl [HO]; · iexact HO
    isplitl [T1]; · iexact T1
    isplitr; · iexact HP
    iexact Hr1
  iintro HO
  rw [WP_bind]
  iapply (step_bar X c (rt c) 0 (by decide) (by rw [if_pos rfl, lf_rt]) .bR ⟨rfl, rfl, rfl, rfl, rfl, rfl⟩ l0 _)
  isplitl [HO T2 Hr2]
  · isplitr; · iexact HX
    isplitl [HO]; · iexact HO
    isplitl [T2]; · iexact T2
    isplitr; · iexact HP
    iexact Hr2
  iintro HO
  rw [WP_bind]
  iapply (step_wait_bar X c l0 (after_l0 (by decide)) _)
  isplitl [HO C1 C2 Hat]
  · isplitr; · iexact HX
    isplitl [C1]; · iexact C1
    isplitl [C2]; · iexact C2
    isplitl [HO] <;> iassumption
  iintro ⟨HO, Hat, HK⟩
  iapply Hk
  isplitl [HK]; · iexact HK
  isplitl [Hat]; · iexact Hat
  isplitl [HU] <;> iassumption

/-! ## Hop 0 -/

variable (w : S8192x128.Idx → Elt F .f32) (T : S34.Idx → Elt F .i32)

theorem get_okR' (c : Dev nD) (h : ℕ) (hh : h < 3) : know c ⊢ (okR (rt c) h : sProp 𝕄) := by
  unfold know; iintro ⟨H, -⟩; iapply (okRs_get (e := rt c) hh); iexact H
theorem get_okL' (c : Dev nD) (h : ℕ) (hh : h < 2) : know c ⊢ (okL (lf c) h : sProp 𝕄) := by
  unfold know; iintro ⟨-, H, -⟩; iapply (okLs_get (e := lf c) hh); iexact H
theorem paySR_zero (c : Dev nD) : paySR X c 0 = owns (c : Thread nD τ) MX qS (X c) := if_pos rfl
theorem paySL_zero (c : Dev nD) : paySL X c 0 = owns (c : Thread nD τ) MX qK.left (X c) := if_pos rfl

theorem step_hop0 (hw : MX.IsWhole) (c : Dev nD) (v : Elt F .i32) (hv : k0_chk3 v) (he : v = wd c) (Q : PUnit → sProp 𝕄) :
    iprop((CTX X ∗ know c ∗ (reached ER (at_ c (.dma (dSr 0))) (0 / 3) ∗ reached ER (at_ c (.dma (dSl 0))) (0 / 2))
        ∗ owns (c : Thread nD τ) MX fullShare (X c) ∗ ops X w T c (fun _ => False) ∗ supp c l0 0 ∗ ow c (owed c l0))
      ∗ ((owns (c : Thread nD τ) MX qK.right (X c) ∗ ops X w T c (upTo c 1) ∗ crdSR c 0 ∗ crdSL c 0 ∗ crd c (.sR 0) ∗ crd c (.sL 0)
        ∗ supp c l2 1 ∗ ow c (owed c l2)) -∗ Q ⟨⟩))
      ⊢ WP c (hop0 MX hw MW MO BR BL cc0_scratch2 cc0_scratch3 cc0_scratch4 cc0_scratch5 v hv (rt c) (lf c)) Q := by
  unfold hop0 ops
  iintro ⟨⟨#HX, #HK, ⟨Hr1, Hr2⟩, Hx, ⟨HT, HW, HB⟩, HU, HO⟩, Hk⟩
  ihave HU := (supp_cons c (.sR 0) _ 0) $$ HU
  icases HU with ⟨T1, C1, HU⟩
  ihave HU := (supp_cons c (.sL 0) _ 0) $$ HU
  icases HU with ⟨T2, C2, HU⟩
  ihave HU := (supp_next c _ 0 (by decide)) $$ HU
  icases HU with ⟨OR, OL, HU⟩
  ihave Hx := (owns_halves (c : Thread nD τ) MX fullShare (X c)).1 $$ Hx
  icases Hx with ⟨X1, Hx⟩
  ihave Hx := (owns_halves (c : Thread nD τ) MX qK (X c)).1 $$ Hx
  icases Hx with ⟨X2, X3⟩
  rw [WP_bind]
  iapply (step_sendR X MX hw.wordExact c 0 (weR BR 1) (by decide) qS l1 (Entails.of_eq (paySR_zero X c).symm) _)
  isplitl [X1 OR Hr1 HO T1]
  · isplitr; · iexact HX
    isplitl [X1]; · iexact X1
    isplitr; · iapply (get_okR' c 0 (by decide)); iexact HK
    isplitl [OR]; · iexact OR
    isplitl [Hr1]; · iexact Hr1
    isplitl [HO] <;> iassumption
  iintro ⟨HO, CSR⟩
  rw [WP_bind]
  iapply (step_sendL X MX hw.wordExact c 0 (weL BL 1) (by decide) qK.left l2 (Entails.of_eq (paySL_zero X c).symm) _)
  isplitl [X2 OL Hr2 HO T2]
  · isplitr; · iexact HX
    isplitl [X2]; · iexact X2
    isplitr; · iapply (get_okL' c 0 (by decide)); iexact HK
    isplitl [OL]; · iexact OL
    isplitl [Hr2]; · iexact Hr2
    isplitl [HO] <;> iassumption
  iintro ⟨HO, CSL⟩
  rw [WP_bind]
  iapply (step_loadX c qK.right (X c) _)
  isplitl [X3]; · iexact X3
  iintro X3
  rw [WP_bind]
  iapply (step_loadW c fullShare w _)
  isplitl [HW]; · iexact HW
  iintro HW
  iapply (step_rowsOut c c (far c) X w v hv he (lf_ne_far c 0 (by decide)) _ rfl (fun _ => False) _)
  isplitl [HB]; · iexact HB
  iintro HB
  iapply Hk
  isplitl [X3]; · iexact X3
  isplitl [HT HW HB]
  · isplitl [HT]; · iexact HT
    isplitl [HW]; · iexact HW
    iapply (outSt_mono c (G X w (far c)) (p := fun i => False ∨ org i = c) (p' := upTo c 1) (fun i hi => by
      obtain ⟨j, hj, ho⟩ := hi
      obtain rfl : j = 0 := by omega
      exact .inr (ho.elim id id)))
    iexact HB
  isplitl [CSR]; · iexact CSR
  isplitl [CSL]; · iexact CSL
  isplitl [C1]; · iexact C1
  isplitl [C2]; · iexact C2
  isplitl [HU] <;> iassumption

end Cert.Ring
-- ==== Proof.First.lean ====
/- Hop 1: the first received chunks, the own chunk's copies out. -/
module

public import proofs.«01_k».proof.Proof.Entry

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (X : Dev nD → S256x8192.Idx → Elt F .f32)

theorem waitSL_one (hw : MX.IsWhole) : waitSL (F := F) MX hw BL cc0_scratch4 1
    = wait (slL BL (m2 1)) MX (weL BL (m2 1)) hw.wordExact (dSl 0) := if_neg (by omega)
theorem waitSR_one (hw : MX.IsWhole) : waitSR (F := F) MX hw BR cc0_scratch2 1
    = wait (slR BR (m3 1)) MX (weR BR (m3 1)) hw.wordExact (dSr 0) := if_neg (by omega)
theorem whenP_neg {b : Prop} [Decidable b] (h : ¬ b) (p : P F PUnit) : whenP b p = pure ⟨⟩ := if_neg h
theorem step_pure (c : Dev nD) (Q : PUnit → sProp 𝕄) : Q ⟨⟩ ⊢ WP c (pure ⟨⟩ : P F PUnit) Q := by
  rw [show (pure PUnit.unit : P F PUnit) = Prog.ret PUnit.unit from rfl, WP, wp_ret]
  iintro H
  imodintro
  iexact H
theorem step_skip (c : Dev nD) {b : Prop} [Decidable b] (h : ¬ b) (p : P F PUnit) (Q : PUnit → sProp 𝕄) : Q ⟨⟩ ⊢ WP c (whenP b p) Q := by
  rw [whenP_neg h]; exact step_pure c Q

/-- The exchange of hop 1. -/
theorem step_xchg1 (hw : MX.IsWhole) (c : Dev nD) (Q : PUnit → sProp 𝕄) :
    iprop((CTX X ∗ know c ∗ owns (c : Thread nD τ) MX qK.right (X c) ∗ (crdSR c 0 ∗ crdSL c 0 ∗ crd c (.sR 0) ∗ crd c (.sL 0))
        ∗ supp c l2 1 ∗ ow c (owed c l2) ∗ places c ∗ freed c ∗ crSt c 0 ∗ clSt c 0)
      ∗ ((owns (c : Thread nD τ) MX fullShare (X c) ∗ ow c (owed c (mid 13 2 planEnd)) ∗ stR X c 0 ∗ stL X c 0 ∗ supp c (mid 13 2 planEnd) 2) -∗ Q ⟨⟩))
      ⊢ WP c (xchg MX hw BR BL cc0_scratch2 cc0_scratch3 cc0_scratch4 cc0_scratch5 cc0_scratch6 cc0_scratch7 (rt c) (lf c) 1) Q := by
  unfold places freed stR stL
  iintro ⟨⟨#HX, #HK, X3, ⟨CSR, CSL, CRR, CRL⟩, HU, HO, ⟨⟨SR0, SR1, SR2⟩, ⟨RR0, RR1, RR2⟩, ⟨SL0, SL1⟩, ⟨RL0, RL1⟩⟩,
    ⟨HFR, OKR, HFL, OKL⟩, CR, CL⟩, Hk⟩
  ihave HU := (supp_cons c (.sR 1) _ 1) $$ HU
  icases HU with ⟨T1, C1, HU⟩
  ihave HU := (supp_cons c (.sL 1) _ 1) $$ HU
  icases HU with ⟨T2, C2, HU⟩
  ihave HU := (supp_next c _ 1 (by decide)) $$ HU
  icases HU with ⟨OR, OL, HU⟩
  unfold xchg
  rw [WP_bind]
  iapply (step_recvR X _ _ (weR BR (m3 1)) (weR BR (m3 1)) c 0 (by omega) (amt_le (by omega)) l2 (after_l2 (by omega)) _)
  isplitl [HO CRR RR0]
  · isplitr; · iexact HX
    isplitl [CRR]; · iexact CRR
    isplitl [HO] <;> iassumption
  iintro ⟨HO, RR3, HP⟩
  ihave HP := (payRR_le X (by omega)) $$ HP
  icases HP with ⟨PR, KR'⟩
  rw [WP_bind]
  iapply (step_skip c (by omega) _ _)
  ihave HS := (show (posSR c 1 : sProp 𝕄) ⊢ iprop(reached ER (at_ c (.dma (dSr 1))) (1 / 3) ∗ posSR c 1) from pos_reached c (dSr 1) (1 / 3)) $$ SR1
  icases HS with ⟨#SRr, SR1⟩
  rw [WP_bind]
  iapply (step_sendR X (slR BR (m3 1)) (weR BR (m3 1)) c 1 (weR BR (m3 2)) (by omega) qS l3
    (Entails.of_eq (paySR_mid X (by omega) (by omega)).symm) _)
  isplitl [HO PR OR T1]
  · isplitr; · iexact HX
    isplitl [PR]; · iexact PR
    isplitr; · iapply (get_okR' c 1 (by decide)); iexact HK
    isplitl [OR]; · iexact OR
    isplitr; · iexact SRr
    isplitl [HO]; · iexact HO
    iexact T1
  iintro ⟨HO, CSR'⟩
  rw [WP_bind]
  iapply (step_recvL X _ _ (weL BL (m2 1)) (weL BL (m2 1)) c 0 (by omega) (amt_le (by omega)) l3 (after_l3 (by omega)) _)
  isplitl [HO CRL RL0]
  · isplitr; · iexact HX
    isplitl [CRL]; · iexact CRL
    isplitl [HO] <;> iassumption
  iintro ⟨HO, RL2, HP⟩
  ihave HP := (payRL_le X (by omega)) $$ HP
  icases HP with ⟨PL, KL'⟩
  rw [WP_bind, waitSL_one]
  iapply (step_backL X _ _ (weL BL (m2 1)) hw.wordExact c 0 (by omega) credX l3 (after_l3 (by omega)) _)
  isplitl [HO CSL SL0]
  · isplitr; · iexact HX
    isplitl [CSL]; · iexact CSL
    isplitl [HO] <;> iassumption
  iintro ⟨HO, SL2, HP⟩
  ihave X2 := (Entails.of_eq (paySL_zero X c)) $$ HP
  rw [WP_bind]
  iapply (step_skip c (by omega) _ _)
  rw [WP_bind]
  iapply (step_skip c (by omega) _ _)
  ihave HS := (show (posSL c 1 : sProp 𝕄) ⊢ iprop(reached ER (at_ c (.dma (dSl 1))) (1 / 2) ∗ posSL c 1) from pos_reached c (dSl 1) (1 / 2)) $$ SL1
  icases HS with ⟨#SLr, SL1⟩
  rw [WP_bind]
  iapply (step_sendL X (slL BL (m2 1)) (weL BL (m2 1)) c 1 (weL BL (m2 2)) (by omega) qS l4
    (Entails.of_eq (paySL_mid X (by omega) (by omega)).symm) _)
  isplitl [HO PL OL T2]
  · isplitr; · iexact HX
    isplitl [PL]; · iexact PL
    isplitr; · iapply (get_okL' c 1 (by decide)); iexact HK
    isplitl [OL]; · iexact OL
    isplitr; · iexact SLr
    isplitl [HO]; · iexact HO
    iexact T2
  iintro ⟨HO, CSL'⟩
  rw [WP_bind, waitSR_one]
  iapply (step_backR X _ _ (weR BR (m3 1)) hw.wordExact c 0 (by omega) credX l4 (after_l4 (by omega)) _)
  isplitl [HO CSR SR0]
  · isplitr; · iexact HX
    isplitl [CSR]; · iexact CSR
    isplitl [HO] <;> iassumption
  iintro ⟨HO, SR3, HP⟩
  ihave X1 := (Entails.of_eq (paySR_zero X c)) $$ HP
  iapply (step_skip c (by omega) _ _)
  ihave X4 := (owns_halves (c : Thread nD τ) MX qK (X c)).2 $$ [X2 X3]
  · isplitl [X2] <;> iassumption
  iapply Hk
  isplitl [X1 X4]
  · iapply (owns_halves (c : Thread nD τ) MX fullShare (X c)).2
    isplitl [X1] <;> iassumption
  isplitl [HO]; · iexact HO
  isplitl [SR1 SR2 SR3 RR1 RR2 RR3 HFR OKR KR' CSR' CR C1]
  · isplitl [SR1 SR2 SR3]
    · isplitl [SR1]; · iexact SR1
      isplitl [SR2] <;> iassumption
    isplitl [RR1 RR2 RR3]
    · isplitl [RR1]; · iexact RR1
      isplitl [RR2] <;> iassumption
    isplitl [HFR]; · iexact HFR
    isplitl [OKR]; · iexact OKR
    isplitl [KR']; · iexact KR'
    isplitl [CSR']; · iexact CSR'
    isplitl [CR]; · iexact CR
    isplitl [C1]; · iexact C1
    rw [if_neg (by omega)]
    iempintro
  isplitr [HU]
  · isplitl [SL1 SL2]
    · isplitl [SL1] <;> iassumption
    isplitl [RL1 RL2]
    · isplitl [RL1] <;> iassumption
    isplitl [HFL]; · iexact HFL
    isplitl [OKL]; · iexact OKL
    isplitl [KL']; · iexact KL'
    isplitl [CSL']; · iexact CSL'
    isplitl [CL]; · iexact CL
    iexact C2
  iexact HU

variable (w : S8192x128.Idx → Elt F .f32) (T : S34.Idx → Elt F .i32)

theorem step_hop1 (hw : MX.IsWhole) (c : Dev nD) (hT : tabOk T c) (Q : PUnit → sProp 𝕄) :
    iprop((CTX X ∗ know c ∗ owns (c : Thread nD τ) MX qK.right (X c) ∗ (crdSR c 0 ∗ crdSL c 0 ∗ crd c (.sR 0) ∗ crd c (.sL 0))
        ∗ supp c l2 1 ∗ ow c (owed c l2) ∗ places c ∗ freed c ∗ crSt c 0 ∗ clSt c 0 ∗ ops X w T c (upTo c 1))
      ∗ ((owns (c : Thread nD τ) MX fullShare (X c) ∗ st X w T c 13 0) -∗ Q ⟨⟩))
      ⊢ WP c (hop MT0 MX hw MW MO BR BL cc0_scratch2 cc0_scratch3 cc0_scratch4 cc0_scratch5 cc0_scratch6 cc0_scratch7 (rt c) (lf c) 1) Q := by
  unfold st ops hop
  iintro ⟨⟨#HX, #HK, X3, HC, HU, HO, HP, HF, CR, CL, ⟨HT, HW, HB⟩⟩, Hk⟩
  rw [WP_bind]
  iapply (step_xchg1 X hw c _)
  isplitl [X3 HC HU HO HP HF CR CL]
  · isplitr; · iexact HX
    isplitr; · iexact HK
    isplitl [X3]; · iexact X3
    isplitl [HC]; · iexact HC
    isplitl [HU]; · iexact HU
    isplitl [HO]; · iexact HO
    isplitl [HP]; · iexact HP
    isplitl [HF]; · iexact HF
    isplitl [CR] <;> iassumption
  iintro ⟨Hx, HO, HR, HL, HU⟩
  rw [WP_bind]
  unfold stR stL
  icases HR with ⟨HR1, HR2, HR3, HR4, KR, HR5⟩
  icases HL with ⟨HL1, HL2, HL3, HL4, KL, HL5⟩
  iapply (step_gemmR X w T c (lf^[1] c) (far c) (m3 1) (mT (1 + 2)) qK fullShare fullShare (hT.2.2.1 1 (by omega))
    (lf_ne_far c 1 (by omega)) (upTo c 1) _)
  isplitl [KR HT HW HB]
  · isplitl [KR]; · iexact KR
    isplitl [HT]; · iexact HT
    isplitl [HW] <;> iassumption
  iintro ⟨KR, HT, HW, HB⟩
  iapply (step_gemmL X w T c (rt^[1] c) (far c) (m2 1) (mT (1 + 18)) qK fullShare fullShare (hT.2.2.2 1 (by omega) (by omega))
    (rt_ne_far c 1 (by omega)) _ _)
  isplitl [KL HT HW HB]
  · isplitl [KL]; · iexact KL
    isplitl [HT]; · iexact HT
    isplitl [HW] <;> iassumption
  iintro ⟨KL, HT, HW, HB⟩
  iapply Hk
  isplitl [Hx]; · iexact Hx
  isplitl [HO]; · iexact HO
  isplitl [HR1 HR2 HR3 HR4 KR HR5]
  · isplitl [HR1]; · iexact HR1
    isplitl [HR2]; · iexact HR2
    isplitl [HR3]; · iexact HR3
    isplitl [HR4]; · iexact HR4
    isplitl [KR] <;> iassumption
  isplitl [HL1 HL2 HL3 HL4 KL HL5]
  · isplitl [HL1]; · iexact HL1
    isplitl [HL2]; · iexact HL2
    isplitl [HL3]; · iexact HL3
    isplitl [HL4]; · iexact HL4
    isplitl [KL] <;> iassumption
  isplitl [HU]; · iexact HU
  isplitl [HT]; · iexact HT
  isplitl [HW]; · iexact HW
  iapply (outSt_mono c (G X w (far c)) (fun i hi => upTo_succ (h := 1) i hi))
  iexact HB

end Cert.Ring
-- ==== Proof.Tail.lean ====
/- The last exchange and the half products. -/
module

public import proofs.«01_k».proof.Proof.Entry

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (X : Dev nD → S256x8192.Idx → Elt F .f32)

/-! ## The last exchange -/

/-- The exchange of hop 15. -/
theorem step_xchgLast (c : Dev nD) (Q : PUnit → sProp 𝕄) :
    iprop((CTX X ∗ know c ∗ ow c (owed c planEnd) ∗ stR X c 13 ∗ stL X c 13 ∗ supp c planEnd 15)
      ∗ ((ow c (owed c []) ∗ (crd c (.sR 15) ∗ crd c (.sL 15) ∗ crdSR c 15 ∗ crdSL c 15 ∗ crSt c 13 ∗ clSt c 14)
        ∗ ((posSR c 15 ∗ posSR c 16 ∗ posSR c 17) ∗ (posRR c 15 ∗ posRR c 16 ∗ posRR c 17) ∗ (posSL c 15 ∗ posSL c 16) ∗ (posRL c 15 ∗ posRL c 16))
        ∗ (owns (c : Thread nD τ) (slR BR (m3 15)) qK (X (lf^[15] c)) ∗ restR c (m3 15) qS (X (lf^[15] c)) ∗ slotR c (m3 14))
        ∗ (owns (c : Thread nD τ) (slL BL (m2 15)) qK (X (rt^[15] c)) ∗ restL c (m2 15) qS (X (rt^[15] c)))) -∗ Q ⟨⟩))
      ⊢ WP c (xchgLast BR BL cc0_scratch2 cc0_scratch3 cc0_scratch4 cc0_scratch5 cc0_scratch6 cc0_scratch7 (rt c) (lf c)) Q := by
  have a1 : after (10 * 15 + 2) planEnd := after_end (by decide)
  have a2 : ∀ i, i ≤ 10 * 15 + 2 → after i [.cL 15, .sL 15] := fun i hi => after_tail (after_end (by omega))
  have a3 : after (10 * 15 + 6) [.sL 15] := after_cons (show 10 * 15 + 6 < 10 * 15 + 8 by decide) (by decide) (after_nil _)
  unfold stR stL
  rw [if_pos (show 1 ≤ 13 by decide)]
  iintro ⟨⟨#HX, #HK, HO, ⟨⟨SR1, SR2, SR3⟩, ⟨RR1, RR2, RR3⟩, -, -, KR, CSR, CR, CRR, CCR⟩,
    ⟨⟨SL1, SL2⟩, ⟨RL1, RL2⟩, ⟨FL0, FL1⟩, OKL, KL, CSL, CL, CRL⟩, HU⟩, Hk⟩
  unfold planEnd
  ihave HU := (supp_cons c (.sR 15) _ 15) $$ HU
  icases HU with ⟨T1, C1, HU⟩
  ihave HU := (supp_cons c (.cL 15) _ 15) $$ HU
  icases HU with ⟨T2, C2, HU⟩
  ihave HU := (supp_cons c (.sL 15) _ 15) $$ HU
  icases HU with ⟨T3, C3, HU⟩
  ihave HU := (supp_next c _ 15 (by decide)) $$ HU
  icases HU with ⟨OR, OL, -⟩
  unfold know
  icases HK with ⟨#K1, #K2, #K3, #K4⟩
  unfold xchgLast
  rw [WP_bind]
  iapply (step_recvR X _ _ (weR BR (m3 15)) (weR BR (m3 15)) c 14 (by omega) (amt_le (by omega)) [.sR 15, .cL 15, .sL 15] (after_end (by decide)) _)
  isplitl [HO CRR RR1]
  · isplitr; · iexact HX
    isplitl [CRR]; · iexact CRR
    isplitl [HO] <;> iassumption
  iintro ⟨HO, RR4, HP⟩
  ihave HP := (payRR_le X (by omega)) $$ HP
  icases HP with ⟨PR, KR'⟩
  rw [WP_bind]
  iapply (step_takeR X c 14 12 (by omega) [.sR 15, .cL 15, .sL 15] (after_end (by decide)) _)
  isplitl [HO CCR CR]
  · isplitr; · iexact HX
    isplitl [CCR]; · iexact CCR
    isplitl [HO] <;> iassumption
  iintro ⟨HO, CR⟩
  ihave HA := (keep (get_okR c 13)) $$ [CR]
  · isplitr; · iexact K1
    iexact CR
  icases HA with ⟨OK, -, CR⟩
  ihave PR := (splitR c (m3 15) qS (X (lf^[15] c))) $$ PR
  icases PR with ⟨PR, ER'⟩
  ihave HS := (show (posSR c 15 : sProp 𝕄) ⊢ iprop(reached ER (at_ c (.dma (dSr 15))) (15 / 3) ∗ posSR c 15) from pos_reached c (dSr 15) (15 / 3)) $$ SR2
  icases HS with ⟨#SRr, SR2⟩
  rw [WP_bind]
  iapply (step_sendHR X (weHR BR (m3 15)) (weHR BR (m3 16)) c [.cL 15, .sL 15] _)
  isplitl [HO PR OK OR T1]
  · isplitr; · iexact HX
    isplitl [PR]; · iexact PR
    isplitl [OK]; · iexact OK
    isplitl [OR]; · iexact OR
    isplitr; · iexact SRr
    isplitl [HO]; · iexact HO
    iexact T1
  iintro ⟨HO, CSR'⟩
  rw [WP_bind]
  iapply (step_recvL X _ _ (weL BL (m2 15)) (weL BL (m2 15)) c 14 (by omega) (amt_le (by omega)) _ (a2 _ (by omega)) _)
  isplitl [HO CRL RL1]
  · isplitr; · iexact HX
    isplitl [CRL]; · iexact CRL
    isplitl [HO] <;> iassumption
  iintro ⟨HO, RL3, HP⟩
  ihave HP := (payRL_le X (by omega)) $$ HP
  icases HP with ⟨PL, KL'⟩
  rw [WP_bind]
  iapply (step_backL X _ _ (weL BL (m2 15)) (weL BL (m2 14)) c 14 (by omega) (amt_le (by omega)) _ (a2 0 (by omega)) _)
  isplitl [HO CSL SL1]
  · isplitr; · iexact HX
    isplitl [CSL]; · iexact CSL
    isplitl [HO] <;> iassumption
  iintro ⟨HO, SL3, HP⟩
  ihave HP := (Entails.of_eq (paySL_mid X (c := c) (g := 14) (by omega) (by omega))) $$ HP
  ihave KL := (owns_halves (c : Thread nD τ) (slL BL (m2 14)) fullShare (X (rt^[14] c))).2 $$ [HP KL]
  · isplitl [HP] <;> iassumption
  ihave HS := (show (posRL c 15 : sProp 𝕄) ⊢ iprop(reached ER (at_ c (.dma (dRl 15))) (15 / 2) ∗ posRL c 15) from pos_reached c (dRl 15) (15 / 2)) $$ RL2
  icases HS with ⟨#RLr, RL2⟩
  imod (step_freeL X c 13 (X (rt^[14] c))) $$ [FL0 KL OKL] with ⟨-, OKL⟩
  · isplitr; · iexact HX
    isplitl [FL0]; · iexact FL0
    isplitr; · iexact RLr
    isplitl [KL] <;> iassumption
  iapply (bind_intro c _ _ _)
  iapply (step_giveL X c 15 (by omega) (by omega) [.sL 15] _)
  isplitl [HO T2 OKL]
  · isplitr; · iexact HX
    isplitl [HO]; · iexact HO
    isplitl [T2]; · iexact T2
    isplitl [OKL]; · iexact OKL
    iexact K4
  iintro HO
  iapply (bind_intro c _ _ _)
  iapply (step_takeL X c 15 13 (by omega) _ a3 _)
  isplitl [HO C2 CL]
  · isplitr; · iexact HX
    isplitl [C2]; · iexact C2
    isplitl [HO] <;> iassumption
  iintro ⟨HO, CL⟩
  ihave HA := (keep (get_okL c 13)) $$ CL
  icases HA with ⟨OK, CL⟩
  ihave PL := (splitL c (m2 15) qS (X (rt^[15] c))) $$ PL
  icases PL with ⟨PL, EL'⟩
  ihave HS := (show (posSL c 15 : sProp 𝕄) ⊢ iprop(reached ER (at_ c (.dma (dSl 15))) (15 / 2) ∗ posSL c 15) from pos_reached c (dSl 15) (15 / 2)) $$ SL2
  icases HS with ⟨#SLr, SL2⟩
  rw [WP_bind]
  iapply (step_sendHL X (weHL BL (m2 15)) (weHL BL (m2 16)) c [] _)
  isplitl [HO PL OK OL T3]
  · isplitr; · iexact HX
    isplitl [PL]; · iexact PL
    isplitl [OK]; · iexact OK
    isplitl [OL]; · iexact OL
    isplitr; · iexact SLr
    isplitl [HO]; · iexact HO
    iexact T3
  iintro ⟨HO, CSL'⟩
  iapply (step_backR X _ _ (weR BR (m3 15)) (weR BR (m3 14)) c 14 (by omega) (amt_le (by omega)) _ (after_nil _) _)
  isplitl [HO CSR SR1]
  · isplitr; · iexact HX
    isplitl [CSR]; · iexact CSR
    isplitl [HO] <;> iassumption
  iintro ⟨HO, SR4, HP⟩
  ihave HP := (Entails.of_eq (paySR_mid X (c := c) (g := 14) (by omega) (by omega))) $$ HP
  ihave KR := (owns_halves (c : Thread nD τ) (slR BR (m3 14)) fullShare (X (lf^[14] c))).2 $$ [HP KR]
  · isplitl [HP] <;> iassumption
  ihave KR := (slotR_of c (m3 14) (X (lf^[14] c))) $$ KR
  iapply Hk
  isplitl [HO]; · iexact HO
  isplitl [C1 C3 CSR' CSL' CR CL]
  · isplitl [C1]; · iexact C1
    isplitl [C3]; · iexact C3
    isplitl [CSR']; · iexact CSR'
    isplitl [CSL']; · iexact CSL'
    isplitl [CR] <;> iassumption
  isplitl [SR2 SR3 SR4 RR2 RR3 RR4 SL2 SL3 RL2 RL3]
  · isplitl [SR2 SR3 SR4]
    · isplitl [SR2]; · iexact SR2
      isplitl [SR3] <;> iassumption
    isplitl [RR2 RR3 RR4]
    · isplitl [RR2]; · iexact RR2
      isplitl [RR3] <;> iassumption
    isplitl [SL2 SL3]
    · isplitl [SL2] <;> iassumption
    isplitl [RL2] <;> iassumption
  isplitl [KR' ER' KR]
  · isplitl [KR']; · iexact KR'
    isplitl [ER'] <;> iassumption
  isplitl [KL'] <;> iassumption

/-! ## The halves -/

variable (w : S8192x128.Idx → Elt F .f32) (T : S34.Idx → Elt F .i32)

theorem paySR_last (c : Dev nD) : paySR X c 15 = owns (c : Thread nD τ) (hfR BR (m3 15)) qS (top (X (lf^[15] c))) := by
  unfold paySR; rw [if_neg (by omega), if_neg (by omega)]
theorem paySL_last (c : Dev nD) : paySL X c 15 = owns (c : Thread nD τ) (hfL BL (m2 15)) qS (bot (X (rt^[15] c))) := by
  unfold paySL; rw [if_neg (by omega), if_neg (by omega)]
theorem far_rt (c : Dev nD) : rt^[16] c = far c := by revert c; decide
theorem payRR_last (c : Dev nD) : payRR X c 15 = iprop(owns (c : Thread nD τ) (hfR BR 1) fullShare (top (X (far c)))
    ∗ slot (BR.view.loc (c : Thread nD τ)) (SR 1 \ HR 1)) := by
  unfold payRR; rw [if_neg (by omega)]; rfl
theorem payRL_last (c : Dev nD) : payRL X c 15 = iprop(owns (c : Thread nD τ) (hfL BL 0) fullShare (bot (X (far c)))
    ∗ slot (BL.view.loc (c : Thread nD τ)) (SL 0 \ HL 0)) := by
  unfold payRL; rw [if_neg (by omega), ← far_rt]; rfl

theorem cover (c d : Dev nD) : (∃ j, j < 16 ∧ (d = lf^[j] c ∨ d = rt^[j] c)) ∨ d = far c := by
  have : ∀ c d : Dev nD, (∃ j : Fin 16, d = lf^[j.val] c ∨ d = rt^[j.val] c) ∨ d = far c := by decide
  rcases this c d with ⟨j, h⟩ | h
  · exact .inl ⟨j.val, j.isLt, h⟩
  · exact .inr h
theorem cover_rows (c : Dev nD) (i : S8192x128.Idx) :
    (upTo c 16 i ∨ (256 * (far c).val ≤ (i 0).val ∧ (i 0).val < 256 * (far c).val + 128))
      ∨ (256 * (far c).val + 128 ≤ (i 0).val ∧ (i 0).val < 256 * (far c).val + 128 + 128) := by
  rcases cover c (org i) with h | h
  · exact .inl (.inl h)
  · have h' : (i 0).val / 256 = (far c).val := congrArg Fin.val h
    by_cases h2 : (i 0).val < 256 * (far c).val + 128
    · exact .inl (.inr ⟨by omega, h2⟩)
    · exact .inr ⟨by omega, by omega⟩

theorem off32_at {v : Elt F .i32} {d : Dev nD} (h : v = wd d) : k0_off32 v = ![256 * d.val, 0] := by subst h; exact off32_wd d
theorem off33_at {v : Elt F .i32} {d : Dev nD} (h : v = wd d) : k0_off33 v = ![256 * d.val + 128, 0] := by subst h; exact off33_wd d

theorem outSt_all (c : Dev nD) (g : S8192x128.Idx → Elt F .f32) : outSt c g (fun _ => True) ⊢ (owns (c : Thread nD τ) MO fullShare g : sProp 𝕄) := by
  unfold outSt
  iintro ⟨%f, %hf, H⟩
  rw [show f = g from funext fun i => hf i trivial]
  iexact H

/-- `step_rows` with what follows. -/
theorem step_rows_then {n o : ℕ} {off : Fin 2 → ℕ} (ho : off = ![o, 0]) (inb : ∀ a, off a + (![n, 128] : Fin 2 → ℕ) a ≤ S8192x128.size a)
    (c : Dev nD) (hl : MO.view.LoadsAt (Rect.unit (s := S8192x128) off ![n, 128] inb).toLoadRect)
    (hst : (MO.access (Rect.unit (s := S8192x128) off ![n, 128] inb)).Stores Finset.univ) (hm)
    (y : (⟨2, ![n, 128]⟩ : Shape).Idx → Elt F .f32) (g : S8192x128.Idx → Elt F .f32) (p p' : S8192x128.Idx → Prop)
    (hy : ∀ i : S8192x128.Idx, ∀ h : o ≤ (i 0).val ∧ (i 0).val < o + n, y (ix2 ⟨(i 0).val - o, by omega⟩ (i 1)) = g i)
    (hp : ∀ i, p' i → p i ∨ (o ≤ (i 0).val ∧ (i 0).val < o + n)) (k : PUnit → P F PUnit) (Q : PUnit → sProp 𝕄) :
    iprop(outSt c g p ∗ (outSt c g p' -∗ WP c (k ⟨⟩) Q))
      ⊢ WP c (Prog.lift (.load MO (Rect.unit (s := S8192x128) off ![n, 128] inb).toLoadRect hl) >>= fun _ =>
          Prog.lift (.store MO (Rect.unit (s := S8192x128) off ![n, 128] inb) y Finset.univ hst hm) >>= k : P F PUnit) Q := by
  have h := step_rows ho inb c hl hst hm y g p p' hy hp (fun a => WP c (k a) Q)
  rw [WP_bind] at h
  rw [WP_bind]
  simp only [WP_bind]
  exact h

theorem step_halves (c : Dev nD) (hT : tabOk T c) (Q : PUnit → sProp 𝕄) :
    iprop((CTX X ∗ ow c (owed c []) ∗ (crd c (.sR 15) ∗ crd c (.sL 15) ∗ crdSR c 15 ∗ crdSL c 15)
        ∗ (posSR c 15 ∗ posRR c 15 ∗ posSL c 15 ∗ posRL c 15) ∗ ops X w T c (upTo c 16))
      ∗ ((ow c (owed c []) ∗ (posSR c 18 ∗ posRR c 18 ∗ posSL c 17 ∗ posRL c 17)
        ∗ (owns (c : Thread nD τ) MT0 fullShare T ∗ owns (c : Thread nD τ) MW fullShare w ∗ owns (c : Thread nD τ) MO fullShare (G X w (far c)))
        ∗ slotR c 1 ∗ slotL c 0
        ∗ owns (c : Thread nD τ) (hfR BR (m3 15)) qS (top (X (lf^[15] c))) ∗ owns (c : Thread nD τ) (hfL BL (m2 15)) qS (bot (X (rt^[15] c)))) -∗ Q ⟨⟩))
      ⊢ WP c (halves MT0 MW MO BR BL cc0_scratch2 cc0_scratch3 cc0_scratch4 cc0_scratch5) Q := by
  have hv : T (ixT 18) = wd (far c) := (hT.2.2.1 16 (by omega))
  unfold ops halves
  iintro ⟨⟨#HX, HO, ⟨C1, C2, C3, C4⟩, ⟨P1, P2, P3, P4⟩, ⟨HT, HW, HB⟩⟩, Hk⟩
  rw [WP_bind]
  iapply (step_word c fullShare T 18 _)
  isplitl [HT]; · iexact HT
  iintro HT
  rw [WP_bind]
  iapply (step_assume _ c (by rw [hv]; exact chk34_wd (far c)) _)
  rw [WP_bind]
  iapply (step_recvR X _ _ (weHR BR 1) (weHR BR 1) c 15 (by omega) (show NH = amtH 15 from rfl) [] (after_nil _) _)
  isplitl [HO C1 P2]
  · isplitr; · iexact HX
    isplitl [C1]; · iexact C1
    isplitl [HO] <;> iassumption
  iintro ⟨HO, P2, HP⟩
  ihave HP := (Entails.of_eq (payRR_last X c)) $$ HP
  icases HP with ⟨HP, HPr⟩
  rw [WP_bind]
  iapply (step_hfR c (top (X (far c))) _)
  isplitl [HP]; · iexact HP
  iintro %a %ha HP
  rw [WP_bind]
  iapply (step_loadW c fullShare w _)
  isplitl [HW]; · iexact HW
  iintro HW
  ihave HS := (slotR_of_half c 1 (top (X (far c)))) $$ [HP HPr]
  · isplitl [HP] <;> iassumption
  iapply (step_rows_then (off32_at hv) _ c _ _ _ _ (G X w (far c)) (upTo c 16)
    (fun i => upTo c 16 i ∨ (256 * (far c).val ≤ (i 0).val ∧ (i 0).val < 256 * (far c).val + 128)) (far_top X w (far c) a ha) (fun i hi => hi) _ Q)
  isplitl [HB]; · iexact HB
  iintro HB
  rw [WP_bind]
  iapply (step_recvL X _ _ (weHL BL 0) (weHL BL 0) c 15 (by omega) (show NH = amtH 15 from rfl) [] (after_nil _) _)
  isplitl [HO C2 P4]
  · isplitr; · iexact HX
    isplitl [C2]; · iexact C2
    isplitl [HO] <;> iassumption
  iintro ⟨HO, P4, HP⟩
  ihave HP := (Entails.of_eq (payRL_last X c)) $$ HP
  icases HP with ⟨HP, HPr⟩
  rw [WP_bind]
  iapply (step_hfL c (bot (X (far c))) _)
  isplitl [HP]; · iexact HP
  iintro %b %hb HP
  rw [WP_bind]
  iapply (step_loadW c fullShare w _)
  isplitl [HW]; · iexact HW
  iintro HW
  ihave HS' := (slotL_of_half c 0 (bot (X (far c)))) $$ [HP HPr]
  · isplitl [HP] <;> iassumption
  iapply (step_rows_then (off33_at hv) _ c _ _ _ _ (G X w (far c)) _ (fun _ => True) (far_bot X w (far c) b hb) (fun i _ => cover_rows c i) _ Q)
  isplitl [HB]; · iexact HB
  iintro HB
  ihave HB := (outSt_all c _) $$ HB
  rw [WP_bind]
  iapply (step_backR X _ _ (weHR BR 1) (weHR BR 0) c 15 (by omega) (show NH = amtH 15 from rfl) [] (after_nil _) _)
  isplitl [HO C3 P1]
  · isplitr; · iexact HX
    isplitl [C3]; · iexact C3
    isplitl [HO] <;> iassumption
  iintro ⟨HO, P1, R1⟩
  iapply (step_backL X _ _ (weHL BL 0) (weHL BL 1) c 15 (by omega) (show NH = amtH 15 from rfl) [] (after_nil _) _)
  isplitl [HO C4 P3]
  · isplitr; · iexact HX
    isplitl [C4]; · iexact C4
    isplitl [HO] <;> iassumption
  iintro ⟨HO, P3, R2⟩
  iapply Hk
  isplitl [HO]; · iexact HO
  isplitl [P1 P2 P3 P4]
  · isplitl [P1]; · iexact P1
    isplitl [P2]; · iexact P2
    isplitl [P3] <;> iassumption
  isplitl [HT HW HB]
  · isplitl [HT]; · iexact HT
    isplitl [HW] <;> iassumption
  isplitl [HS]; · iexact HS
  isplitl [HS']; · iexact HS'
  isplitl [R1]; · iapply (Entails.of_eq (paySR_last X c)); iexact R1
  iapply (Entails.of_eq (paySL_last X c)); iexact R2

end Cert.Ring
-- ==== Proof.Body.lean ====
/- The whole body on one device. -/
module

public import proofs.«01_k».proof.Proof.First
public import proofs.«01_k».proof.Proof.Tail

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (X : Dev nD → S256x8192.Idx → Elt F .f32)

/-! ## Closing the semaphores -/

theorem close_at (c : Dev nD) (sm : SemLoc sig) (R : ℕ) (hI : CTX X ⊢ cinv X (at_ c sm)) (h : ∀ r, R ≤ r → (Rd X).duties (at_ c sm) r = ∅)
    (k : Fin 12) (e : sm = osem k) : iprop(CTX X ∗ atPos ER (at_ c sm) R ∅ 0) ⊢ (|={Set.univ}=> semVal (at_ c (osem k)) 0 : sProp 𝕄) := by
  subst e
  iintro ⟨#HX, Hp⟩
  ihave #HI := hI $$ HX
  unfold cinv
  icases HI with ⟨%κ, HI⟩
  iapply (Rounds.cell_close ER (Rd X) (Set.mem_univ κ) id h)
  isplitr; · iexact HI
  iexact Hp
theorem close_pos (c : Dev nD) (sm : DmaSem sig) (R : ℕ) (hI : CTX X ⊢ cinv X (at_ c (.dma sm))) (h : ∀ r, R ≤ r → (Rd X).duties (at_ c (.dma sm)) r = ∅)
    (k : Fin 12) (e : SemLoc.dma sm = osem k) : iprop(CTX X ∗ pos c sm R) ⊢ (|={Set.univ}=> semVal (at_ c (osem k)) 0 : sProp 𝕄) := by
  unfold pos
  iintro ⟨#HX, Hp, -⟩
  iapply (close_at X c _ R hI h k e)
  isplitr; · iexact HX
  iexact Hp
theorem close_bar (c : Dev nD) : iprop(CTX X ∗ atPos ER (at_ c cBar) 1 ∅ 0) ⊢ (|={Set.univ}=> semVal (at_ c cBar) 0 : sProp 𝕄) := by
  iintro ⟨#HX, Hp⟩
  ihave #HI := (ctx_bar X c) $$ HX
  unfold cinv
  icases HI with ⟨%κ, HI⟩
  iapply (Rounds.cell_close ER (Rd X) (Set.mem_univ κ) id (end_bar X c))
  isplitr; · iexact HI
  iexact Hp
theorem close_cr (c : Dev nD) : iprop(CTX X ∗ crSt c 13) ⊢ (|={Set.univ}=> semVal (at_ c cCr) 0 : sProp 𝕄) := by
  iintro ⟨#HX, Hp⟩
  ihave #HI := (ctx_cr X c) $$ HX
  unfold cinv
  icases HI with ⟨%κ, HI⟩
  iapply (credSt_end X c crS 13 κ (crF c) (dut_cr X c) (amt_cr X c) (end_cr X c))
  isplitr; · iexact HI
  iexact Hp
theorem close_cl (c : Dev nD) : iprop(CTX X ∗ clSt c 14) ⊢ (|={Set.univ}=> semVal (at_ c cCl) 0 : sProp 𝕄) := by
  iintro ⟨#HX, Hp⟩
  ihave #HI := (ctx_cl X c) $$ HX
  unfold cinv
  icases HI with ⟨%κ, HI⟩
  iapply (credSt_end X c clS 14 κ (clF c) (dut_cl X c) (amt_cl X c) (end_cl X c))
  isplitr; · iexact HI
  iexact Hp

/-- The scoped semaphores at zero. -/
def zeros (c : Dev nD) : sProp 𝕄 := bigSep Finset.univ fun k : Fin 12 => semVal (at_ c (osem k)) 0

theorem zeros_eq (c : Dev nD) : (zeros c : sProp 𝕄) = bigSepL [0, 1, 2, 3, 4, 5, 6, 7, 8, 9, 10, 11] fun k : Fin 12 => semVal (at_ c (osem k)) 0 :=
  bigSep_univ_eq_bigSepL _ (by decide) (by decide) _

/-- The last places in the rounds of the copies' semaphores. -/
def lasts (c : Dev nD) : sProp 𝕄 := iprop((posSR c 16 ∗ posSR c 17 ∗ posSR c 18) ∗ (posRR c 16 ∗ posRR c 17 ∗ posRR c 18)
  ∗ (posSL c 16 ∗ posSL c 17) ∗ (posRL c 16 ∗ posRL c 17))

theorem close_all (c : Dev nD) : iprop(CTX X ∗ lasts c ∗ atPos ER (at_ c cBar) 1 ∅ 0 ∗ crSt c 13 ∗ clSt c 14)
    ⊢ (|={Set.univ}=> (zeros c ∗ semVal (at_ c cBar) 0) : sProp 𝕄) := by
  rw [zeros_eq]
  simp only [bigSepL_cons']
  unfold lasts posSR posRR posSL posRL
  iintro ⟨#HX, ⟨⟨S1, S2, S0⟩, ⟨R2, R0, R1⟩, ⟨T0, T1⟩, ⟨U1, U0⟩⟩, HB, HC, HD⟩
  imod (close_bar X c) $$ [HB] with HB
  · isplitr; · iexact HX
    iexact HB
  imod (close_cr X c) $$ [HC] with HC
  · isplitr; · iexact HX
    iexact HC
  imod (close_cl X c) $$ [HD] with HD
  · isplitr; · iexact HX
    iexact HD
  imod (close_pos X c (dSr 18) (18 / 3) (ctx_sr X c 18) (end_sr X c 18 (by decide)) 2 (by decide)) $$ [S0] with S0
  · isplitr; · iexact HX
    iexact S0
  imod (close_pos X c (dSr 16) (16 / 3) (ctx_sr X c 16) (end_sr X c 16 (by decide)) 3 (by decide)) $$ [S1] with S1
  · isplitr; · iexact HX
    iexact S1
  imod (close_pos X c (dSr 17) (17 / 3) (ctx_sr X c 17) (end_sr X c 17 (by decide)) 4 (by decide)) $$ [S2] with S2
  · isplitr; · iexact HX
    iexact S2
  imod (close_pos X c (dRr 17) (17 / 3) (ctx_rr X c 17) (end_rr X c 17 (by decide)) 5 (by decide)) $$ [R0] with R0
  · isplitr; · iexact HX
    iexact R0
  imod (close_pos X c (dRr 18) (18 / 3) (ctx_rr X c 18) (end_rr X c 18 (by decide)) 6 (by decide)) $$ [R1] with R1
  · isplitr; · iexact HX
    iexact R1
  imod (close_pos X c (dRr 16) (16 / 3) (ctx_rr X c 16) (end_rr X c 16 (by decide)) 7 (by decide)) $$ [R2] with R2
  · isplitr; · iexact HX
    iexact R2
  imod (close_pos X c (dSl 16) (16 / 2) (ctx_sl X c 16) (end_sl X c 16 (by decide)) 8 (by decide)) $$ [T0] with T0
  · isplitr; · iexact HX
    iexact T0
  imod (close_pos X c (dSl 17) (17 / 2) (ctx_sl X c 17) (end_sl X c 17 (by decide)) 9 (by decide)) $$ [T1] with T1
  · isplitr; · iexact HX
    iexact T1
  imod (close_pos X c (dRl 17) (17 / 2) (ctx_rl X c 17) (end_rl X c 17 (by decide)) 10 (by decide)) $$ [U0] with U0
  · isplitr; · iexact HX
    iexact U0
  imod (close_pos X c (dRl 16) (16 / 2) (ctx_rl X c 16) (end_rl X c 16 (by decide)) 11 (by decide)) $$ [U1] with U1
  · isplitr; · iexact HX
    iexact U1
  imodintro
  isplitr [HB]
  · isplitl [HC]; · iexact HC
    isplitl [HD]; · iexact HD
    isplitl [S0]; · iexact S0
    isplitl [S1]; · iexact S1
    isplitl [S2]; · iexact S2
    isplitl [R0]; · iexact R0
    isplitl [R1]; · iexact R1
    isplitl [R2]; · iexact R2
    isplitl [T0]; · iexact T0
    isplitl [T1]; · iexact T1
    isplitl [U0]; · iexact U0
    isplitl [U1]; · iexact U1
    iempintro
  iexact HB

/-! ## The tail -/

variable (w : S8192x128.Idx → Elt F .f32) (T : S34.Idx → Elt F .i32)

theorem step_tail (c : Dev nD) (hT : tabOk T c) (Q : PUnit → sProp 𝕄) :
    iprop((CTX X ∗ know c ∗ st X w T c 0 13)
      ∗ ((ow c (owed c []) ∗ lasts c ∗ (crSt c 13 ∗ clSt c 14)
        ∗ (owns (c : Thread nD τ) MT0 fullShare T ∗ owns (c : Thread nD τ) MW fullShare w ∗ owns (c : Thread nD τ) MO fullShare (G X w (far c)))
        ∗ slot (BR.view.loc (c : Thread nD τ)) Finset.univ ∗ slot (BL.view.loc (c : Thread nD τ)) Finset.univ) -∗ Q ⟨⟩))
      ⊢ WP c (tail MT0 MW MO BR BL cc0_scratch2 cc0_scratch3 cc0_scratch4 cc0_scratch5 cc0_scratch6 cc0_scratch7 (rt c) (lf c)) Q := by
  unfold st tail ops
  iintro ⟨⟨#HX, #HK, HO, HR, HL, HU, ⟨HT, HW, HB⟩⟩, Hk⟩
  rw [WP_bind]
  iapply (step_xchgLast X c _)
  isplitl [HO HR HL HU]
  · isplitr; · iexact HX
    isplitr; · iexact HK
    isplitl [HO]; · iexact HO
    isplitl [HR]; · iexact HR
    isplitl [HL]; · iexact HL
    iexact HU
  iintro ⟨HO, ⟨C1, C2, C3, C4, CR, CL⟩, ⟨⟨SR1, SR2, SR3⟩, ⟨RR1, RR2, RR3⟩, ⟨SL1, SL2⟩, ⟨RL1, RL2⟩⟩, ⟨KR, ER', HS2⟩, ⟨KL, EL'⟩⟩
  rw [WP_bind]
  iapply (step_gemmR X w T c (lf^[15] c) (far c) (m3 15) (mT (15 + 2)) qK fullShare fullShare (hT.2.2.1 15 (by omega))
    (lf_ne_far c 15 (by omega)) (upTo c 15) _)
  isplitl [KR HT HW HB]
  · isplitl [KR]; · iexact KR
    isplitl [HT]; · iexact HT
    isplitl [HW] <;> iassumption
  iintro ⟨KR, HT, HW, HB⟩
  rw [WP_bind]
  iapply (step_gemmL X w T c (rt^[15] c) (far c) (m2 15) (mT (15 + 18)) qK fullShare fullShare (hT.2.2.2 15 (by omega) (by omega))
    (rt_ne_far c 15 (by omega)) _ _)
  isplitl [KL HT HW HB]
  · isplitl [KL]; · iexact KL
    isplitl [HT]; · iexact HT
    isplitl [HW] <;> iassumption
  iintro ⟨KL, HT, HW, HB⟩
  iapply (step_halves X w T c hT _)
  isplitl [HO C1 C2 C3 C4 SR1 RR1 SL1 RL1 HT HW HB]
  · isplitr; · iexact HX
    isplitl [HO]; · iexact HO
    isplitl [C1 C2 C3 C4]
    · isplitl [C1]; · iexact C1
      isplitl [C2]; · iexact C2
      isplitl [C3] <;> iassumption
    isplitl [SR1 RR1 SL1 RL1]
    · isplitl [SR1]; · iexact SR1
      isplitl [RR1]; · iexact RR1
      isplitl [SL1] <;> iassumption
    unfold ops
    isplitl [HT]; · iexact HT
    isplitl [HW]; · iexact HW
    iapply (outSt_mono c (G X w (far c)) (fun i hi => upTo_succ (h := 15) i hi))
    iexact HB
  iintro ⟨HO, ⟨SR1, RR1, SL1, RL1⟩, HM, HS1, HS0, HR, HL⟩
  ihave HR := (joinR c (m3 15) qS (X (lf^[15] c))) $$ [HR ER']
  · isplitl [HR] <;> iassumption
  ihave HR := (owns_halves (c : Thread nD τ) (slR BR (m3 15)) fullShare (X (lf^[15] c))).2 $$ [HR KR]
  · isplitl [HR] <;> iassumption
  ihave HR := (slotR_of c (m3 15) (X (lf^[15] c))) $$ HR
  ihave HL := (joinL c (m2 15) qS (X (rt^[15] c))) $$ [HL EL']
  · isplitl [HL] <;> iassumption
  ihave HL := (owns_halves (c : Thread nD τ) (slL BL (m2 15)) fullShare (X (rt^[15] c))).2 $$ [HL KL]
  · isplitl [HL] <;> iassumption
  ihave HL := (slotL_of c (m2 15) (X (rt^[15] c))) $$ HL
  iapply Hk
  isplitl [HO]; · iexact HO
  isplitl [SR1 SR2 SR3 RR1 RR2 RR3 SL1 SL2 RL1 RL2]
  · unfold lasts
    isplitl [SR1 SR2 SR3]
    · isplitl [SR2]; · iexact SR2
      isplitl [SR3] <;> iassumption
    isplitl [RR1 RR2 RR3]
    · isplitl [RR2]; · iexact RR2
      isplitl [RR3] <;> iassumption
    isplitl [SL1 SL2]
    · isplitl [SL2] <;> iassumption
    isplitl [RL2] <;> iassumption
  isplitl [CR CL]
  · isplitl [CR] <;> iassumption
  isplitl [HM]; · iexact HM
  isplitl [HR HS1 HS2]
  · iapply (scrR_join c)
    isplitl [HR]; · iexact HR
    isplitl [HS1]; · iexact HS1
    iexact HS2
  iapply (scrL_join c)
  isplitl [HS0]; · iexact HS0
  iexact HL

/-! ## The body -/

theorem chk1_wd (d : Dev nD) : k0_chk1 (wd d) := by revert d; unfold k0_chk1; decide
theorem chk2_wd (d : Dev nD) : k0_chk2 (wd d) := by revert d; unfold k0_chk2; decide
theorem dev1_wd {v : Elt F .i32} {d : Dev nD} (h : v = wd d) (hv : k0_chk1 v) : (⟨k0_dev1 v, k0_dev1_lt v hv⟩ : Dev nD) = d := by
  subst h; exact Fin.ext ((show ∀ d : Dev nD, k0_dev1 (wd d) = d.val by decide) d)
theorem dev2_wd {v : Elt F .i32} {d : Dev nD} (h : v = wd d) (hv : k0_chk2 v) : (⟨k0_dev2 v, k0_dev2_lt v hv⟩ : Dev nD) = d := by
  subst h; exact Fin.ext ((show ∀ d : Dev nD, k0_dev2 (wd d) = d.val by decide) d)

theorem post_fupd {α : Type} (c : Dev nD) (p : P F α) (Q : α → sProp 𝕄) : WP c p (fun a => iprop(|={Set.univ}=> Q a)) ⊢ WP c p Q := by
  have h : WP c (p >>= fun a => pure a) Q = WP c p (fun a => WP c (pure a) Q) := WP_bind c p _ Q
  rw [bind_pure] at h
  rw [h]
  refine Entails.of_eq (congrArg (WP c p) (funext fun a => ?_))
  rw [show (pure a : P F α) = Prog.ret a from rfl, WP, wp_ret]

/-- What device `c` starts the body with. -/
def begun (c : Dev nD) : sProp 𝕄 := iprop((atPos ER (at_ c cBar) 0 ∅ 0 ∗ reached ER (at_ (lf c) cBar) 0 ∗ reached ER (at_ (rt c) cBar) 0)
  ∗ (reached ER (at_ c cCr) 0 ∗ reached ER (at_ c cCl) 0) ∗ (crSt c 0 ∗ clSt c 0) ∗ places c ∗ readers c ∗ supp c plan 0)

theorem step_rest (hw : MX.IsWhole) (c : Dev nD) (hT : tabOk T c) (v : Elt F .i32) (hv : k0_chk3 v) (he : v = wd c) (Q : PUnit → sProp 𝕄) :
    iprop((CTX X ∗ know c ∗ (crSt c 0 ∗ clSt c 0) ∗ places c ∗ freed c ∗ supp c l0 0 ∗ ow c (owed c l0)
        ∗ owns (c : Thread nD τ) MX fullShare (X c) ∗ ops X w T c (fun _ => False))
      ∗ ((owns (c : Thread nD τ) MX fullShare (X c) ∗ ow c (owed c []) ∗ lasts c ∗ (crSt c 13 ∗ clSt c 14)
        ∗ (owns (c : Thread nD τ) MT0 fullShare T ∗ owns (c : Thread nD τ) MW fullShare w ∗ owns (c : Thread nD τ) MO fullShare (G X w (far c)))
        ∗ slot (BR.view.loc (c : Thread nD τ)) Finset.univ ∗ slot (BL.view.loc (c : Thread nD τ)) Finset.univ) -∗ Q ⟨⟩))
      ⊢ WP c (rest MT0 MX hw MW MO BR BL cc0_scratch2 cc0_scratch3 cc0_scratch4 cc0_scratch5 cc0_scratch6 cc0_scratch7 v hv (rt c) (lf c)) Q := by
  unfold rest
  iintro ⟨⟨#HX, #HK, ⟨CR, CL⟩, HP, HF, HU, HO, Hx, HM⟩, Hk⟩
  unfold places
  icases HP with ⟨⟨SR0, SR1, SR2⟩, HPR, ⟨SL0, SL1⟩, HPL⟩
  ihave SR0 := (show (posSR c 0 : sProp 𝕄) ⊢ iprop(reached ER (at_ c (.dma (dSr 0))) (0 / 3) ∗ posSR c 0) from pos_reached c (dSr 0) (0 / 3)) $$ SR0
  icases SR0 with ⟨#SRr, SR0⟩
  ihave SL0 := (show (posSL c 0 : sProp 𝕄) ⊢ iprop(reached ER (at_ c (.dma (dSl 0))) (0 / 2) ∗ posSL c 0) from pos_reached c (dSl 0) (0 / 2)) $$ SL0
  icases SL0 with ⟨#SLr, SL0⟩
  rw [WP_bind]
  iapply (step_hop0 X w T hw c v hv he _)
  isplitl [Hx HM HU HO]
  · isplitr; · iexact HX
    isplitr; · iexact HK
    isplitr
    · isplitr; · iexact SRr
      iexact SLr
    isplitl [Hx]; · iexact Hx
    isplitl [HM]; · iexact HM
    isplitl [HU] <;> iassumption
  iintro ⟨Hx, HM, C1, C2, C3, C4, HU, HO⟩
  rw [WP_bind]
  unfold hops
  rw [WP_bind]
  iapply (step_hop1 X w T hw c hT _)
  isplitl [Hx HM C1 C2 C3 C4 HU HO SR0 SR1 SR2 SL0 SL1 HPR HPL HF CR CL]
  · isplitr; · iexact HX
    isplitr; · iexact HK
    isplitl [Hx]; · iexact Hx
    isplitl [C1 C2 C3 C4]
    · isplitl [C1]; · iexact C1
      isplitl [C2]; · iexact C2
      isplitl [C3] <;> iassumption
    isplitl [HU]; · iexact HU
    isplitl [HO]; · iexact HO
    isplitl [SR0 SR1 SR2 SL0 SL1 HPR HPL]
    · unfold places
      isplitl [SR0 SR1 SR2]
      · isplitl [SR0]; · iexact SR0
        isplitl [SR1] <;> iassumption
      isplitl [HPR]; · iexact HPR
      isplitl [SL0 SL1]
      · isplitl [SL0] <;> iassumption
      iexact HPL
    isplitl [HF]; · iexact HF
    isplitl [CR]; · iexact CR
    isplitl [CL] <;> iassumption
  iintro ⟨Hx, HS⟩
  iapply (step_hops X w T hw c hT _ 13 0 rfl)
  isplitl [HS]
  · isplitr; · iexact HX
    isplitr; · iexact HK
    iexact HS
  iintro HS
  iapply (step_tail X w T c hT _)
  isplitl [HS]
  · isplitr; · iexact HX
    isplitr; · iexact HK
    iexact HS
  iintro HE
  iapply Hk
  isplitl [Hx] <;> iassumption

theorem step_body (hw : MX.IsWhole) (c : Dev nD) (hT : tabOk T c) (Q : PUnit → sProp 𝕄) :
    iprop((CTX X ∗ begun c ∗ (slot (BR.view.loc (c : Thread nD τ)) Finset.univ ∗ slot (BL.view.loc (c : Thread nD τ)) Finset.univ)
        ∗ owns (c : Thread nD τ) MX fullShare (X c)
        ∗ (owns (c : Thread nD τ) MT0 fullShare T ∗ owns (c : Thread nD τ) MW fullShare w ∗ ∃ f, owns (c : Thread nD τ) MO fullShare f)
        ∗ ow c (owed c plan))
      ∗ ((ow c (owed c []) ∗ (zeros c ∗ semVal (at_ c cBar) 0)
        ∗ (slot (BR.view.loc (c : Thread nD τ)) Finset.univ ∗ slot (BL.view.loc (c : Thread nD τ)) Finset.univ)
        ∗ owns (c : Thread nD τ) MX fullShare (X c)
        ∗ (owns (c : Thread nD τ) MT0 fullShare T ∗ owns (c : Thread nD τ) MW fullShare w ∗ owns (c : Thread nD τ) MO fullShare (G X w (far c)))) -∗ Q ⟨⟩))
      ⊢ WP c (body MT0 MX hw MW MO BR BL cc0_scratch2 cc0_scratch3 cc0_scratch4 cc0_scratch5 cc0_scratch6 cc0_scratch7) Q := by
  have h2 : T (ixT 2) = wd c := hT.2.2.1 0 (by omega)
  have c2 : k0_chk2 (T (ixT 0)) := by rw [hT.1]; exact chk2_wd (rt c)
  have c1 : k0_chk1 (T (ixT 1)) := by rw [hT.2.1]; exact chk1_wd (lf c)
  have c3 : k0_chk3 (T (ixT 2)) := by rw [h2]; exact chk3_wd c
  unfold body begun
  iintro ⟨⟨#HX, ⟨HB, HC, ⟨CR, CL⟩, HP, HR, HU⟩, ⟨HS, HS'⟩, Hx, ⟨HT, HW, %f, HM⟩, HO⟩, Hk⟩
  imod (free_all X c) $$ [HP HR HS HS'] with ⟨HP, HF⟩
  · isplitr; · iexact HX
    isplitl [HP]; · iexact HP
    isplitl [HR]; · iexact HR
    isplitl [HS] <;> iassumption
  iapply (bind_intro c _ _ _)
  iapply (step_word c fullShare T 0 _)
  isplitl [HT]; · iexact HT
  iintro HT
  rw [WP_bind]
  iapply (step_assume _ c c2 _)
  rw [WP_bind]
  iapply (step_word c fullShare T 1 _)
  isplitl [HT]; · iexact HT
  iintro HT
  rw [WP_bind]
  iapply (step_assume _ c c1 _)
  rw [WP_bind]
  iapply (step_word c fullShare T 2 _)
  isplitl [HT]; · iexact HT
  iintro HT
  rw [WP_bind]
  iapply (step_assume _ c c3 _)
  rw [dev1_wd hT.2.1 c1, dev2_wd hT.1 c2]
  iapply (post_fupd c _ _)
  unfold freed
  icases HF with ⟨HF1, HF2, HF3, HF4⟩
  ihave HF2 := (keep (show (okRs c 3 : sProp 𝕄) ⊢ okRs c 3 from .rfl)) $$ HF2
  icases HF2 with ⟨OK1, HF2⟩
  ihave HF4 := (keep (show (okLs c 2 : sProp 𝕄) ⊢ okLs c 2 from .rfl)) $$ HF4
  icases HF4 with ⟨OK2, HF4⟩
  iapply (step_entry X c _ _)
  isplitl [HB HC OK1 OK2 HU HO]
  · isplitr; · iexact HX
    isplitl [HB]; · iexact HB
    isplitl [HC]; · iexact HC
    isplitl [OK1 OK2]
    · isplitl [OK1] <;> iassumption
    isplitl [HU] <;> iassumption
  iintro ⟨#HK, HB, HU, HO⟩
  iapply (step_rest X w T hw c hT _ _ h2 _)
  isplitl [CR CL HP HF1 HF2 HF3 HF4 HU HO Hx HT HW HM]
  · isplitr; · iexact HX
    isplitr; · iexact HK
    isplitl [CR CL]
    · isplitl [CR] <;> iassumption
    isplitl [HP]; · iexact HP
    isplitl [HF1 HF2 HF3 HF4]
    · unfold freed
      isplitl [HF1]; · iexact HF1
      isplitl [HF2]; · iexact HF2
      isplitl [HF3] <;> iassumption
    isplitl [HU]; · iexact HU
    isplitl [HO]; · iexact HO
    isplitl [Hx]; · iexact Hx
    unfold ops outSt
    isplitl [HT]; · iexact HT
    isplitl [HW]; · iexact HW
    iexists f
    isplitr; · ipureintro; exact fun _ h => h.elim
    iexact HM
  iintro ⟨Hx, HO, HL, ⟨CR, CL⟩, HM, HS, HS'⟩
  imod (close_all X c) $$ [HL HB CR CL] with ⟨HZ, HB⟩
  · isplitr; · iexact HX
    isplitl [HL]; · iexact HL
    isplitl [HB]; · iexact HB
    isplitl [CR] <;> iassumption
  imodintro
  iapply Hk
  isplitl [HO]; · iexact HO
  isplitl [HZ HB]
  · isplitl [HZ] <;> iassumption
  isplitl [HS HS']
  · isplitl [HS] <;> iassumption
  isplitl [Hx] <;> iassumption

end Cert.Ring
-- ==== Proof.Region.lean ====
/- The kernel region: what each window holds before and after the body, what enters the region and what leaves it. -/
module

public import proofs.«01_k».proof.Proof.Body
public import proofs.«01_k».proof.Proof.Gen.KernelIdeal.Regions
public import Idealize.ShloMosaic.Lib.Pipeline.RegionTalk
public import Idealize.ShloMosaic.Lib.Pipeline.ValueKit
public import proofs.«01_k».proof.Proof.Gen.KernelIdeal.Points

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

/-! ## What the windows hold -/

variable (X : Dev nD → S256x8192.Idx → Elt F .f32) (w : Dev nD → S8192x128.Idx → Elt F .f32)
variable (T : Dev nD → S34.Idx → Elt F .i32) (o : Dev nD → S8192x128.Idx → Elt F .f32)

/-- The result block of device `c`. -/
def res (c : Dev nD) : S8192x128.Idx → Elt F .f32 := G X (w c) (far c)

/-- Both receive buffers, at any contents. -/
def bufs (c : Dev nD) : sProp 𝕄 :=
  iprop(slot (BR.view.loc (c : Thread nD τ)) Finset.univ ∗ slot (BL.view.loc (c : Thread nD τ)) Finset.univ)

/-- The body's invariant before its one point, and after it. -/
def inn (c : Dev nD) : sProp 𝕄 := iprop((CTX X ∗ begun c) ∗ bufs c ∗ ∃ r, prngReg c r)
def out (c : Dev nD) : sProp 𝕄 := iprop((zeros c ∗ semVal (at_ c cBar) 0) ∗ bufs c ∗ ∃ r, prngReg c r)

def dat (c : Dev nD) : Dat τ (Elt F) ℕ ℕ UU ℕ cfg0 c where
  A u := match u with
    | ⟨0, _⟩ => T c
    | ⟨1, _⟩ => X c
    | ⟨2, _⟩ => w c
    | ⟨3, _⟩ => o c
  after u _ := match u with
    | ⟨0, _⟩ => T c
    | ⟨1, _⟩ => X c
    | ⟨2, _⟩ => w c
    | ⟨3, _⟩ => res X w c
  Φ t := match t with
    | ⟨0, _⟩ => inn X c
    | ⟨_ + 1, _⟩ => out c
  q _ := fullShare
  owed t := match t with
    | ⟨0, _⟩ => owed c plan
    | ⟨_ + 1, _⟩ => 0

abbrev pdats (_ : Fin 1) (c : Dev nD) : Dat τ (Elt F) ℕ ℕ UU ℕ (cfgs 0) c := dat X w T o c

theorem share_eq (c : Dev nD) (u : Fin cfg0.W) : (dat X w T o c).share u = fullShare := by unfold Dat.share; split <;> rfl

/-- A staged window that is the whole array, at its one block, reads the array. -/
theorem whole_at (u : Fin cfg0.W) (t : Fin cfg0.N) (j : ((cfg0.win u).xblock (cfg0.grid.coords t)).Idx)
    (h0 : ∀ a, (cfg0.win u).index t a = 0) (a) :
    (((cfg0.win u).rect t).emb j a).val = (j a).val := by
  rw [Window.rect_emb_val_of_index_zero _ _ _ (h0 a)]

theorem before_0 (c : Dev nD) (d) : (dat X w T o c).before (0 : Fin 4) t0_0 d = T c := by
  unfold Dat.before; rw [if_pos (fetch0_0 t0_0)]
  funext j; show T c _ = T c j
  exact congrArg (T c) (funext fun a => Fin.ext (whole_at (0 : Fin 4) t0_0 j (by decide) a))
theorem before_1 (c : Dev nD) (d) : (dat X w T o c).before (1 : Fin 4) t0_0 d = X c := by
  unfold Dat.before; rw [if_pos (fetch0_1 t0_0)]
  funext j; show X c _ = X c j
  exact congrArg (X c) (funext fun a => Fin.ext (whole_at (1 : Fin 4) t0_0 j (by decide) a))
theorem before_2 (c : Dev nD) (d) : (dat X w T o c).before (2 : Fin 4) t0_0 d = w c := by
  unfold Dat.before; rw [if_pos (fetch0_2 t0_0)]
  funext j; show w c _ = w c j
  exact congrArg (w c) (funext fun a => Fin.ext (whole_at (2 : Fin 4) t0_0 j (by decide) a))

theorem end_3 (c : Dev nD) : (dat X w T o c).arrAt (3 : Fin 4) cfg0.N = res X w c := by
  refine (dat X w T o c).arrAt_eq_of_after_last (3 : Fin 4) t0_0 (by decide +kernel) _ fun j => ?_
  blk_simp; rfl

/-! ## The body -/

theorem owes_in (c : Dev nD) (t : Fin (cfg0.N + 1)) (O : CellTallies nD τ sig ℕ) (h : (dat X w T o c).owed t = O) :
    ow c O ⊢ ((dat X w T o c).owesAt 0 t : sProp 𝕄) := by
  unfold ow Dat.owesAt Pipeline.owesWithin Dat.bound; rw [h]
  iintro ⟨%W, HO⟩
  iexists W
  isplitr; · ipureintro; exact fun _ _ => Or.inl trivial
  iexact HO
theorem owes_out (c : Dev nD) (t : Fin (cfg0.N + 1)) (O : CellTallies nD τ sig ℕ) (h : (dat X w T o c).owed t = O) :
    (dat X w T o c).owesAt 0 t ⊢ (ow c O : sProp 𝕄) := by
  unfold ow Dat.owesAt Pipeline.owesWithin; rw [h]
  iintro ⟨%W, -, HO⟩
  iexists W
  iexact HO

abbrev preB (c : Dev nD) : sProp 𝕄 := iprop(inn X c ∗ (dat X w T o c).owesAt 0 t0_0.castSucc
  ∗ (∃ d, owns (c : Thread nD τ) MT0 fullShare ((dat X w T o c).before (0 : Fin 4) t0_0 d))
  ∗ (∃ d, owns (c : Thread nD τ) MX fullShare ((dat X w T o c).before (1 : Fin 4) t0_0 d))
  ∗ (∃ d, owns (c : Thread nD τ) MW fullShare ((dat X w T o c).before (2 : Fin 4) t0_0 d))
  ∗ (∃ d, owns (c : Thread nD τ) MO fullShare ((dat X w T o c).before (3 : Fin 4) t0_0 d)))
abbrev postB (c : Dev nD) : sProp 𝕄 := iprop(out c ∗ (dat X w T o c).owesAt 0 t0_0.succ
  ∗ owns (c : Thread nD τ) MT0 fullShare (T c) ∗ owns (c : Thread nD τ) MX fullShare (X c)
  ∗ owns (c : Thread nD τ) MW fullShare (w c) ∗ owns (c : Thread nD τ) MO fullShare (res X w c))

theorem run_body (c : Dev nD) (hT : tabOk (T c) c) : preB X w T o c ⊢ WP c
    (cc0_body MT0 (Memref.isWhole_whole _) MX (Memref.isWhole_whole _) MW (Memref.isWhole_whole _) MO (Memref.isWhole_whole _)
      BR (Memref.isWhole_whole _) BL (Memref.isWhole_whole _) cc0_scratch2 cc0_scratch3 cc0_scratch4 cc0_scratch5 cc0_scratch6 cc0_scratch7)
    (fun _ => postB X w T o c) := by
  rw [body_eq]
  unfold preB postB inn out bufs
  iintro ⟨⟨⟨#HX, HB⟩, HS, HR⟩, HO, ⟨%d0, H0⟩, ⟨%d1, H1⟩, ⟨%d2, H2⟩, ⟨%d3, H3⟩⟩
  rw [before_0, before_1, before_2]
  ihave HO := (owes_out X w T o c t0_0.castSucc (owed c plan) rfl) $$ HO
  iapply (step_body X (w c) (T c) (Memref.isWhole_whole _) c hT _)
  isplitl [HB HS HO H0 H1 H2 H3]
  · isplitr; · iexact HX
    isplitl [HB]; · iexact HB
    isplitl [HS]; · iexact HS
    isplitl [H1]; · iexact H1
    isplitl [H0 H2 H3]
    · isplitl [H0]; · iexact H0
      isplitl [H2]; · iexact H2
      iexists _; iexact H3
    iexact HO
  iintro ⟨HO, HZ, HS, H1, ⟨H0, H2, H3⟩⟩
  isplitl [HZ HS HR]
  · isplitl [HZ]; · iexact HZ
    isplitl [HS] <;> iassumption
  isplitl [HO]; · iapply (owes_in X w T o c t0_0.succ (owed c []) rfl); iexact HO
  isplitl [H0]; · iexact H0
  isplitl [H1]; · iexact H1
  isplitl [H2]; · iexact H2
  iexact H3

theorem obl (hT : ∀ c, tabOk (T c) c) (c : Dev nD) : BodyObligation (dat X w T o c) defs₀ 𝒱₀ 0 Set.univ := fun t => by
  rw [fin_N0 t]
  rw [bigSep_W0, bigSep_W0]
  exact run_body X w T o c (hT c)

/-! ## Entering and leaving the region -/

/-- All the invariants. -/
def INV : sProp 𝕄 := iprop((bigSep Finset.univ fun x : Dev nD × Option (Fin 12) => cinv X (at_ x.1 (smAt x.2)))
  ∗ (bigSep Finset.univ fun k : Dev nD × Fin 5 => sinv k))
instance INV_pers : BI.Persistent (INV X) := by unfold INV; infer_instance
/-- What device `c` brings to the region. -/
def Tk (c : Dev nD) : sProp 𝕄 := iprop(INV X ∗ (atPos ER (at_ c cBar) 0 ∅ 0 ∗ reached ER (at_ (lf c) cBar) 0 ∗ reached ER (at_ (rt c) cBar) 0)
  ∗ (bigSep Finset.univ fun k : Fin 12 => openTok ER (at_ c (osem k))) ∗ readers c ∗ supp c plan 0)
/-- A cell at the start of its rounds. -/
def fresh (c : Dev nD) (k : Fin 12) : sProp 𝕄 := iprop(atPos ER (at_ c (osem k)) 0 ∅ 0 ∗ reached ER (at_ c (osem k)) 0)

theorem open_all (c : Dev nD) : iprop(INV X ∗ (bigSep Finset.univ fun k : Fin 12 => openTok ER (at_ c (osem k))) ∗ zeros c)
    ⊢ (|={Set.univ}=> bigSep Finset.univ (fresh c) : sProp 𝕄) := by
  unfold zeros
  have h1 : iprop(INV X ∗ (bigSep Finset.univ fun k : Fin 12 => iprop(openTok ER (at_ c (osem k)) ∗ semVal (at_ c (osem k)) 0)))
      ⊢ (bigSep Finset.univ fun k : Fin 12 => iprop(INV X ∗ (openTok ER (at_ c (osem k)) ∗ semVal (at_ c (osem k)) 0)) : sProp 𝕄) :=
    bigSep_with_persistent fun _ _ => .rfl
  have h2 (k : Fin 12) : iprop(INV X ∗ (openTok ER (at_ c (osem k)) ∗ semVal (at_ c (osem k)) 0)) ⊢ (|={Set.univ}=> fresh c k : sProp 𝕄) := by
    unfold INV fresh
    iintro ⟨⟨#HI, -⟩, Ht, Hv⟩
    ihave #HI := (show (bigSep Finset.univ fun x : Dev nD × Option (Fin 12) => cinv X (at_ x.1 (smAt x.2))) ⊢ cinv X (at_ c (osem k)) from
      bigSep_elim (Finset.mem_univ (c, some k))) $$ HI
    unfold cinv
    icases HI with ⟨%κ, HI⟩
    iapply (Rounds.cell_open ER (Rd X) (g := at_ c (osem k)) (Set.mem_univ κ))
    isplitr; · iexact HI
    isplitl [Ht] <;> iassumption
  refine BIBase.Entails.trans ?_ (h1.trans ((bigSep_mono fun k _ => h2 k).trans (bigSep_fupd _ _)))
  rw [bigSep_sep']

theorem fresh_pos (c : Dev nD) (k : Fin 12) (sm : DmaSem sig) (e : osem k = .dma sm) : fresh c k ⊢ (pos c sm 0 : sProp 𝕄) := by
  unfold fresh pos; rw [e]

theorem fresh_all (c : Dev nD) : (bigSep Finset.univ (fresh c) : sProp 𝕄)
    ⊢ iprop((reached ER (at_ c cCr) 0 ∗ reached ER (at_ c cCl) 0) ∗ (crSt c 0 ∗ clSt c 0) ∗ places c) := by
  rw [bigSep_univ_eq_bigSepL [0, 1, 2, 3, 4, 5, 6, 7, 8, 9, 10, 11] (by decide) (by decide) (fresh c)]
  simp only [bigSepL_cons']
  iintro ⟨A, B, S0, S1, S2, R0, R1, R2, T0, T1, U0, U1, -⟩
  ihave A := (show fresh c 0 ⊢ (iprop(atPos ER (at_ c cCr) 0 ∅ 0 ∗ reached ER (at_ c cCr) 0) : sProp 𝕄) from .rfl) $$ A
  ihave B := (show fresh c 1 ⊢ (iprop(atPos ER (at_ c cCl) 0 ∅ 0 ∗ reached ER (at_ c cCl) 0) : sProp 𝕄) from .rfl) $$ B
  icases A with ⟨A, A'⟩
  icases B with ⟨B, B'⟩
  isplitl [A' B']
  · isplitl [A'] <;> iassumption
  isplitl [A B]
  · isplitl [A]; · iapply (credSt_init c crS 13 (crF c)); iexact A
    iapply (credSt_init c clS 14 (clF c)); iexact B
  unfold places posSR posRR posSL posRL
  isplitl [S0 S1 S2]
  · isplitl [S0]; · iapply (fresh_pos c 2 (dSr 0) (by decide)); iexact S0
    isplitl [S1]; · iapply (fresh_pos c 3 (dSr 1) (by decide)); iexact S1
    iapply (fresh_pos c 4 (dSr 2) (by decide)); iexact S2
  isplitl [R0 R1 R2]
  · isplitl [R1]; · iapply (fresh_pos c 6 (dRr 0) (by decide)); iexact R1
    isplitl [R2]; · iapply (fresh_pos c 7 (dRr 1) (by decide)); iexact R2
    iapply (fresh_pos c 5 (dRr 2) (by decide)); iexact R0
  isplitl [T0 T1]
  · isplitl [T0]; · iapply (fresh_pos c 8 (dSl 0) (by decide)); iexact T0
    iapply (fresh_pos c 9 (dSl 1) (by decide)); iexact T1
  isplitl [U1]; · iapply (fresh_pos c 11 (dRl 0) (by decide)); iexact U1
  iapply (fresh_pos c 10 (dRl 1) (by decide)); iexact U0

theorem hopen (c : Dev nD) : iprop(Tk X c ∗ Pipeline.ownSems0 osem c ∗ levAts LV lvl) ⊢ (|={Set.univ}=> (CTX X ∗ begun c) : sProp 𝕄) := by
  unfold Tk begun
  iintro ⟨⟨#HI, HB, HT, HR, HU⟩, HZ, #HL⟩
  imod (open_all X c) $$ [HT HZ] with HF
  · isplitr; · iexact HI
    isplitl [HT]; · iexact HT
    iapply (Entails.of_eq (show (Pipeline.ownSems0 osem c : sProp 𝕄) = zeros c from rfl)); iexact HZ
  ihave HF := (fresh_all c) $$ HF
  icases HF with ⟨H1, H2, H3⟩
  imodintro
  isplitr
  · unfold INV CTX
    icases HI with ⟨HI1, HI2⟩
    isplitr; · iexact HI1
    isplitr; · iexact HI2
    iexact HL
  isplitl [HB]; · iexact HB
  isplitl [H1]; · iexact H1
  isplitl [H2]; · iexact H2
  isplitl [H3]; · iexact H3
  isplitl [HR] <;> iassumption

theorem bufs_eq (c : Dev nD) : (Pipeline.scopedRest spec0 c : sProp 𝕄) = bufs c := scopedRest0_eq c

theorem hin (V : Valuation τ sig (Elt F)) (c : Dev nD) : iprop(Pipeline.scopedRest (Pipeline.pin (pcfgs (F := F)) adm 0).spec c ∗ (∃ r, prngReg c r)
      ∗ StableHlo.held (c.tc : Thread nD τ) ∅ V ∗ (CTX X ∗ begun c))
    ⊢ (pdats X w T o 0 c).Φ 0 := by
  rw [show (pdats X w T o 0 c).Φ 0 = inn X c from rfl,
    show (Pipeline.scopedRest (Pipeline.pin (pcfgs (F := F)) adm 0).spec c : sProp 𝕄) = bufs c from bufs_eq c]
  unfold inn
  iintro ⟨Hs, Hp, -, HX⟩
  isplitl [HX]; · iexact HX
  isplitl [Hs] <;> iassumption

theorem hout (V : Valuation τ sig (Elt F)) (c : Dev nD) : (pdats X w T o 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ V
      ∗ Pipeline.ownSems0 osem c ∗ semVal (at_ c cBar) 0) := by
  rw [show (pdats X w T o 0 c).Φ (Fin.last _) = out c from rfl,
    show (Pipeline.scopedRest (Pipeline.pin (pcfgs (F := F)) adm 0).spec c : sProp 𝕄) = bufs c from bufs_eq c,
    show (Pipeline.ownSems0 osem c : sProp 𝕄) = zeros c from rfl,
    show (StableHlo.held (c.tc : Thread nD τ) ∅ V : sProp 𝕄) = BI.emp from bigSep_empty]
  unfold out
  iintro ⟨⟨HZ, Hb⟩, Hs, Hp⟩
  isplitl [Hs]; · iexact Hs
  isplitl [Hp]; · iexact Hp
  isplitr; · iempintro
  isplitl [HZ] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem after_plan : after 0 plan :=
  after_cons (show 0 < 1 by decide) (by decide) (after_cons (show 0 < 1 by decide) (by decide) (after_l0 (by decide)))

theorem cutD (c : Dev nD) (t : Fin ((Pipeline.pin (pcfgs (F := F)) adm 0).N + 1)) (g : GSem nD τ sig) (i : ℕ)
    (h : 0 < (pdats X w T o 0 c).owed t g i) : i ∈ LV g ∧ 0 < lvl g i := by
  obtain ⟨t, ht⟩ := t
  cases t with
  | zero =>
    have h : 0 < owed c plan g i := h
    obtain ⟨x, hx, rfl, rfl⟩ := tallyL_pos h
    obtain ⟨a, ha, rfl⟩ := List.mem_map.mp hx
    exact ⟨SiteBlocks.mem_L' rfl (after_plan a ha).2, (after_plan a ha).1⟩
  | succ n => exact absurd (show 0 < 0 from h) (Nat.lt_irrefl 0)

set_option backward.isDefEq.respectTransparency.types false in
def reg (hT : ∀ c, tabOk (T c) c) (V V' : Dev nD → Valuation τ sig (Elt F)) (Sr : Finset (DevRef τ sig))
    (hr : ∀ c, ∀ b ∈ Sr, V' c b = V c b)
    (hV : ∀ c u, (dat X w T o c).arrAt u 0 = V c (Proc.devRef .tc (Pipeline.arrRef spec0 u)))
    (hV' : ∀ c u, (dat X w T o c).arrAt u cfg0.N = V' c (Proc.devRef .tc (Pipeline.arrRef spec0 u))) :
    Pipeline.RegionSeg (pcfgs (F := F)) adm (pdats X w T o) 0 defs₀ 𝒱₀ LV lvl 0 :=
  Pipeline.RegionSeg.ofTalk (pcfgs (F := F)) adm (pdats X w T o) 0 defs₀ 𝒱₀ LV lvl 0 osem (by decide : Pipeline.OwnSemFacts spec0 osem)
    ∅ Sr (Finset.empty_subset _) kitP rfl (fun c => (obl X w T o hT c).loose)
    (fun _ => 0) (fun c => owed c plan) (fun c => (zero_add _).symm) (fun _ => rfl) (fun _ => rfl) (fun c u => share_eq X w T o c u)
    V V' (fun c b hb => hr c b (Finset.mem_sdiff.mp hb).1)
    (Tk X) (fun c => semVal (at_ c cBar) 0) (fun c => iprop(CTX X ∗ begun c)) (fun c => semVal (at_ c cBar) 0)
    (hopen X) (fun c => hin X w T o (V c) c) (fun c => hout X w T o (V' c) c)
    (fun c => by iintro H; imodintro; iexact H)
    (fun _ => 0)
    ⟨fun _ _ _ => SiteBlocks.mem_L' rfl (by decide), fun _ _ _ => le_refl _, fun c t g i h => cutD X w T o c t g i h⟩
    (fun _ => iprop(emp)) hV hV'

end Cert.Ring
-- ==== Proof.Deal.lean ====
/- What the launch deals: the invariants of all cells and slots, and to each device its places, its rights to
   make slots free, and the tokens of the duties it pays. -/
module

public import proofs.«01_k».proof.Proof.Region
public import Idealize.ShloMosaic.Lib.SparseCore.Launch

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

/-! ## Resources indexed by a device and a list -/

/-- A family over pairs of a device and an entry of a list, device by device. -/
theorem bigSep_deal {A B : Type} [DecidableEq A] (e : Dev nD × A ↪ B) (l : List A) (hl : l.Nodup) (Φ : B → sProp 𝕄) :
    bigSep ((Finset.univ ×ˢ l.toFinset).map e) Φ = bigSep Finset.univ fun d : Dev nD => bigSepL l fun a => Φ (e (d, a)) := by
  rw [bigSep_map, SparseCore.bigSep_product]
  exact bigSep_congr fun d _ => bigSep_eq_bigSepL l hl _

/-- The device an act is addressed to, as a permutation of the devices. -/
def Act.perm : Act → (Dev nD ≃ Dev nD)
  | .bL | .sL _ | .cR _ => ring.symm
  | .bR | .sR _ | .cL _ => ring
theorem Act.perm_eq (a : Act) (c : Dev nD) : a.perm c = a.to c := by cases a <;> rfl

/-- Resources sorted by the device addressed, sorted by the device that acts. -/
theorem around (l : List Act) (Φ : Dev nD → Act → sProp 𝕄) : (bigSep Finset.univ fun d : Dev nD => bigSepL l (Φ d))
    = bigSep Finset.univ fun c : Dev nD => bigSepL l fun a => Φ (a.to c) a := by
  induction l with
  | nil => rfl
  | cons a l ih =>
    have e (d : Dev nD) : bigSepL (a :: l) (Φ d) = iprop(Φ d a ∗ bigSepL l (Φ d)) := bigSepL_cons' _ _ _
    have e' (c : Dev nD) : (bigSepL (a :: l) fun a => Φ (a.to c) a) = iprop(Φ (a.to c) a ∗ bigSepL l fun a => Φ (a.to c) a) := bigSepL_cons' _ _ _
    rw [bigSep_congr fun d _ => e d, bigSep_congr fun c _ => e' c, bigSep_sep', bigSep_sep', ih, bigSep_univ_equiv a.perm fun d => Φ d a]
    congr 1
    exact bigSep_congr fun c _ => by rw [Act.perm_eq]

/-! ## The credits -/

/-- The units of the acts `l` addressed to device `d`. -/
def dueTo (l : List Act) (d : Dev nD) : CellTallies nD τ sig ℕ := tallyL (l.map fun a => ((at_ d a.sm, a.idx, a.amt) : Pay nD τ sig))

theorem owed_sum (l : List Act) : (∑ c : Dev nD, owed c l) = ∑ c : Dev nD, dueTo l c := by
  induction l with
  | nil => rfl
  | cons a l ih =>
    have h (c : Dev nD) : owed c (a :: l) = Pay.tally (at_ (a.to c) a.sm, a.idx, a.amt) + owed c l := rfl
    have h' (c : Dev nD) : dueTo (a :: l) c = Pay.tally (at_ c a.sm, a.idx, a.amt) + dueTo l c := rfl
    rw [Finset.sum_congr rfl fun c _ => h c, Finset.sum_congr rfl fun c _ => h' c, Finset.sum_add_distrib, Finset.sum_add_distrib, ih,
      ← Equiv.sum_comp a.perm fun d : Dev nD => (Pay.tally (at_ d a.sm, a.idx, a.amt) : CellTallies nD τ sig ℕ)]
    congr 1
    exact Finset.sum_congr rfl fun c _ => by rw [Act.perm_eq]

theorem dueTo_self (l : List Act) (d : Dev nD) (g : GSem nD τ sig) (hg : dueTo l d g ≠ 0) : g.1 = (d.tc : Thread nD τ) := by
  obtain ⟨i, hi⟩ := DFunLike.ne_iff.mp hg
  obtain ⟨x, hx, rfl, -⟩ := tallyL_pos (Nat.pos_of_ne_zero hi)
  obtain ⟨a, -, rfl⟩ := List.mem_map.mp hx
  rfl

/-- The credit a device gets at launch: that of the acts addressed to it. -/
theorem creds (l : List Act) (c : Dev nD) : (Pipeline.launchCred (fun c => owed c l) c : sProp 𝕄) = bigSepL l (crd c) := by
  have h := owed_sum l
  have h2 := dueTo_self l
  have e : (Pipeline.launchCred (fun c => owed c l) c : sProp 𝕄) = cred (dueTo l c) := Pipeline.launchCred_of_sum (fun c => owed c l) (dueTo l) h h2 c
  rw [e]
  unfold dueTo
  rw [cred_tallyL, bigSepL_map]
  rfl

/-! ## The launch elements -/

def barEmb : Dev nD ↪ GSem nD τ sig := ⟨fun c => at_ c cBar, fun _ _ h => congrArg (fun g : GSem nD τ sig => g.1.1) h⟩
theorem osem_inj : Function.Injective osem := by decide
theorem osem_ne_bar : ∀ k : Fin 12, osem k ≠ cBar := by decide
def scEmb : Dev nD × Fin 12 ↪ GSem nD τ sig :=
  ⟨fun x => at_ x.1 (osem x.2), fun _ _ h =>
    Prod.ext (congrArg (fun g : GSem nD τ sig => g.1.1) h) (osem_inj (congrArg Prod.snd h))⟩
/-- The entry barrier's cells, the kernel's own cells. -/
def bars : Finset (GSem nD τ sig) := Finset.univ.map barEmb
def selfs : Finset (GSem nD τ sig) := Finset.univ.map scEmb
theorem bars_scoped : Disjoint bars selfs := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- The duties of one device's cells: those of the acts, those of its own copies' returns. -/
def dutyL : List (SemLoc sig × ℕ × ℕ) := plan.map (fun a => (a.sm, a.rnd, a.dut))
  ++ ((List.range 16).map (fun h => (SemLoc.dma (dSr h), h / 3, 0)) ++ (List.range 16).map (fun h => (SemLoc.dma (dSl h), h / 2, 0)))
theorem dutyL_nodup : dutyL.Nodup := by decide +kernel
def dutyEmb : Dev nD × (SemLoc sig × ℕ × ℕ) ↪ GSem nD τ sig × ℕ × ℕ :=
  ⟨fun x => (at_ x.1 x.2.1, x.2.2), fun _ _ h =>
    Prod.ext (congrArg (fun t : GSem nD τ sig × ℕ × ℕ => t.1.1.1) h)
      (Prod.ext (congrArg (fun t : GSem nD τ sig × ℕ × ℕ => t.1.2) h) (congrArg (fun t : GSem nD τ sig × ℕ × ℕ => t.2) h))⟩
def duties : Finset (GSem nD τ sig × ℕ × ℕ) := (Finset.univ ×ˢ dutyL.toFinset).map dutyEmb

/-- The writes into one device's slots. -/
def writeL : List (Fin 5 × ℕ) := (List.range 16).map (fun h => (⟨(h + 1) % 3, by omega⟩, h / 3)) ++ (List.range 16).map (fun h => (⟨3 + (h + 1) % 2, by omega⟩, h / 2))
theorem writeL_nodup : writeL.Nodup := by decide +kernel
def writeEmb : Dev nD × (Fin 5 × ℕ) ↪ (Dev nD × Fin 5) × ℕ :=
  ⟨fun x => ((x.1, x.2.1), x.2.2), fun _ _ h =>
    Prod.ext (congrArg (fun t : (Dev nD × Fin 5) × ℕ => t.1.1) h)
      (Prod.ext (congrArg (fun t : (Dev nD × Fin 5) × ℕ => t.1.2) h) (congrArg (fun t : (Dev nD × Fin 5) × ℕ => t.2) h))⟩
theorem writeL_lt : ∀ x ∈ writeL, x.2 < 8 := by decide +kernel
theorem writes_sub : (Finset.univ ×ˢ writeL.toFinset).map writeEmb ⊆ (Finset.univ : Finset (Dev nD × Fin 5)) ×ˢ Finset.range 8 := by
  intro y hy
  obtain ⟨x, hx, rfl⟩ := Finset.mem_map.mp hy
  exact Finset.mem_product.mpr ⟨Finset.mem_univ _,
    Finset.mem_range.mpr (writeL_lt x.2 (List.mem_toFinset.mp (Finset.mem_product.mp hx).2))⟩

def elR : URounds (GSem nD τ sig) ℕ := launchOf bars selfs duties
def elS : USlots (Dev nD × Fin 5) := initSlots Finset.univ 8

/-! ## Each device's share -/

theorem bigSepL_range (Φ : ℕ → sProp 𝕄) : bigSepL (List.range 16) Φ = bigSep (Finset.Ico 0 16) Φ := by
  rw [← bigSep_eq_bigSepL _ (by decide)]; rfl

/-- The tokens of the duties a device pays. -/
theorem deal_duties : bigSep duties (fun x => (dutyTok ER x.1 x.2.1 x.2.2 : sProp 𝕄))
    = bigSep Finset.univ fun c : Dev nD => iprop(bigSepL plan (Act.tok c)
      ∗ bigSep (Finset.Ico 0 16) (fun h => dutyTok ER (at_ c (.dma (dSr h))) (h / 3) 0)
      ∗ bigSep (Finset.Ico 0 16) (fun h => dutyTok ER (at_ c (.dma (dSl h))) (h / 2) 0)) := by
  unfold duties
  rw [bigSep_deal dutyEmb dutyL dutyL_nodup]
  have e (d : Dev nD) : (bigSepL dutyL fun a => (dutyTok ER (dutyEmb (d, a)).1 (dutyEmb (d, a)).2.1 (dutyEmb (d, a)).2.2 : sProp 𝕄))
      = iprop((bigSepL plan fun a => dutyTok ER (at_ d a.sm) a.rnd a.dut)
        ∗ bigSep (Finset.Ico 0 16) (fun h => dutyTok ER (at_ d (.dma (dSr h))) (h / 3) 0)
        ∗ bigSep (Finset.Ico 0 16) (fun h => dutyTok ER (at_ d (.dma (dSl h))) (h / 2) 0)) := by
    unfold dutyL
    rw [bigSepL_append, bigSepL_append, bigSepL_map, bigSepL_map, bigSepL_map, bigSepL_range, bigSepL_range]
    rfl
  rw [bigSep_congr fun d _ => e d, bigSep_sep', around plan fun d a => dutyTok ER (at_ d a.sm) a.rnd a.dut, ← bigSep_sep']
  rfl

/-- The rights to write into the neighbours' slots. -/
theorem deal_writes : bigSep ((Finset.univ : Finset (Dev nD × Fin 5)) ×ˢ Finset.range 8) (fun x => (writeTok ES x.1 (x.2 + 1) : sProp 𝕄))
    ⊢ bigSep Finset.univ fun c : Dev nD => iprop(bigSep (Finset.Ico 0 16) (fun h => writeTok ES (kR (rt c) (h + 1)) (h / 3 + 1))
      ∗ bigSep (Finset.Ico 0 16) (fun h => writeTok ES (kL (lf c) (h + 1)) (h / 2 + 1))) := by
  refine BIBase.Entails.trans (bigSep_subset writes_sub) (Entails.of_eq ?_)
  rw [bigSep_deal writeEmb writeL writeL_nodup]
  have e (d : Dev nD) : (bigSepL writeL fun a => (writeTok ES (writeEmb (d, a)).1 ((writeEmb (d, a)).2 + 1) : sProp 𝕄))
      = iprop(bigSep (Finset.Ico 0 16) (fun h => writeTok ES (kR d (h + 1)) (h / 3 + 1))
        ∗ bigSep (Finset.Ico 0 16) (fun h => writeTok ES (kL d (h + 1)) (h / 2 + 1))) := by
    unfold writeL
    rw [bigSepL_append, bigSepL_map, bigSepL_map, bigSepL_range, bigSepL_range]
    rfl
  rw [bigSep_congr fun d _ => e d, bigSep_sep', bigSep_sep',
    bigSep_univ_equiv ring fun d : Dev nD => bigSep (Finset.Ico 0 16) fun h => (writeTok ES (kR d (h + 1)) (h / 3 + 1) : sProp 𝕄),
    bigSep_univ_equiv ring.symm fun d : Dev nD => bigSep (Finset.Ico 0 16) fun h => (writeTok ES (kL d (h + 1)) (h / 2 + 1) : sProp 𝕄)]
  rfl

theorem readers_of (c : Dev nD) : (bigSep Finset.univ fun k : Fin 5 => readerAt ES (c, k) 0) ⊢ (readers c : sProp 𝕄) := by
  rw [bigSep_univ_eq_bigSepL [0, 1, 2, 3, 4] (by decide) (by decide)]
  simp only [bigSepL_cons']
  unfold readers
  iintro ⟨H0, H1, H2, H3, H4, -⟩
  isplitl [H0 H1 H2]
  · isplitl [H1]; · iexact H1
    isplitl [H2]; · iexact H2
    iexact H0
  isplitl [H4]; · iexact H4
  iexact H3

theorem deal_readers : bigSep (Finset.univ : Finset (Dev nD × Fin 5)) (fun k => (readerAt ES k 0 : sProp 𝕄))
    ⊢ bigSep Finset.univ fun c : Dev nD => readers c := by
  rw [bigSep_univ_prod]
  exact bigSep_mono fun c _ => readers_of c

variable (X : Dev nD → S256x8192.Idx → Elt F .f32)

theorem inv_cells (κ : GSem nD τ sig → ℕ) : (bigSep (bars ∪ selfs) fun g => cellInv ER (Rd X) (κ g) g)
    ⊢ (bigSep Finset.univ fun x : Dev nD × Option (Fin 12) => cinv X (at_ x.1 (smAt x.2)) : sProp 𝕄) := by
  have h (x : Dev nD × Option (Fin 12)) : at_ x.1 (smAt x.2) ∈ bars ∪ selfs := by
    obtain ⟨c, k⟩ := x
    cases k with
    | none => exact Finset.mem_union_left _ (Finset.mem_map_of_mem barEmb (Finset.mem_univ c))
    | some k => exact Finset.mem_union_right _ (Finset.mem_map_of_mem scEmb (Finset.mem_univ (c, k)))
  have h1 (x : Dev nD × Option (Fin 12)) : iprop((bigSep (bars ∪ selfs) fun g => cellInv ER (Rd X) (κ g) g) ∗ emp) ⊢ (cinv X (at_ x.1 (smAt x.2)) : sProp 𝕄) := by
    unfold cinv
    iintro ⟨HI, -⟩
    ihave HI := (show (bigSep (bars ∪ selfs) fun g => cellInv ER (Rd X) (κ g) g) ⊢ (cellInv ER (Rd X) (κ (at_ x.1 (smAt x.2))) (at_ x.1 (smAt x.2)) : sProp 𝕄)
      from bigSep_elim (h x)) $$ HI
    iexists _; iexact HI
  have h2 : iprop((bigSep (bars ∪ selfs) fun g => cellInv ER (Rd X) (κ g) g) ∗ bigSep Finset.univ fun _ : Dev nD × Option (Fin 12) => (BI.emp : sProp 𝕄))
      ⊢ (bigSep Finset.univ fun x : Dev nD × Option (Fin 12) => cinv X (at_ x.1 (smAt x.2)) : sProp 𝕄) :=
    bigSep_with_persistent fun x _ => h1 x
  rw [bigSep_emp_const] at h2
  iintro #HI
  iapply h2
  isplitr; · iexact HI
  iempintro

theorem sinv_of (ι : ℕ) (k : Dev nD × Fin 5) : slotInv ES ι k (Sl k) ⊢ (sinv k : sProp 𝕄) := by
  unfold sinv
  iintro H; iexists _; iexact H
theorem inv_slots (ιs : Dev nD × Fin 5 → ℕ) : (bigSep Finset.univ fun k => slotInv ES (ιs k) k (Sl k))
    ⊢ (bigSep Finset.univ fun k : Dev nD × Fin 5 => sinv k : sProp 𝕄) :=
  bigSep_mono fun k _ => sinv_of _ k

/-- What device `c` has for the exchange after the launch. -/
def mine (c : Dev nD) : sProp 𝕄 := iprop(atPos ER (at_ c cBar) 0 ∅ 0 ∗ (bigSep Finset.univ fun k : Fin 12 => openTok ER (at_ c (osem k)))
  ∗ readers c ∗ (bigSepL plan (Act.tok c) ∗ bigSep (Finset.Ico 0 16) (fun h => dutyTok ER (at_ c (.dma (dSr h))) (h / 3) 0)
    ∗ bigSep (Finset.Ico 0 16) (fun h => dutyTok ER (at_ c (.dma (dSl h))) (h / 2) 0))
  ∗ bigSep (Finset.Ico 0 16) (fun h => writeTok ES (kR (rt c) (h + 1)) (h / 3 + 1))
  ∗ bigSep (Finset.Ico 0 16) (fun h => writeTok ES (kL (lf c) (h + 1)) (h / 2 + 1)))

/-- What every device may consult. -/
def common : sProp 𝕄 := iprop(INV X ∗ bigSep Finset.univ fun d : Dev nD => reached ER (at_ d cBar) 0)
instance common_pers : BI.Persistent (common X) := by unfold common; infer_instance

theorem mine_Tk (c : Dev nD) : iprop(common X ∗ mine c ∗ bigSepL plan (crd c)) ⊢ (Tk X c : sProp 𝕄) := by
  unfold common mine Tk supp
  iintro ⟨⟨#HI, #HR⟩, ⟨HB, HT, HRd, ⟨HP, HS1, HS2⟩, HW1, HW2⟩, HC⟩
  isplitr; · iexact HI
  isplitl [HB]
  · isplitl [HB]; · iexact HB
    isplitr
    · iapply (show (bigSep Finset.univ fun d : Dev nD => reached ER (at_ d cBar) 0) ⊢ (reached ER (at_ (lf c) cBar) 0 : sProp 𝕄) from bigSep_elim (Finset.mem_univ _)); iexact HR
    · iapply (show (bigSep Finset.univ fun d : Dev nD => reached ER (at_ d cBar) 0) ⊢ (reached ER (at_ (rt c) cBar) 0 : sProp 𝕄) from bigSep_elim (Finset.mem_univ _)); iexact HR
  isplitl [HT]; · iexact HT
  isplitl [HRd]; · iexact HRd
  isplitl [HP]; · iexact HP
  isplitl [HC]; · iexact HC
  unfold ownR ownL
  rw [bigSep_sep', bigSep_sep', bigSep_sep']
  isplitl [HS1 HW1]
  · isplitl [HS1] <;> iassumption
  · isplitl [HS2] <;> iassumption

theorem deal_all : iprop((bigSep Finset.univ fun d : Dev nD => semVal (at_ d cBar) 0) ∗ BI.own (ER elR) ∗ BI.own (ES elS))
    ⊢ (|={Set.univ}=> (common X ∗ bigSep Finset.univ mine) : sProp 𝕄) := by
  have hv : (bigSep Finset.univ fun d : Dev nD => (semVal (at_ d cBar) 0 : sProp 𝕄)) ⊢ bigSep bars fun g => (semVal g 0 : sProp 𝕄) :=
    Entails.of_eq (bigSep_map (s := Finset.univ) barEmb (Φ := fun g : GSem nD τ sig => (semVal g 0 : sProp 𝕄))).symm
  have hat : (bigSep bars fun g => (atPos ER g 0 ∅ 0 : sProp 𝕄)) ⊢ bigSep Finset.univ fun d : Dev nD => (atPos ER (at_ d cBar) 0 ∅ 0 : sProp 𝕄) :=
    Entails.of_eq (bigSep_map (s := Finset.univ) barEmb (Φ := fun g : GSem nD τ sig => (atPos ER g 0 ∅ 0 : sProp 𝕄)))
  have hre : (bigSep bars fun g => (reached ER g 0 : sProp 𝕄)) ⊢ bigSep Finset.univ fun d : Dev nD => (reached ER (at_ d cBar) 0 : sProp 𝕄) :=
    Entails.of_eq (bigSep_map (s := Finset.univ) barEmb (Φ := fun g : GSem nD τ sig => (reached ER g 0 : sProp 𝕄)))
  have hop : (bigSep selfs fun g => (openTok ER g : sProp 𝕄))
      ⊢ bigSep Finset.univ fun d : Dev nD => bigSep Finset.univ fun k : Fin 12 => (openTok ER (at_ d (osem k)) : sProp 𝕄) :=
    Entails.of_eq (by unfold selfs; rw [bigSep_map, bigSep_univ_prod]; rfl)
  iintro ⟨Hv, HR, HS⟩
  imod (Rounds.fund_launch ER (Rd X) bars_scoped (fun g _ h => h) duties) $$ [Hv HR] with ⟨%κ, -, #Hinv, Hr, Hat, Hopen, Htok⟩
  · isplitl [Hv]
    · iapply hv; iexact Hv
    · iexact HR
  imod (show BI.own (ES elS) ⊢ _ from slots_init ES Finset.univ 8 Sl) $$ HS with ⟨%ιs, -, #Hsl, Hrd, Hw⟩
  imodintro
  isplitl [Hr]
  · unfold common INV
    isplitr
    · isplitr
      · iapply (inv_cells X κ); iexact Hinv
      · iapply (inv_slots ιs); iexact Hsl
    · iapply hre; iexact Hr
  unfold mine
  rw [bigSep_sep']; isplitl [Hat]; · iapply hat; iexact Hat
  rw [bigSep_sep']; isplitl [Hopen]; · iapply hop; iexact Hopen
  rw [bigSep_sep']; isplitl [Hrd]; · iapply deal_readers; iexact Hrd
  rw [bigSep_sep']; isplitl [Htok]; · iapply (Entails.of_eq deal_duties); iexact Htok
  iapply deal_writes; iexact Hw

end Cert.Ring
-- ==== Proof.Table.lean ====
/- The table of origins that the host code hands to the kernel. -/
module

public import proofs.«01_k».proof.Proof.Hop
public import proofs.«01_k».proof.Proof.Gen.KernelIdeal.Regions
public import Idealize.ShloMosaic.Lib.StableHlo.RunRead

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

open Cert.KernelIdeal.Gen

/-! ## The host code's functions on words -/

abbrev W0 := IVec S_ 32
/-- A number of `x` on the circle of `n`, not negative. -/
def rem0 (x n : W0) : W0 :=
  let d := select (cmpi .eq n (constantI S_ 32 0#32)) (constantI S_ 32 1#32) n
  let r := Host.remsi x d
  select (andi (cmpi .ne (cmpi .slt r (constantI S_ 32 0#32)) (cmpi .slt d (constantI S_ 32 0#32))) (cmpi .ne r (constantI S_ 32 0#32))) (addi r d) r
/-- The same of a row of words. -/
def remN {s : Shape} (h : S_.BroadcastsInDim s ![]) (x : IVec s 32) (n : W0) : IVec s 32 :=
  let d := select (cmpi .eq n (constantI S_ 32 0#32)) (constantI S_ 32 1#32) n
  let r := Host.remsi x (broadcastInDim s ![] h d)
  let z := broadcastInDim s ![] h (constantI S_ 32 0#32)
  select (andi (cmpi .ne (cmpi .slt r z) (broadcastInDim s ![] h (cmpi .slt d (constantI S_ 32 0#32)))) (cmpi .ne r z))
    (addi r (broadcastInDim s ![] h d)) r
/-- A negative index counts from the end. -/
def wrap0 (x : W0) : W0 := select (cmpi .slt x (constantI S_ 32 0#32)) (addi x (constantI S_ 32 32#32)) x
def wrapN {s : Shape} (h : S_.BroadcastsInDim s ![]) (x : IVec s 32) : IVec s 32 :=
  select (cmpi .slt x (broadcastInDim s ![] h (constantI S_ 32 0#32))) (addi x (broadcastInDim s ![] h (constantI S_ 32 32#32))) x
/-- The word of the list `l` at place `x`. -/
def pick (l : IVec S32 32) (x : W0) : W0 :=
  shapeCast S_ (Host.dynamicSlice S1 l (fun _ => (wrap0 x (Shape.Idx.first h_S_)).toInt) sliceFits_S32_S1) shapeCasts_S1_S_
def meT (c : Dev nD) : W0 := Host.remui (Host.divui (constantI S_ 32 (Dev.word c)) (constantI S_ 32 1#32)) (constantI S_ 32 32#32)
/-- The devices in the order of the ring, and the place of each device. -/
def order : IVec S32 32 := fun i => lit0 (S32.rowMajor i)
def place : IVec S32 32 := fun i => lit1 (S32.rowMajor i)

section
variable (W : Valuation τ sig (Elt F)) (c : Dev nD)

theorem at0_v4 : StableHlo.after (hostOps0 c) W main_v4 = meT c := by
  after_reads_simp; rfl
theorem at0_v9 : StableHlo.after (hostOps0 c) W main_v9 = pick place (meT c) := by
  after_reads_simp
  refine congrArg (fun f => shapeCast S_ (Host.dynamicSlice S1 place f sliceFits_S32_S1) shapeCasts_S1_S_) (funext fun k => ?_)
  obtain rfl : k = 0 := Subsingleton.elim _ _
  show BitVec.toInt ((StableHlo.upto (hostOps0 c) W 13 main_v7 : W0) _) = _
  after_reads_simp
  rfl
theorem at0_v10 : StableHlo.after (hostOps0 c) W main_v10 = addi (StableHlo.after (hostOps0 c) W main_v9 : W0) (constantI S_ 32 1#32) := by
  after_reads_simp
theorem at0_c : StableHlo.after (hostOps0 c) W main_c = order := by
  after_reads_simp; rfl
theorem at0_c6 : StableHlo.after (hostOps0 c) W main_c_6 = constantI S_ 32 32#32 := by
  after_reads_simp
theorem at1 : StableHlo.after hostOps0_1 W main_v11 = rem0 (W main_v10) (W main_c_6) := by
  after_reads_simp
  simp -implicitDefEqProofs only [StableHlo.TRef.toBuf, StableHlo.TRef.ofBuf, cast_cast, cast_eq]
  rfl
theorem at2_v16 : StableHlo.after hostOps0_2 W main_v16 = pick (W main_c) (W main_v11) := by
  after_reads_simp
  refine congrArg (fun f => shapeCast S_ (Host.dynamicSlice S1 (W main_c : IVec S32 32) f sliceFits_S32_S1) shapeCasts_S1_S_) (funext fun k => ?_)
  obtain rfl : k = 0 := Subsingleton.elim _ _
  show BitVec.toInt ((StableHlo.upto hostOps0_2 W 5 main_v14 : W0) _) = _
  after_reads_simp
  rfl
theorem at2_v17 : StableHlo.after hostOps0_2 W main_v17 = subi (W main_v9 : W0) (constantI S_ 32 1#32) := by
  after_reads_simp
theorem at2_c10 : StableHlo.after hostOps0_2 W main_c_10 = constantI S_ 32 32#32 := by
  after_reads_simp
theorem at3 : StableHlo.after hostOps0_3 W main_v18 = rem0 (W main_v17) (W main_c_10) := by
  after_reads_simp
  simp -implicitDefEqProofs only [StableHlo.TRef.toBuf, StableHlo.TRef.ofBuf, cast_cast, cast_eq]
  rfl
theorem at4_v23 : StableHlo.after hostOps0_4 W main_v23 = pick (W main_c) (W main_v18) := by
  after_reads_simp
  refine congrArg (fun f => shapeCast S_ (Host.dynamicSlice S1 (W main_c : IVec S32 32) f sliceFits_S32_S1) shapeCasts_S1_S_) (funext fun k => ?_)
  obtain rfl : k = 0 := Subsingleton.elim _ _
  show BitVec.toInt ((StableHlo.upto hostOps0_4 W 5 main_v21 : W0) _) = _
  after_reads_simp
  rfl
theorem at4_v29 : StableHlo.after hostOps0_4 W main_v29 = addi (broadcastInDim S15 ![] bcast_S_S15 (constantI S_ 32 1#32)) (iotaInDim S15 32 0) := by
  after_reads_simp
theorem at4_v31 : StableHlo.after hostOps0_4 W main_v31 = subi (broadcastInDim S16 ![] bcast_S_S16 (W main_v9 : W0))
    (addi (broadcastInDim S16 ![] bcast_S_S16 (constantI S_ 32 1#32)) (iotaInDim S16 32 0)) := by
  after_reads_simp
theorem at4_c15 : StableHlo.after hostOps0_4 W main_c_15 = constantI S_ 32 32#32 := by
  after_reads_simp
theorem at5 : StableHlo.after hostOps0_5 W main_v32 = remN bcast_S_S16 (W main_v31) (W main_c_15) := by
  after_reads_simp
  simp -implicitDefEqProofs only [StableHlo.TRef.toBuf, StableHlo.TRef.ofBuf, cast_cast, cast_eq]
  rfl
theorem at6_v39 : StableHlo.after hostOps0_6 W main_v39 = Host.gather gather_S32_S16x1_S16_n_0_n_n_0_1_1 (W main_c : IVec S32 32)
    (broadcastInDim S16x1 ![0] bcast_S16_S16x1_0 (wrapN bcast_S_S16 (W main_v32))) := by
  after_reads_simp; rfl
theorem at6_v41 : StableHlo.after hostOps0_6 W main_v41 = addi (broadcastInDim S15 ![] bcast_S_S15 (W main_v9 : W0)) (W main_v29) := by
  after_reads_simp
theorem at6_c18 : StableHlo.after hostOps0_6 W main_c_18 = constantI S_ 32 32#32 := by
  after_reads_simp
theorem at7 : StableHlo.after hostOps0_7 W main_v42 = remN bcast_S_S15 (W main_v41) (W main_c_18) := by
  after_reads_simp
  simp -implicitDefEqProofs only [StableHlo.TRef.toBuf, StableHlo.TRef.ofBuf, cast_cast, cast_eq]
  rfl
theorem at8 : StableHlo.after hostOps0_8 W main_v54 = concatenate S34 0
    [⟨S3, concatenate S3 0 [⟨S1, broadcastInDim S1 ![] bcast_S_S1 (W main_v16 : W0)⟩, ⟨S1, broadcastInDim S1 ![] bcast_S_S1 (W main_v23 : W0)⟩,
        ⟨S1, broadcastInDim S1 ![] bcast_S_S1 (W main_v4 : W0)⟩] concatenates_S1_S1_S1_S3_d0⟩,
      ⟨S16, (W main_v39 : IVec S16 32)⟩,
      ⟨S15, Host.gather gather_S32_S15x1_S15_n_0_n_n_0_1_1 (W main_c : IVec S32 32)
        (broadcastInDim S15x1 ![0] bcast_S15_S15x1_0 (wrapN bcast_S_S15 (W main_v42)))⟩] concatenates_S3_S16_S15_S34_d0 := by
  after_reads_simp; rfl
end

/-! ## The table -/

/-- The table of the device `me` at place `p` on the ring. -/
def tabOf (p me : W0) : IVec S34 32 := concatenate S34 0
    [⟨S3, concatenate S3 0 [⟨S1, broadcastInDim S1 ![] bcast_S_S1 (pick order (rem0 (addi p (constantI S_ 32 1#32)) (constantI S_ 32 32#32)))⟩,
        ⟨S1, broadcastInDim S1 ![] bcast_S_S1 (pick order (rem0 (subi p (constantI S_ 32 1#32)) (constantI S_ 32 32#32)))⟩,
        ⟨S1, broadcastInDim S1 ![] bcast_S_S1 me⟩] concatenates_S1_S1_S1_S3_d0⟩,
      ⟨S16, Host.gather gather_S32_S16x1_S16_n_0_n_n_0_1_1 order (broadcastInDim S16x1 ![0] bcast_S16_S16x1_0 (wrapN bcast_S_S16
        (remN bcast_S_S16 (subi (broadcastInDim S16 ![] bcast_S_S16 p) (addi (broadcastInDim S16 ![] bcast_S_S16 (constantI S_ 32 1#32)) (iotaInDim S16 32 0)))
          (constantI S_ 32 32#32))))⟩,
      ⟨S15, Host.gather gather_S32_S15x1_S15_n_0_n_n_0_1_1 order (broadcastInDim S15x1 ![0] bcast_S15_S15x1_0 (wrapN bcast_S_S15
        (remN bcast_S_S15 (addi (broadcastInDim S15 ![] bcast_S_S15 p) (addi (broadcastInDim S15 ![] bcast_S_S15 (constantI S_ 32 1#32)) (iotaInDim S15 32 0)))
          (constantI S_ 32 32#32))))⟩] concatenates_S3_S16_S15_S34_d0
def tab (c : Dev nD) : S34.Idx → Elt F .i32 := tabOf (pick place (meT c)) (meT c)

variable (m : (ℓ : Loc nD τ sig) → Buf (Elt F) ℓ) (c : Dev nD)

theorem c_at2 : V2 m c main_c = order := (V2_of m c main_c (by decide)).trans (at0_c _ c)
theorem c_at4 : V4 m c main_c = order := (V4_of m c main_c (by decide)).trans ((V3_of m c main_c (by decide)).trans (c_at2 m c))
theorem c_at6 : V6 m c main_c = order := (V6_of m c main_c (by decide)).trans ((V5_of m c main_c (by decide)).trans (c_at4 m c))
theorem c_at8 : V8 m c main_c = order := (V8_of m c main_c (by decide)).trans ((V7_of m c main_c (by decide)).trans (c_at6 m c))
theorem v9_at2 : V2 m c main_v9 = pick place (meT c) := (V2_of m c main_v9 (by decide)).trans (at0_v9 _ c)
theorem v9_at4 : V4 m c main_v9 = pick place (meT c) := (V4_of m c main_v9 (by decide)).trans ((V3_of m c main_v9 (by decide)).trans (v9_at2 m c))
theorem v9_at6 : V6 m c main_v9 = pick place (meT c) := (V6_of m c main_v9 (by decide)).trans ((V5_of m c main_v9 (by decide)).trans (v9_at4 m c))
theorem v4_at8 : V8 m c main_v4 = meT c := by
  rw [V8_of m c main_v4 (by decide), V7_of m c main_v4 (by decide), V6_of m c main_v4 (by decide), V5_of m c main_v4 (by decide),
    V4_of m c main_v4 (by decide), V3_of m c main_v4 (by decide), V2_of m c main_v4 (by decide)]
  exact at0_v4 _ c
theorem v16_at8 : V8 m c main_v16 = pick order (rem0 (addi (pick place (meT c)) (constantI S_ 32 1#32)) (constantI S_ 32 32#32)) := by
  rw [V8_of m c main_v16 (by decide), V7_of m c main_v16 (by decide), V6_of m c main_v16 (by decide), V5_of m c main_v16 (by decide), V4_of m c main_v16 (by decide),
    show V3 m c main_v16 = pick (V2 m c main_c) (V2 m c main_v11) from at2_v16 _, c_at2,
    show V2 m c main_v11 = rem0 (V1 m c main_v10) (V1 m c main_c_6) from at1 _,
    show V1 m c main_v10 = addi (V1 m c main_v9 : W0) (constantI S_ 32 1#32) from at0_v10 _ c,
    show V1 m c main_c_6 = constantI S_ 32 32#32 from at0_c6 _ c, show V1 m c main_v9 = pick place (meT c) from at0_v9 _ c]
theorem v23_at8 : V8 m c main_v23 = pick order (rem0 (subi (pick place (meT c)) (constantI S_ 32 1#32)) (constantI S_ 32 32#32)) := by
  rw [V8_of m c main_v23 (by decide), V7_of m c main_v23 (by decide), V6_of m c main_v23 (by decide),
    show V5 m c main_v23 = pick (V4 m c main_c) (V4 m c main_v18) from at4_v23 _, c_at4,
    show V4 m c main_v18 = rem0 (V3 m c main_v17) (V3 m c main_c_10) from at3 _,
    show V3 m c main_v17 = subi (V2 m c main_v9 : W0) (constantI S_ 32 1#32) from at2_v17 _,
    show V3 m c main_c_10 = constantI S_ 32 32#32 from at2_c10 _, v9_at2]
theorem v39_at8 : V8 m c main_v39 = Host.gather gather_S32_S16x1_S16_n_0_n_n_0_1_1 order (broadcastInDim S16x1 ![0] bcast_S16_S16x1_0 (wrapN bcast_S_S16
    (remN bcast_S_S16 (subi (broadcastInDim S16 ![] bcast_S_S16 (pick place (meT c))) (addi (broadcastInDim S16 ![] bcast_S_S16 (constantI S_ 32 1#32)) (iotaInDim S16 32 0)))
      (constantI S_ 32 32#32)))) := by
  rw [V8_of m c main_v39 (by decide),
    show V7 m c main_v39 = Host.gather gather_S32_S16x1_S16_n_0_n_n_0_1_1 (V6 m c main_c : IVec S32 32)
      (broadcastInDim S16x1 ![0] bcast_S16_S16x1_0 (wrapN bcast_S_S16 (V6 m c main_v32))) from at6_v39 _, c_at6,
    show V6 m c main_v32 = remN bcast_S_S16 (V5 m c main_v31) (V5 m c main_c_15) from at5 _,
    show V5 m c main_v31 = subi (broadcastInDim S16 ![] bcast_S_S16 (V4 m c main_v9 : W0))
      (addi (broadcastInDim S16 ![] bcast_S_S16 (constantI S_ 32 1#32)) (iotaInDim S16 32 0)) from at4_v31 _,
    show V5 m c main_c_15 = constantI S_ 32 32#32 from at4_c15 _, v9_at4]
theorem v42_at8 : V8 m c main_v42 = remN bcast_S_S15 (addi (broadcastInDim S15 ![] bcast_S_S15 (pick place (meT c)))
    (addi (broadcastInDim S15 ![] bcast_S_S15 (constantI S_ 32 1#32)) (iotaInDim S15 32 0))) (constantI S_ 32 32#32) := by
  rw [show V8 m c main_v42 = remN bcast_S_S15 (V7 m c main_v41) (V7 m c main_c_18) from at7 _,
    show V7 m c main_v41 = addi (broadcastInDim S15 ![] bcast_S_S15 (V6 m c main_v9 : W0)) (V6 m c main_v29) from at6_v41 _,
    show V7 m c main_c_18 = constantI S_ 32 32#32 from at6_c18 _, v9_at6, V6_of m c main_v29 (by decide),
    show V5 m c main_v29 = addi (broadcastInDim S15 ![] bcast_S_S15 (constantI S_ 32 1#32)) (iotaInDim S15 32 0) from at4_v29 _]

/-- What the host code leaves for the kernel. -/
theorem tab_eq : V9 m c main_v54 = tab c := by
  refine (at8 (V8 m c)).trans ?_
  rw [v16_at8, v23_at8, v4_at8, v39_at8, c_at8, v42_at8]
  rfl

theorem tab_first : ∀ c : Dev nD, tabOf (pick place (meT c)) (meT c) (ixT 0) = wd (rt c) ∧ tabOf (pick place (meT c)) (meT c) (ixT 1) = wd (lf c) := by
  decide +kernel
theorem tab_right : ∀ c : Dev nD, ∀ h : Fin 17, tabOf (pick place (meT c)) (meT c) (ixT (mT (h.val + 2))) = wd (lf^[h.val] c) := by
  decide +kernel
theorem tab_left : ∀ c : Dev nD, ∀ h : Fin 15, tabOf (pick place (meT c)) (meT c) (ixT (mT (h.val + 1 + 18))) = wd (rt^[h.val + 1] c) := by
  decide +kernel
theorem tab_ok : tabOk (F := F) (tab c) c :=
  ⟨(tab_first c).1, (tab_first c).2, fun h hh => tab_right c ⟨h, by omega⟩, fun h h1 h2 => by
    obtain ⟨k, rfl⟩ : ∃ k, h = k + 1 := ⟨h - 1, by omega⟩
    exact tab_left c ⟨k, by omega⟩⟩

end Cert.Ring
-- ==== Proof.Run.lean ====
/- The run: from any memory with zero counters, every execution of the program terminates, with each device's
   result block in its result array, the arguments as they were and every counter at zero. -/
module

public import proofs.«01_k».proof.Proof.Deal
public import proofs.«01_k».proof.Proof.Table
public import Idealize.ShloMosaic.Lib.Quiescent

@[expose] public section

set_option maxRecDepth 16384

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.Pipeline
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The chunks and weights the devices start with, what their result arrays hold first, and the results. -/
def Xm (c : Dev nD) : S256x8192.Idx → Elt F .f32 := m ((c : Thread nD τ).loc main_arg0)
def wm (c : Dev nD) : S8192x128.Idx → Elt F .f32 := m ((c : Thread nD τ).loc main_arg1)
def om (c : Dev nD) : S8192x128.Idx → Elt F .f32 := m ((c : Thread nD τ).loc main_v55)
def resM (c : Dev nD) : S8192x128.Idx → Elt F .f32 := res (Xm m) (wm m) c

/-- What the arrays hold after the kernel. -/
def VE (c : Dev nD) : Valuation τ sig (Elt F) := Function.update (V9 m c) main_v55 (resM m c)

theorem VE_of (c : Dev nD) (r : Ref sig .tc) (h : r ∉ ([main_v55] : List (Ref sig .tc))) : VE m c r = V9 m c r := by
  simp only [VE, Function.update_of_ne (StableHlo.devRef_ne_of_ne (List.ne_of_not_mem_cons h) : (Proc.devRef .tc r : DevRef τ sig) ≠ Proc.devRef .tc main_v55)]
theorem VE_res (c : Dev nD) : VE m c main_v55 = resM m c := by unfold VE; exact Function.update_self _ _ _

theorem V9_arg0 (c : Dev nD) : V9 m c main_arg0 = Xm m c :=
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem V9_arg1 (c : Dev nD) : V9 m c main_arg1 = wm m c :=
  (V9_of m c main_arg1 (by decide)).trans <| (V8_of m c main_arg1 (by decide)).trans <| (V7_of m c main_arg1 (by decide)).trans <|
  (V6_of m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem V9_v55 (c : Dev nD) : V9 m c main_v55 = om m c :=
  (V9_of m c main_v55 (by decide)).trans <| (V8_of m c main_v55 (by decide)).trans <| (V7_of m c main_v55 (by decide)).trans <|
  (V6_of m c main_v55 (by decide)).trans <| (V5_of m c main_v55 (by decide)).trans <| (V4_of m c main_v55 (by decide)).trans <|
  (V3_of m c main_v55 (by decide)).trans <| (V2_of m c main_v55 (by decide)).trans <| (V1_of m c main_v55 (by decide)).trans rfl

abbrev datM (c : Dev nD) := dat (F := F) (Xm m) (wm m) tab (om m) c
abbrev pdatsM (p : Fin 1) (c : Dev nD) : Dat τ (Elt F) ℕ ℕ UU ℕ (cfgs p) c := pdats (Xm m) (wm m) tab (om m) p c

theorem arr_in (c : Dev nD) (u : Fin cfg0.W) : (datM m c).arrAt u 0 = V9 m c (Proc.devRef .tc (Pipeline.arrRef spec0 u)) := by
  fin_cases u
  · exact (tab_eq m c).symm
  · exact (V9_arg0 m c).symm
  · exact (V9_arg1 m c).symm
  · exact (V9_v55 m c).symm
theorem arr_out (c : Dev nD) (u : Fin cfg0.W) : (datM m c).arrAt u cfg0.N = VE m c (Proc.devRef .tc (Pipeline.arrRef spec0 u)) := by
  fin_cases u
  · exact ((datM m c).arrAt_in (0 : Fin 4) rfl _).trans ((tab_eq m c).symm.trans (VE_of m c main_v54 (by decide)).symm)
  · exact ((datM m c).arrAt_in (1 : Fin 4) rfl _).trans ((V9_arg0 m c).symm.trans (VE_of m c main_arg0 (by decide)).symm)
  · exact ((datM m c).arrAt_in (2 : Fin 4) rfl _).trans ((V9_arg1 m c).symm.trans (VE_of m c main_arg1 (by decide)).symm)
  · exact (end_3 (Xm m) (wm m) tab (om m) c).trans (VE_res m c).symm

abbrev arrs : Finset (DevRef τ sig) := Pipeline.arrRefs (τ := τ) (pcfgs (F := F) 0).spec
/-- The arrays no window of the kernel is on. -/
abbrev others : Finset (DevRef τ sig) := Pipeline.ucRefs τ sig \ arrs (F := F)
theorem arrs_sub : arrs (F := F) ⊆ Pipeline.ucRefs τ sig := Pipeline.arrRefs_sub_ucRefs _ (show ∀ w : Fin 4, (Pipeline.arrRef spec0 w).isScoped = false from by decide)

theorem v55_mem : Proc.devRef .tc main_v55 ∈ arrs (F := F) := Finset.mem_map.mpr ⟨main_v55, Finset.mem_image.mpr ⟨(3 : Fin 4), Finset.mem_univ _, rfl⟩, rfl⟩
theorem rest_eq (c : Dev nD) : ∀ b ∈ others (F := F), VE m c b = V9 m c b := fun b hb =>
  Function.update_of_ne (fun e : b = Proc.devRef .tc main_v55 => (Finset.mem_sdiff.mp hb).2 (by rw [e]; exact v55_mem)) _ _

def regM : Pipeline.RegionSeg (pcfgs (F := F)) adm (pdatsM m) 0 defs₀ 𝒱₀ LV lvl 0 :=
  reg (Xm m) (wm m) tab (om m) tab_ok (V9 m) (VE m) others (rest_eq m) (arr_in m) (arr_out m)

/-- What rides along the host code, and what is left at the end. -/
def E (i : Fin 2) (c : Dev nD) : sProp 𝕄 := match i with
  | 0 => iprop((Tk (Xm m) c ∗ ∃ r, prngReg c r) ∗ ∃ W, owes (c : Thread nD τ) (owed c plan) W)
  | 1 => iprop(semVal (at_ c cBar) 0 ∗ ∃ W, owes (c : Thread nD τ) (0 : CellTallies nD τ sig ℕ) W)

theorem reg_pre (c : Dev nD) : iprop(StableHlo.held (c : Thread nD τ) (Pipeline.ucRefs τ sig) (V9 m c) ∗ E m 0 c) ⊢ (regM m).pre c := by
  show _ ⊢ iprop(StableHlo.held (c.tc : Thread nD τ) (Pipeline.arrRefs (τ := τ) (pcfgs (F := F) 0).spec) (V9 m c) ∗ (∃ r, prngReg c r)
    ∗ (StableHlo.held (c.tc : Thread nD τ) (others (F := F)) (V9 m c) ∗ emp) ∗ Tk (Xm m) c ∗ ∃ Wd, owes (c : Thread nD τ) (0 + owed c plan) Wd)
  rw [StableHlo.held_sub_split (c : Thread nD τ) (arrs_sub (F := F)) (V9 m c), zero_add]
  unfold E
  iintro ⟨⟨HA, HR⟩, ⟨HT, Hp⟩, HO⟩
  isplitl [HA]; · iexact HA
  isplitl [Hp]; · iexact Hp
  isplitl [HR]
  · isplitl [HR]; · iexact HR
    iempintro
  isplitl [HT]; · iexact HT
  iexact HO

theorem reg_post (c : Dev nD) : (regM m).post c ⊢ iprop(StableHlo.held (c : Thread nD τ) (Pipeline.ucRefs τ sig) (VE m c) ∗ E m 1 c) := by
  show iprop(StableHlo.held (c.tc : Thread nD τ) (Pipeline.arrRefs (τ := τ) (pcfgs (F := F) 0).spec) (VE m c) ∗ (∃ r, prngReg c r)
    ∗ (StableHlo.held (c.tc : Thread nD τ) (others (F := F)) (VE m c) ∗ emp) ∗ semVal (at_ c cBar) 0 ∗ ∃ Wd, owes (c : Thread nD τ) (0 : CellTallies nD τ sig ℕ) Wd) ⊢ _
  rw [StableHlo.held_sub_split (c : Thread nD τ) (arrs_sub (F := F)) (VE m c)]
  unfold E
  iintro ⟨HA, -, ⟨HR, -⟩, Hb, HO⟩
  isplitl [HA HR]
  · isplitl [HA] <;> iassumption
  isplitl [Hb]; · iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    (elR, elS))

/-- A resource held by device 0 until it is dealt. -/
def onZero (P : sProp 𝕄) (c : Dev nD) : sProp 𝕄 := if c = 0 then P else iprop(emp)
theorem bigSep_onZero (P : sProp 𝕄) : bigSep Finset.univ (onZero P) = P := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def ghosts : sProp 𝕄 := iprop(BI.own (ER elR) ∗ BI.own (ES elS))

theorem split_u₀ : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ (onZero ghosts)) := by
  rw [bigSep_onZero]
  unfold u₀ ghosts
  iintro Hu
  ihave H := (ownU_pair _ _) $$ Hu
  icases H with ⟨HP, HX⟩
  ihave HX := (own_pair_emb (embR : Emb (URounds (GSem nD τ sig) ℕ × USlots (Dev nD × Fin 5)) 𝕄) elR elS) $$ HX
  imodintro
  isplitl [HP]; · iexact HP
  iexact HX

theorem unscoped_bar (c : Dev nD) : (unscopedSems0 c : sProp 𝕄) = semVal (at_ c cBar) 0 := by
  unfold unscopedSems0
  rw [show (Finset.univ.filter fun sm : SemLoc sig => ¬ sm.isScoped .tc) = {cBar} from by decide, BI.bigSep_singleton]
theorem unscoped_only : ∀ sm : SemLoc sig, sm.isScoped .tc = false → sm = cBar := by decide

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (VE m c) ∗ semVal (at_ c cBar) 0)

/-- What a device gets at launch besides the exchange's own resources. -/
def bundle (c : Dev nD) : sProp 𝕄 :=
  iprop(StableHlo.held (c : Thread nD τ) (Pipeline.ucRefs τ sig) (V0 m c) ∗ bigSepL plan (crd c)
    ∗ owes (c : Thread nD τ) (owed c plan) ∅ ∗ ∃ r, prngReg c r)

theorem T₀_of (c : Dev nD) : iprop(common (Xm m) ∗ (mine c ∗ bundle m c)) ⊢ (T₀ m c : sProp 𝕄) := by
  unfold T₀ bundle E
  iintro ⟨#HX, Hm, Hh, HC, HO, Hp⟩
  isplitl [Hh]; · iexact Hh
  isplitr [HO]
  · isplitl [Hm HC]
    · iapply (mine_Tk (Xm m) c)
      isplitr; · iexact HX
      isplitl [Hm] <;> iassumption
    iexact Hp
  iexists ∅; iexact HO

/-- What the launch gives device `c`. -/
abbrev given (c : Dev nD) : sProp 𝕄 := iprop(unscopedBufs c (fun b => m ((c : Thread nD τ).loc b)) ∗ unscopedSems0 c
  ∗ owes (c : Thread nD τ) (owed c plan) ∅ ∗ Pipeline.launchCred (fun c => owed c plan) c ∗ prngReg c (ρ c) ∗ onZero ghosts c)

theorem given_split (c : Dev nD) : given m ρ c ⊢ (iprop(bundle m c ∗ (semVal (at_ c cBar) 0 ∗ onZero ghosts c)) : sProp 𝕄) := by
  unfold given
  rw [show (unscopedBufs c (fun b => m ((c : Thread nD τ).loc b)) : sProp 𝕄) = StableHlo.held (c : Thread nD τ) (Pipeline.ucRefs τ sig) (V0 m c)
      from Pipeline.unscopedBufs_held (Ix := ℕ) (Name := ℕ) (U := UU) (Lvl := ℕ) c (V0 m c), unscoped_bar, creds plan c]
  unfold bundle
  iintro ⟨Hh, Hus, HO, Hcr, Hp, HG⟩
  isplitl [Hh HO Hcr Hp]
  · isplitl [Hh]; · iexact Hh
    isplitl [Hcr]; · iexact Hcr
    isplitl [HO]; · iexact HO
    iexists (ρ c); iexact Hp
  isplitl [Hus] <;> iassumption

theorem init : iprop((bigSep Finset.univ fun c : Dev nD => given m ρ c) ∗ levAts LV lvl) ⊢ (|={Set.univ}=> bigSep Finset.univ (T₀ m) : sProp 𝕄) := by
  have h1 : (bigSep Finset.univ fun c : Dev nD => given m ρ c)
      ⊢ (iprop((bigSep Finset.univ fun c => bundle m c) ∗ (bigSep Finset.univ fun c : Dev nD => semVal (at_ c cBar) 0) ∗ ghosts) : sProp 𝕄) := by
    refine BIBase.Entails.trans (bigSep_mono fun c _ => given_split m ρ c) (Entails.of_eq ?_)
    rw [bigSep_sep', bigSep_sep']
    rw [show (bigSep Finset.univ fun c : Dev nD => onZero ghosts c : sProp 𝕄) = ghosts from bigSep_onZero _]
  have h2 : iprop(common (Xm m) ∗ (bigSep Finset.univ fun c : Dev nD => iprop(mine c ∗ bundle m c))) ⊢ (bigSep Finset.univ (T₀ m) : sProp 𝕄) :=
    bigSep_with_persistent fun c _ => T₀_of m c
  iintro ⟨H, -⟩
  ihave H := h1 $$ H
  icases H with ⟨HB, Hv, HG⟩
  imod (deal_all (Xm m)) $$ [Hv HG] with ⟨HC, HM⟩
  · unfold ghosts
    icases HG with ⟨HG1, HG2⟩
    isplitl [Hv]; · iexact Hv
    isplitl [HG1] <;> iassumption
  imodintro
  iapply h2
  isplitl [HC]; · iexact HC
  rw [bigSep_sep']
  isplitl [HM] <;> iassumption

/-! ## The run -/

/-- What is read at the end. -/
def QY (c : Dev nD) (s : MemSt nD τ sig (Elt F)) : Prop :=
  (s.mem ((c.tc : Thread nD τ).loc main_v55) = resM m c ∧ s.mem ((c.tc : Thread nD τ).loc main_arg0) = m ((c.tc : Thread nD τ).loc main_arg0)
    ∧ s.mem ((c.tc : Thread nD τ).loc main_arg1) = m ((c.tc : Thread nD τ).loc main_arg1)) ∧ s.sem (at_ c cBar) = 0

theorem fin_read (c : Dev nD) (s' : Phys nD τ sig (Elt F)) : iprop(Tₙ m c ∗ SI s') ⊢ (|={Set.univ}=> iprop(⌜QY m c s'.mem⌝ ∗ SI s') : sProp 𝕄) := by
  unfold Tₙ StableHlo.held
  iintro ⟨⟨Hh, Hb0⟩, HSI⟩
  icombine HSI Hb0 gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h (Proc.devRef .tc main_v55) (Finset.mem_filter.mpr ⟨StableHlo.devRef_mem_tcRefs main_v55, by decide⟩)).trans (VE_res m c),
      (h (Proc.devRef .tc main_arg0) (Finset.mem_filter.mpr ⟨StableHlo.devRef_mem_tcRefs main_arg0, by decide⟩)).trans
        ((VE_of m c main_arg0 (by decide)).trans (V9_arg0 m c)),
      (h (Proc.devRef .tc main_arg1) (Finset.mem_filter.mpr ⟨StableHlo.devRef_mem_tcRefs main_arg1, by decide⟩)).trans
        ((VE_of m c main_arg1 (by decide)).trans (V9_arg1 m c))⟩, by simpa using hb⟩
  · iexact HSI

set_option backward.isDefEq.respectTransparency.types false in
/-- The run of the whole program. -/
theorem run_main : θ_run defs (onTc (τ := τ) (main (F := F))) ⟨m, fun _ => 0, ρ⟩ (fun r => (∀ c : Dev nD,
    r.2.mem ((c.tc : Thread nD τ).loc main_v55) = resM m c ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdatsM m) 0 cellOf_inj EP defs₀ 𝒱₀ LV lvl m ρ main
    (segs m 𝒱₀ LV lvl (E m) 0 (pdatsM m) (regM m))
    (fun c Q => by
      rewrite [main_chain c, Seg.run_eq_chain,
        show (segs m 𝒱₀ LV lvl (E m) 0 (pdatsM m) (regM m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide)
    (fun c => owed c plan) (fun g hg => if_neg hg) (onZero ghosts) u₀ split_u₀
    (T₀ := T₀ m) (Tₙ := Tₙ m)
    (hch := fun c => ⟨.rfl, .rfl, .rfl, .rfl, .rfl, .rfl, .rfl, .rfl, .rfl, reg_pre m c, (reg_post m c).trans ?_⟩)
    (hinit := init m ρ) (QY := QY m) (hfin := fin_read m)
    (hQ := fun s h hs => ⟨fun c => (h c).1, sem_eq_zero hs fun c sm hsm => by
      obtain rfl := unscoped_only sm hsm
      exact (h c).2⟩)
  unfold E Tₙ
  iintro ⟨Hh, Hb, HO⟩
  isplitr [HO]
  · isplitl [Hh] <;> iassumption
  iexact HO

end Cert.Ring
-- ==== Proof.Same.lean ====
module

public import proofs.«01_k».proof.Proof.Gen.Kernel
public import proofs.«01_k».proof.Proof.Gen.KernelIdeal

/-!
  The kernel and its idealization are one text: no rewrite was applied. Here their body tables and their
  @mains are equal, so that one run serves both.
-/

@[expose] public section

-- two programs of some 6000 lines each are compared line by line
set_option maxRecDepth 100000
set_option maxHeartbeats 8000000

noncomputable section

namespace Cert.Same

open Idealize.ShloMosaic Idealize.SL.Sem

variable {F : FTy → Type} [FloatOps F]

/-- The kernel's body is the idealized kernel's. -/
theorem body_eq : Cert.Kernel.cc0_body (F := F) = Cert.KernelIdeal.cc0_body (F := F) := rfl

/-- The body tables agree. -/
theorem bodies_eq : Cert.Kernel.defs₀ (F := F) = Cert.KernelIdeal.defs₀ (F := F) := by
  unfold Cert.Kernel.defs₀ Cert.KernelIdeal.defs₀
  congr 1
  funext l a
  match l, a with
  | 0, (t, s) => rfl

/-- The tables with the call's region and pipeline agree. -/
theorem defs_eq : Cert.Kernel.defs (F := F) = Cert.KernelIdeal.defs (F := F) :=
  congrArg (Pipeline.defs (Cert.KernelIdeal.pcfgs (F := F))) bodies_eq

/-- The first 60 statements of @main agree. -/
theorem head_eq : Cert.Kernel.main_part0 (F := F) = Cert.KernelIdeal.main_part0 (F := F) := rfl

/-- The others do too. -/
theorem tail_eq : Cert.Kernel.main_part1 (F := F) = Cert.KernelIdeal.main_part1 (F := F) := rfl

/-- The two @mains agree. -/
theorem main_eq : Cert.Kernel.main (F := F) = Cert.KernelIdeal.main (F := F) :=
  funext fun d => congrArg₂
    (fun a b : Prog (TpuEff Cert.KernelIdeal.nD Cert.KernelIdeal.τ Cert.KernelIdeal.sig (Elt F)
      (Pipeline.Sig Cert.KernelIdeal.Λ₀ (Fin 1) fun p => (Cert.KernelIdeal.pcfgs (F := F) p).Adm) .tc) PUnit => a >>= fun _ => b)
    (congrFun head_eq d) (congrFun tail_eq d)

end Cert.Same

end
-- ==== Proof.Frames.lean ====
module

public import proofs.«01_k».proof.Proof.Run
public import proofs.«01_k».proof.Proof.Same
public import proofs.«01_k».proof.Proof.Gen.ReferenceIdeal.Run
public import proofs.«01_k».proof.Defs

/-!
  The frame claims: every run ends, with the arguments as they were and every semaphore counter at zero.
-/

@[expose] public section

noncomputable section

namespace Cert.Frames

open Idealize.ShloMosaic Idealize.SL.Sem

/-- A claim about one table and one @main is the claim about an equal table and an equal @main. -/
theorem of_same {nD : ℕ} {τ : Topo} {sig : RefSig} {V : EltTy → Type} {Λ : Labels} {D D' : Defs nD τ sig V Λ}
    {M M' : Dev nD → Prog (TpuEff nD τ sig V Λ .tc) PUnit} (hD : D = D') (hM : M = M') {s : MemSt nD τ sig V}
    {Q : _ → Prop} (h : θ_run D' (onTc M') s Q) : θ_run D (onTc M) s Q := by
  subst hD hM; exact h

/-- The idealized kernel ends with its arguments as they were and every counter at zero. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The kernel itself does too: its text is the idealized kernel's, and the run is over any float values. -/
theorem frame_kernel : Cert.quiescent_Kernel := fun m ρ _ =>
  of_same Cert.Same.defs_eq Cert.Same.main_eq
    ((θ_run Cert.KernelIdeal.defs _ _).mono (fun _ h => ⟨fun c => (h.1 c).2, h.2⟩) (Cert.Ring.run_main (F := Bits) m ρ))

/-- The reference does too; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Value.lean ====
module

public import proofs.«01_k».proof.Proof.Mem
public import proofs.«01_k».proof.Proof.Gen.ReferenceIdeal
public import Idealize.ShloMosaic.Lib.KernelVsHost
public import Idealize.ShloMosaic.Lib.StackMember
public import Idealize.ShloMosaic.Lib.Layout

/-!
  Over the reals: each entry of the kernel's result is the activation of a row of `x` times a column of the
  weights, and so is each entry of the reference's.
-/

@[expose] public section

noncomputable section

namespace Cert.Value

open Idealize.ShloMosaic Idealize.ShloMosaic.StackMember

/-- The activation, as the kernel writes it. -/
def act (y : EReal) : EReal :=
  Ideal.ofBits .f32 0x3F000000#32 * y * (Ideal.ofBits .f32 0x3F800000#32 + Ideal.tanh (Ideal.ofBits .f32 0x3F4C422A#32 *
    (y + Ideal.ofBits .f32 0x3D372713#32 * y * y * y)))

/-- The reference cubes first and scales then. -/
theorem act_cubed (y : EReal) :
    Ideal.ofBits .f32 0x3F000000#32 * y * (Ideal.ofBits .f32 0x3F800000#32 + Ideal.tanh (Ideal.ofBits .f32 0x3F4C422A#32 *
      (y + Ideal.ofBits .f32 0x3D372713#32 * (y * y * y)))) = act y := by
  unfold act
  rw [mul_assoc (Ideal.ofBits .f32 0x3D372713#32 * y), mul_assoc (Ideal.ofBits .f32 0x3D372713#32), ← mul_assoc y y y]

/-! ## The kernel's products -/

section Kernel
open Cert.KernelIdeal Cert.KernelIdeal.Gen Cert.Ring

/-- An entry of a whole chunk's product. -/
theorem gem_entry (a : FVec Ideal S256x8192 .f32) (w : FVec Ideal S8192x128 .f32) (r : Fin 256) (n : Fin 128) :
    gem a w (ValueIdx.ix2 r n) = act (∑ k : Fin 8192, a (ValueIdx.ix2 r k) * w (ValueIdx.ix2 k n)) := by
  have e : matmul dot_S256x8192_S8192x128_S256x128_1_0_0_1_n_n none a w (constant S256x128 .f32 0x00000000#32) (ValueIdx.ix2 r n)
      = ∑ k : Fin 8192, a (ValueIdx.ix2 r k) * w (ValueIdx.ix2 k n) :=
    (congrFun (matmul_zero_eq_dotGeneral _ none a w) _).trans (dotGeneral_plain_apply none a w r n)
  rw [← e]
  unfold gem k0_pay1 act
  simp only [shapeCast_self]
  generalize matmul dot_S256x8192_S8192x128_S256x128_1_0_0_1_n_n none a w (constant S256x128 .f32 0x00000000#32) = P
  rfl

/-- An entry of half a chunk's. -/
theorem gemH_entry (a : FVec Ideal S128x8192 .f32) (w : FVec Ideal S8192x128 .f32) (r : Fin 128) (n : Fin 128) :
    gemH a w (ValueIdx.ix2 r n) = act (∑ k : Fin 8192, a (ValueIdx.ix2 r k) * w (ValueIdx.ix2 k n)) := by
  have e : matmul dot_S128x8192_S8192x128_S128x128_1_0_0_1_n_n none a w (constant S128x128 .f32 0x00000000#32) (ValueIdx.ix2 r n)
      = ∑ k : Fin 8192, a (ValueIdx.ix2 r k) * w (ValueIdx.ix2 k n) :=
    (congrFun (matmul_zero_eq_dotGeneral _ none a w) _).trans (dotGeneral_plain_apply none a w r n)
  rw [← e]
  unfold gemH k0_pay58 act
  simp only [shapeCast_self, shapeCast_shapeCast]
  generalize matmul dot_S128x8192_S8192x128_S128x128_1_0_0_1_n_n none a w (constant S128x128 .f32 0x00000000#32) = P
  rfl

/-- An index by its row and column is the pair of them. -/
theorem pair_eq {N : ℕ} (r : Fin N) (n : Fin 128) : Cert.Ring.ix2 r n = ValueIdx.ix2 r n :=
  funext fun a => match a with | ⟨0, _⟩ => rfl | ⟨1, _⟩ => rfl

/-- Row `r` of the upper half is row `r` of the chunk. -/
theorem top_row {α : Type} (A : S256x8192.Idx → α) (r : Fin 128) (k : Fin 8192) (s : Fin 256) (h : s.val = r.val) :
    top A (ValueIdx.ix2 r k) = A (ValueIdx.ix2 s k) :=
  congrArg A (funext fun a => match a with | ⟨0, _⟩ => Fin.ext h.symm | ⟨1, _⟩ => rfl)
/-- Row `r` of the lower half is row `128 + r` of the chunk. -/
theorem bot_row {α : Type} (A : S256x8192.Idx → α) (r : Fin 128) (k : Fin 8192) (s : Fin 256) (h : s.val = 128 + r.val) :
    bot A (ValueIdx.ix2 r k) = A (ValueIdx.ix2 s k) :=
  congrArg A (funext fun a => match a with | ⟨0, _⟩ => Fin.ext h.symm | ⟨1, _⟩ => rfl)

/-- The device and the row of its chunk that row `r` of the result multiplies. -/
def owner (r : Fin 8192) : Dev nD := ⟨r.val / 256, by have := r.isLt; show _ < 32; omega⟩
def row (r : Fin 8192) : Fin 256 := ⟨r.val % 256, Nat.mod_lt _ (by decide)⟩

/-- Every entry of the result, whether its chunk came whole or in halves. -/
theorem G_entry (X : Dev nD → FVec Ideal S256x8192 .f32) (w : FVec Ideal S8192x128 .f32) (z : Dev nD) (r : Fin 8192) (n : Fin 128) :
    G (F := Ideal) X w z (ValueIdx.ix2 r n) = act (∑ k : Fin 8192, X (owner r) (ValueIdx.ix2 (row r) k) * w (ValueIdx.ix2 k n)) := by
  unfold G
  by_cases hz : org (ValueIdx.ix2 r n) = z
  · rw [if_pos hz]
    by_cases h : r.val % 256 < 128
    · refine (dif_pos h).trans ?_
      refine (congrArg (gemH (top (X (owner r))) w) (pair_eq ⟨r.val % 256, h⟩ n)).trans ((gemH_entry _ _ _ _).trans ?_)
      exact congrArg act (Finset.sum_congr rfl fun k _ => by rw [top_row _ _ _ (row r) rfl])
    · refine (dif_neg h).trans ?_
      refine (congrArg (gemH (bot (X (owner r))) w) (pair_eq ⟨r.val % 256 - 128, by omega⟩ n)).trans ((gemH_entry _ _ _ _).trans ?_)
      exact congrArg act (Finset.sum_congr rfl fun k _ => by
        rw [bot_row _ _ _ (row r) (by show r.val % 256 = 128 + (r.val % 256 - 128); omega)])
  · rw [if_neg hz]
    exact (congrArg (gem (X (owner r)) w) (pair_eq (row r) n)).trans (gem_entry _ _ _ _)

end Kernel

/-! ## The reference's -/

section Reference
open Cert.ReferenceIdeal Cert.ReferenceIdeal.Gen

/-- The reference's product. -/
def prod (x : FVec Ideal S8192x8192 .f32) (w : FVec Ideal S8192x4096 .f32) : FVec Ideal S8192x4096 .f32 :=
  Host.dotGeneral dot_S8192x8192_S8192x4096_S8192x4096_1_0_0_1_n_n none x w

/-- A number laid over the whole result. -/
def all (b : BitVec 32) : FVec Ideal S8192x4096 .f32 := broadcastInDim S8192x4096 ![] bcast_S_S8192x4096 (constant S_ .f32 b)

/-- The reference's result. -/
def want (x : FVec Ideal S8192x8192 .f32) (w : FVec Ideal S8192x4096 .f32) : FVec Ideal S8192x4096 .f32 :=
  mulf (mulf (all 0x3F000000#32) (prod x w)) (addf (all 0x3F800000#32) (Host.tanh (mulf (all 0x3F4C422A#32)
    (addf (prod x w) (mulf (all 0x3D372713#32) (mulf (mulf (prod x w) (prod x w)) (prod x w)))))))

/-- Every entry of it. -/
theorem want_entry (x : FVec Ideal S8192x8192 .f32) (w : FVec Ideal S8192x4096 .f32) (r : Fin 8192) (n : Fin 4096) :
    want x w (ValueIdx.ix2 r n) = act (∑ k : Fin 8192, x (ValueIdx.ix2 r k) * w (ValueIdx.ix2 k n)) := by
  have e : prod x w (ValueIdx.ix2 r n) = ∑ k : Fin 8192, x (ValueIdx.ix2 r k) * w (ValueIdx.ix2 k n) :=
    dotGeneral_plain_apply none x w r n
  rw [← e, ← act_cubed]
  unfold want
  generalize prod x w = P
  rfl

end Reference

/-! ## The equation -/

open Cert.KernelIdeal Cert.Ring in
/-- Where each device holds its rows of `x` and its columns of the weights, its result is its columns of the
    reference's. -/
theorem G_eq (x : FVec Ideal ⟨2, ![8192, 8192]⟩ .f32) (w : FVec Ideal ⟨2, ![8192, 4096]⟩ .f32)
    (X : Dev nD → FVec Ideal S256x8192 .f32) (W : FVec Ideal S8192x128 .f32) (z c : Dev nD)
    (hX : ∀ d : Dev nD, X d = Layout.block ⟨2, ![256, 8192]⟩ ⟨2, ![8192, 8192]⟩ 0 32 d x)
    (hW : W = Layout.block ⟨2, ![8192, 128]⟩ ⟨2, ![8192, 4096]⟩ 1 32 c w) :
    G (F := Ideal) X W z = Layout.block ⟨2, ![8192, 128]⟩ ⟨2, ![8192, 4096]⟩ 1 32 c (want x w) := by
  funext i
  obtain ⟨r, n, rfl⟩ : ∃ (r : Fin 8192) (n : Fin 128), i = ValueIdx.ix2 r n := ⟨i 0, i 1, ValueIdx.eq_ix2 i⟩
  rw [G_entry, hX, hW]
  refine Eq.trans ?_ (congrArg (want x w) (show ValueIdx.ix2 r (⟨c.val * 128 + n.val, by have := c.isLt; have := n.isLt; show _ < 4096; change c.val < 32 at *; omega⟩ : Fin 4096) = _ from
    funext fun a => match a with | ⟨0, _⟩ => rfl | ⟨1, _⟩ => rfl))
  rw [want_entry]
  refine congrArg act (Finset.sum_congr rfl fun k _ => congrArg₂ (· * ·) (congrArg x ?_) (congrArg w ?_))
  · refine funext fun a => match a with | ⟨0, _⟩ => Fin.ext ?_ | ⟨1, _⟩ => rfl
    show r.val / 256 * 256 + r.val % 256 = r.val
    exact Nat.div_add_mod' _ _
  · exact funext fun a => match a with | ⟨0, _⟩ => rfl | ⟨1, _⟩ => rfl

end Cert.Value

end
-- ==== Proof.Equal.lean ====
module

public import proofs.«01_k».proof.Proof.Run
public import proofs.«01_k».proof.Proof.Value
public import proofs.«01_k».proof.Proof.Gen.ReferenceIdeal.Run
public import proofs.«01_k».proof.Defs

/-!
  The value claim: over the reals the kernel's result, device by device, is the reference's.
-/

@[expose] public section

noncomputable section

namespace Cert.Equal

open Idealize.ShloMosaic Idealize.ShloMosaic.TcCoe Idealize.SL.Sem

/-- Where the devices hold their parts of the arguments, both programs run, and each device ends with its columns
    of the result that the reference ends with. -/
theorem algebraic : Cert.algebraic_KernelIdeal_ReferenceIdeal := by
  intro m g m' g' _ hag
  refine ⟨Cert.Value.want (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans
      (Cert.Value.G_eq _ _ (Cert.Ring.Xm m) (Cert.Ring.wm m c) (Cert.Ring.far c) c (fun d => (hag d).1) (hag c).2), (h.1 c).2⟩)
      (Cert.Ring.run_main (F := Ideal) m g)
  · exact (θ_run Cert.ReferenceIdeal.defs _ _).mono (fun _ h => h 0) (Cert.ReferenceIdeal.Value.run (F := Ideal) m' g')

end Cert.Equal

end
-- ==== Proof.lean ====
/-
  The proof of the claims: the frames of the kernel, of its idealization and of the reference (`Frames`), and over the
  reals the equation of the kernel's result, device by device, with the reference's (`Equal`).
-/
module

public import proofs.«01_k».proof.Proof.Frames
public import proofs.«01_k».proof.Proof.Equal

@[expose] public section

noncomputable section

namespace Cert.Proof

/-- Every claim of the certificate. -/
theorem claim : Cert.Claim := ⟨Cert.Kernel.Gen.facts, Cert.KernelIdeal.Gen.facts, Cert.ReferenceIdeal.Gen.facts,
  Cert.Frames.frame_kernel, Cert.Frames.frame_ideal, Cert.Frames.frame_reference, trivial, Cert.Equal.algebraic⟩

end Cert.Proof

end
